-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S16 : Shape := ⟨1, ![16]⟩
abbrev S_ : Shape := ⟨0, ![]⟩
abbrev S1 : Shape := ⟨1, ![1]⟩
abbrev S3 : Shape := ⟨1, ![3]⟩
abbrev S8x15x16x1024 : Shape := ⟨4, ![8, 15, 16, 1024]⟩
abbrev S8x15 : Shape := ⟨2, ![8, 15]⟩
abbrev S8x2 : Shape := ⟨2, ![8, 2]⟩
abbrev S1x1 : Shape := ⟨2, ![1, 1]⟩
abbrev S1x1x16x1024 : Shape := ⟨4, ![1, 1, 16, 1024]⟩
abbrev S16x1024 : Shape := ⟨2, ![16, 1024]⟩

abbrev nBuf : Space → Nat
  | .hbm => 75
  | .vmem => 3
  | .smem => 1
  | _ => 0

abbrev bufTy : (tb : Table) → Fin (tcTables nBuf tb) → BufTy
  | .hbm, ⟨0, _⟩ => ⟨S2048x1024, .f32⟩
  | .hbm, ⟨1, _⟩ => ⟨S16, .i32⟩
  | .hbm, ⟨2, _⟩ => ⟨S16, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i1⟩
  | .hbm, ⟨31, _⟩ => ⟨S_, .i1⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i1⟩
  | .hbm, ⟨59, _⟩ => ⟨S_, .i1⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1, .i32⟩
  | .hbm, ⟨69, _⟩ => ⟨S_, .i32⟩
  | .hbm, ⟨70, _⟩ => ⟨S1, .i32⟩
  | .hbm, ⟨71, _⟩ => ⟨S1, .i32⟩
  | .hbm, ⟨72, _⟩ => ⟨S1, .i32⟩
  | .hbm, ⟨73, _⟩ => ⟨S3, .i32⟩
  | .hbm, ⟨74, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S8x15x16x1024, .f32⟩
  | .local _ .smem, ⟨0, _⟩ => ⟨S3, .i32⟩
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 139 → Bool
  | ⟨i, _⟩ => dmaSemScopedAt i

abbrev sig : RefSig :=
  (ofTc nBuf bufTy 1 139 bufScoped semScoped dmaSemScoped tileCredit tileCredit_eq_zero tileCredit_pos).withBarriers [(0, 0)]

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_3 : Ref sig .tc := ⟨.hbm, 9, rfl⟩
abbrev main_v5 : Ref sig .tc := ⟨.hbm, 10, rfl⟩
abbrev main_c_4 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_5 : Ref sig .tc := ⟨.hbm, 16, rfl⟩
abbrev main_v10 : Ref sig .tc := ⟨.hbm, 17, rfl⟩
abbrev main_c_6 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_c_1 : Ref sig .tc := ⟨.hbm, 25, rfl⟩
abbrev main_call0_v4 : Ref sig .tc := ⟨.hbm, 26, rfl⟩
abbrev main_call0_c_2 : Ref sig .tc := ⟨.hbm, 27, rfl⟩
abbrev main_call0_v5 : Ref sig .tc := ⟨.hbm, 28, rfl⟩
abbrev main_call0_c_3 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_v11 : Ref sig .tc := ⟨.hbm, 34, rfl⟩
abbrev main_c_7 : Ref sig .tc := ⟨.hbm, 35, rfl⟩
abbrev main_v12 : Ref sig .tc := ⟨.hbm, 36, rfl⟩
abbrev main_c_8 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_9 : Ref sig .tc := ⟨.hbm, 42, rfl⟩
abbrev main_v17 : Ref sig .tc := ⟨.hbm, 43, rfl⟩
abbrev main_c_10 : Ref sig .tc := ⟨.hbm, 44, rfl⟩
abbrev main_v18 : Ref sig .tc := ⟨.hbm, 45, rfl⟩
abbrev main_c_11 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_c_1 : Ref sig .tc := ⟨.hbm, 53, rfl⟩
abbrev main_call1_v4 : Ref sig .tc := ⟨.hbm, 54, rfl⟩
abbrev main_call1_c_2 : Ref sig .tc := ⟨.hbm, 55, rfl⟩
abbrev main_call1_v5 : Ref sig .tc := ⟨.hbm, 56, rfl⟩
abbrev main_call1_c_3 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_v19 : Ref sig .tc := ⟨.hbm, 62, rfl⟩
abbrev main_c_12 : Ref sig .tc := ⟨.hbm, 63, rfl⟩
abbrev main_v20 : Ref sig .tc := ⟨.hbm, 64, rfl⟩
abbrev main_c_13 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (v2 : BitVec 32) : Nat :=
  let c0_i32 : BitVec 32 := 0#32
  let c1_i32_0 : BitVec 32 := 1#32
  let v4 : BitVec 32 := Scalar.muli v2 c1_i32_0
  let v5 : BitVec 32 := Scalar.addi c0_i32 v4
  v5.toNat

def k0_dev2 (v1 : BitVec 32) : Nat :=
  let c0_i32_3 : BitVec 32 := 0#32
  let c1_i32_2 : BitVec 32 := 1#32
  let v6 : BitVec 32 := Scalar.muli v1 c1_i32_2
  let v7 : BitVec 32 := Scalar.addi c0_i32_3 v6
  v7.toNat

def k0_off1 (v0 : BitVec 32) (c0_i32_11 : BitVec 32) (c16_i32 : BitVec 32) : Fin 2 → Nat :=
  let v8 : BitVec 32 := Scalar.addi v0 c16_i32
  let c16_i32_4 : BitVec 32 := 16#32
  let c0_i32_5 : BitVec 32 := 0#32
  let v9 : BitVec 1 := Scalar.cmpi .eq c16_i32_4 c0_i32_5
  let c1_i32_6 : BitVec 32 := 1#32
  let v10 : BitVec 32 := Scalar.select v9 c1_i32_6 c16_i32_4
  let v11 : BitVec 32 := Scalar.remsi v8 v10
  let c0_i32_8 : BitVec 32 := 0#32
  let v13 : BitVec 1 := Scalar.cmpi .slt v11 c0_i32_8
  let c0_i32_9 : BitVec 32 := 0#32
  let v14 : BitVec 1 := Scalar.cmpi .slt v10 c0_i32_9
  let v15 : BitVec 1 := Scalar.xori v13 v14
  let c0_i32_7 : BitVec 32 := 0#32
  let v12 : BitVec 1 := Scalar.cmpi .ne v11 c0_i32_7
  let v16 : BitVec 1 := Scalar.andi v15 v12
  let v17 : BitVec 32 := Scalar.addi v11 v10
  let v18 : BitVec 32 := Scalar.select v16 v17 v11
  let c16_i32_10 : BitVec 32 := 16#32
  let v19 : BitVec 32 := Scalar.muli v18 c16_i32_10
  let v20 : BitVec 32 := Scalar.addi c0_i32_11 v19
  let c0_i32_22 : BitVec 32 := 0#32
  ![v20.toNat, 0]
def k0_off1_at (r : Fin 184) : BitVec 32 × BitVec 32 :=
  if r.val < 92 then
    if r.val < 46 then
      if r.val < 23 then
        if r.val < 11 then
          if r.val < 5 then
            if r.val < 2 then
              if r.val < 1 then
                (0#32, 16#32)
              else
                (256#32, 16#32)
            else
              if r.val < 3 then
                (512#32, 16#32)
              else
                if r.val < 4 then
                  (768#32, 16#32)
                else
                  (1024#32, 0#32)
          else
            if r.val < 8 then
              if r.val < 6 then
                (1280#32, 0#32)
              else
                if r.val < 7 then
                  (1536#32, 0#32)
                else
                  (1792#32, 0#32)
            else
              if r.val < 9 then
                (0#32, 15#32)
              else
                if r.val < 10 then
                  (256#32, 15#32)
                else
                  (512#32, 15#32)
        else
          if r.val < 17 then
            if r.val < 14 then
              if r.val < 12 then
                (768#32, 15#32)
              else
                if r.val < 13 then
                  (1024#32, 1#32)
                else
                  (1280#32, 1#32)
            else
              if r.val < 15 then
                (1536#32, 1#32)
              else
                if r.val < 16 then
                  (1792#32, 1#32)
                else
                  (0#32, 14#32)
          else
            if r.val < 20 then
              if r.val < 18 then
                (256#32, 14#32)
              else
                if r.val < 19 then
                  (512#32, 14#32)
                else
                  (768#32, 14#32)
            else
              if r.val < 21 then
                (1024#32, 2#32)
              else
                if r.val < 22 then
                  (1280#32, 2#32)
                else
                  (1536#32, 2#32)
      else
        if r.val < 34 then
          if r.val < 28 then
            if r.val < 25 then
              if r.val < 24 then
                (1792#32, 2#32)
              else
                (0#32, 13#32)
            else
              if r.val < 26 then
                (256#32, 13#32)
              else
                if r.val < 27 then
                  (512#32, 13#32)
                else
                  (768#32, 13#32)
          else
            if r.val < 31 then
              if r.val < 29 then
                (1024#32, 3#32)
              else
                if r.val < 30 then
                  (1280#32, 3#32)
                else
                  (1536#32, 3#32)
            else
              if r.val < 32 then
                (1792#32, 3#32)
              else
                if r.val < 33 then
                  (0#32, 12#32)
                else
                  (256#32, 12#32)
        else
          if r.val < 40 then
            if r.val < 37 then
              if r.val < 35 then
                (512#32, 12#32)
              else
                if r.val < 36 then
                  (768#32, 12#32)
                else
                  (1024#32, 4#32)
            else
              if r.val < 38 then
                (1280#32, 4#32)
              else
                if r.val < 39 then
                  (1536#32, 4#32)
                else
                  (1792#32, 4#32)
          else
            if r.val < 43 then
              if r.val < 41 then
                (0#32, 11#32)
              else
                if r.val < 42 then
                  (256#32, 11#32)
                else
                  (512#32, 11#32)
            else
              if r.val < 44 then
                (768#32, 11#32)
              else
                if r.val < 45 then
                  (1024#32, 5#32)
                else
                  (1280#32, 5#32)
    else
      if r.val < 69 then
        if r.val < 57 then
          if r.val < 51 then
            if r.val < 48 then
              if r.val < 47 then
                (1536#32, 5#32)
              else
                (1792#32, 5#32)
            else
              if r.val < 49 then
                (0#32, 10#32)
              else
                if r.val < 50 then
                  (256#32, 10#32)
                else
                  (512#32, 10#32)
          else
            if r.val < 54 then
              if r.val < 52 then
                (768#32, 10#32)
              else
                if r.val < 53 then
                  (1024#32, 6#32)
                else
                  (1280#32, 6#32)
            else
              if r.val < 55 then
                (1536#32, 6#32)
              else
                if r.val < 56 then
                  (1792#32, 6#32)
                else
                  (0#32, 9#32)
        else
          if r.val < 63 then
            if r.val < 60 then
              if r.val < 58 then
                (256#32, 9#32)
              else
                if r.val < 59 then
                  (512#32, 9#32)
                else
                  (768#32, 9#32)
            else
              if r.val < 61 then
                (1024#32, 7#32)
              else
                if r.val < 62 then
                  (1280#32, 7#32)
                else
                  (1536#32, 7#32)
          else
            if r.val < 66 then
              if r.val < 64 then
                (1792#32, 7#32)
              else
                if r.val < 65 then
                  (0#32, 8#32)
                else
                  (256#32, 8#32)
            else
              if r.val < 67 then
                (512#32, 8#32)
              else
                if r.val < 68 then
                  (768#32, 8#32)
                else
                  (1024#32, 8#32)
      else
        if r.val < 80 then
          if r.val < 74 then
            if r.val < 71 then
              if r.val < 70 then
                (1280#32, 8#32)
              else
                (1536#32, 8#32)
            else
              if r.val < 72 then
                (1792#32, 8#32)
              else
                if r.val < 73 then
                  (0#32, 7#32)
                else
                  (256#32, 7#32)
          else
            if r.val < 77 then
              if r.val < 75 then
                (512#32, 7#32)
              else
                if r.val < 76 then
                  (768#32, 7#32)
                else
                  (1024#32, 9#32)
            else
              if r.val < 78 then
                (1280#32, 9#32)
              else
                if r.val < 79 then
                  (1536#32, 9#32)
                else
                  (1792#32, 9#32)
        else
          if r.val < 86 then
            if r.val < 83 then
              if r.val < 81 then
                (0#32, 6#32)
              else
                if r.val < 82 then
                  (256#32, 6#32)
                else
                  (512#32, 6#32)
            else
              if r.val < 84 then
                (768#32, 6#32)
              else
                if r.val < 85 then
                  (1024#32, 10#32)
                else
                  (1280#32, 10#32)
          else
            if r.val < 89 then
              if r.val < 87 then
                (1536#32, 10#32)
              else
                if r.val < 88 then
                  (1792#32, 10#32)
                else
                  (0#32, 5#32)
            else
              if r.val < 90 then
                (256#32, 5#32)
              else
                if r.val < 91 then
                  (512#32, 5#32)
                else
                  (768#32, 5#32)
  else
    if r.val < 138 then
      if r.val < 115 then
        if r.val < 103 then
          if r.val < 97 then
            if r.val < 94 then
              if r.val < 93 then
                (1024#32, 11#32)
              else
                (1280#32, 11#32)
            else
              if r.val < 95 then
                (1536#32, 11#32)
              else
                if r.val < 96 then
                  (1792#32, 11#32)
                else
                  (0#32, 4#32)
          else
            if r.val < 100 then
              if r.val < 98 then
                (256#32, 4#32)
              else
                if r.val < 99 then
                  (512#32, 4#32)
                else
                  (768#32, 4#32)
            else
              if r.val < 101 then
                (1024#32, 12#32)
              else
                if r.val < 102 then
                  (1280#32, 12#32)
                else
                  (1536#32, 12#32)
        else
          if r.val < 109 then
            if r.val < 106 then
              if r.val < 104 then
                (1792#32, 12#32)
              else
                if r.val < 105 then
                  (0#32, 3#32)
                else
                  (256#32, 3#32)
            else
              if r.val < 107 then
                (512#32, 3#32)
              else
                if r.val < 108 then
                  (768#32, 3#32)
                else
                  (1024#32, 13#32)
          else
            if r.val < 112 then
              if r.val < 110 then
                (1280#32, 13#32)
              else
                if r.val < 111 then
                  (1536#32, 13#32)
                else
                  (1792#32, 13#32)
            else
              if r.val < 113 then
                (0#32, 2#32)
              else
                if r.val < 114 then
                  (256#32, 2#32)
                else
                  (512#32, 2#32)
      else
        if r.val < 126 then
          if r.val < 120 then
            if r.val < 117 then
              if r.val < 116 then
                (768#32, 2#32)
              else
                (1024#32, 14#32)
            else
              if r.val < 118 then
                (1280#32, 14#32)
              else
                if r.val < 119 then
                  (1536#32, 14#32)
                else
                  (1792#32, 14#32)
          else
            if r.val < 123 then
              if r.val < 121 then
                (0#32, 17#32)
              else
                if r.val < 122 then
                  (256#32, 17#32)
                else
                  (512#32, 17#32)
            else
              if r.val < 124 then
                (768#32, 17#32)
              else
                if r.val < 125 then
                  (1024#32, 15#32)
                else
                  (1280#32, 15#32)
        else
          if r.val < 132 then
            if r.val < 129 then
              if r.val < 127 then
                (1536#32, 15#32)
              else
                if r.val < 128 then
                  (1792#32, 15#32)
                else
                  (1024#32, 16#32)
            else
              if r.val < 130 then
                (1280#32, 16#32)
              else
                if r.val < 131 then
                  (1536#32, 16#32)
                else
                  (1792#32, 16#32)
          else
            if r.val < 135 then
              if r.val < 133 then
                (1024#32, 17#32)
              else
                if r.val < 134 then
                  (1280#32, 17#32)
                else
                  (1536#32, 17#32)
            else
              if r.val < 136 then
                (1792#32, 17#32)
              else
                if r.val < 137 then
                  (1024#32, 18#32)
                else
                  (1280#32, 18#32)
    else
      if r.val < 161 then
        if r.val < 149 then
          if r.val < 143 then
            if r.val < 140 then
              if r.val < 139 then
                (1536#32, 18#32)
              else
                (1792#32, 18#32)
            else
              if r.val < 141 then
                (1024#32, 19#32)
              else
                if r.val < 142 then
                  (1280#32, 19#32)
                else
                  (1536#32, 19#32)
          else
            if r.val < 146 then
              if r.val < 144 then
                (1792#32, 19#32)
              else
                if r.val < 145 then
                  (1024#32, 20#32)
                else
                  (1280#32, 20#32)
            else
              if r.val < 147 then
                (1536#32, 20#32)
              else
                if r.val < 148 then
                  (1792#32, 20#32)
                else
                  (1024#32, 21#32)
        else
          if r.val < 155 then
            if r.val < 152 then
              if r.val < 150 then
                (1280#32, 21#32)
              else
                if r.val < 151 then
                  (1536#32, 21#32)
                else
                  (1792#32, 21#32)
            else
              if r.val < 153 then
                (1024#32, 22#32)
              else
                if r.val < 154 then
                  (1280#32, 22#32)
                else
                  (1536#32, 22#32)
          else
            if r.val < 158 then
              if r.val < 156 then
                (1792#32, 22#32)
              else
                if r.val < 157 then
                  (1024#32, 23#32)
                else
                  (1280#32, 23#32)
            else
              if r.val < 159 then
                (1536#32, 23#32)
              else
                if r.val < 160 then
                  (1792#32, 23#32)
                else
                  (1024#32, 24#32)
      else
        if r.val < 172 then
          if r.val < 166 then
            if r.val < 163 then
              if r.val < 162 then
                (1280#32, 24#32)
              else
                (1536#32, 24#32)
            else
              if r.val < 164 then
                (1792#32, 24#32)
              else
                if r.val < 165 then
                  (1024#32, 25#32)
                else
                  (1280#32, 25#32)
          else
            if r.val < 169 then
              if r.val < 167 then
                (1536#32, 25#32)
              else
                if r.val < 168 then
                  (1792#32, 25#32)
                else
                  (1024#32, 26#32)
            else
              if r.val < 170 then
                (1280#32, 26#32)
              else
                if r.val < 171 then
                  (1536#32, 26#32)
                else
                  (1792#32, 26#32)
        else
          if r.val < 178 then
            if r.val < 175 then
              if r.val < 173 then
                (1024#32, 27#32)
              else
                if r.val < 174 then
                  (1280#32, 27#32)
                else
                  (1536#32, 27#32)
            else
              if r.val < 176 then
                (1792#32, 27#32)
              else
                if r.val < 177 then
                  (1024#32, 28#32)
                else
                  (1280#32, 28#32)
          else
            if r.val < 181 then
              if r.val < 179 then
                (1536#32, 28#32)
              else
                if r.val < 180 then
                  (1792#32, 28#32)
                else
                  (1024#32, 29#32)
            else
              if r.val < 182 then
                (1280#32, 29#32)
              else
                if r.val < 183 then
                  (1536#32, 29#32)
                else
                  (1792#32, 29#32)

def k0_dev3 (v1 : BitVec 32) : Nat :=
  let c0_i32_19 : BitVec 32 := 0#32
  let c1_i32_18 : BitVec 32 := 1#32
  let v21 : BitVec 32 := Scalar.muli v1 c1_i32_18
  let v22 : BitVec 32 := Scalar.addi c0_i32_19 v21
  v22.toNat
def k0_dev4 (v1 : BitVec 32) : Nat :=
  let c0_i32_38 : BitVec 32 := 0#32
  let c1_i32_37 : BitVec 32 := 1#32
  let v43 : BitVec 32 := Scalar.muli v1 c1_i32_37
  let v44 : BitVec 32 := Scalar.addi c0_i32_38 v43
  v44.toNat
def k0_dev5 (v1 : BitVec 32) : Nat :=
  let c0_i32_57 : BitVec 32 := 0#32
  let c1_i32_56 : BitVec 32 := 1#32
  let v65 : BitVec 32 := Scalar.muli v1 c1_i32_56
  let v66 : BitVec 32 := Scalar.addi c0_i32_57 v65
  v66.toNat
def k0_dev6 (v1 : BitVec 32) : Nat :=
  let c0_i32_75 : BitVec 32 := 0#32
  let c1_i32_74 : BitVec 32 := 1#32
  let v87 : BitVec 32 := Scalar.muli v1 c1_i32_74
  let v88 : BitVec 32 := Scalar.addi c0_i32_75 v87
  v88.toNat
def k0_dev7 (v2 : BitVec 32) : Nat :=
  let c0_i32_93 : BitVec 32 := 0#32
  let c1_i32_92 : BitVec 32 := 1#32
  let v109 : BitVec 32 := Scalar.muli v2 c1_i32_92
  let v110 : BitVec 32 := Scalar.addi c0_i32_93 v109
  v110.toNat
def k0_dev8 (v2 : BitVec 32) : Nat :=
  let c0_i32_111 : BitVec 32 := 0#32
  let c1_i32_110 : BitVec 32 := 1#32
  let v131 : BitVec 32 := Scalar.muli v2 c1_i32_110
  let v132 : BitVec 32 := Scalar.addi c0_i32_111 v131
  v132.toNat
def k0_dev9 (v2 : BitVec 32) : Nat :=
  let c0_i32_129 : BitVec 32 := 0#32
  let c1_i32_128 : BitVec 32 := 1#32
  let v153 : BitVec 32 := Scalar.muli v2 c1_i32_128
  let v154 : BitVec 32 := Scalar.addi c0_i32_129 v153
  v154.toNat
def k0_dev10 (v2 : BitVec 32) : Nat :=
  let c0_i32_147 : BitVec 32 := 0#32
  let c1_i32_146 : BitVec 32 := 1#32
  let v175 : BitVec 32 := Scalar.muli v2 c1_i32_146
  let v176 : BitVec 32 := Scalar.addi c0_i32_147 v175
  v176.toNat
def k0_off2 (v0 : BitVec 32) (c0_i32_169 : BitVec 32) (c15_i32 : BitVec 32) : Fin 2 → Nat :=
  let v191 : BitVec 32 := Scalar.addi v0 c15_i32
  let c16_i32_162 : BitVec 32 := 16#32
  let c0_i32_163 : BitVec 32 := 0#32
  let v192 : BitVec 1 := Scalar.cmpi .eq c16_i32_162 c0_i32_163
  let c1_i32_164 : BitVec 32 := 1#32
  let v193 : BitVec 32 := Scalar.select v192 c1_i32_164 c16_i32_162
  let v194 : BitVec 32 := Scalar.remsi v191 v193
  let c0_i32_166 : BitVec 32 := 0#32
  let v196 : BitVec 1 := Scalar.cmpi .slt v194 c0_i32_166
  let c0_i32_167 : BitVec 32 := 0#32
  let v197 : BitVec 1 := Scalar.cmpi .slt v193 c0_i32_167
  let v198 : BitVec 1 := Scalar.xori v196 v197
  let c0_i32_165 : BitVec 32 := 0#32
  let v195 : BitVec 1 := Scalar.cmpi .ne v194 c0_i32_165
  let v199 : BitVec 1 := Scalar.andi v198 v195
  let v200 : BitVec 32 := Scalar.addi v194 v193
  let v201 : BitVec 32 := Scalar.select v199 v200 v194
  let c16_i32_168 : BitVec 32 := 16#32
  let v202 : BitVec 32 := Scalar.muli v201 c16_i32_168
  let v203 : BitVec 32 := Scalar.addi c0_i32_169 v202
  let v204 : Index := Scalar.indexCast v203
  let c0_170 : Index := 0#32
  ![v204.toNat, 0]

def k0_chk3 (v0 : BitVec 32) : Prop :=
  (∀ (r : Fin 184), ∀ a, (k0_off1 v0 (k0_off1_at r).1 (k0_off1_at r).2) a + S16x1024.size a ≤ S2048x1024.size a) ∧
  (∀ (r₁ : Fin 8) (r₂ : Fin 15), ∀ a, (k0_off2 v0 (BitVec.ofNat 32 (256 * r₁.val)) (BitVec.ofNat 32 (1 + r₂.val))) a + S16x1024.size a ≤ S2048x1024.size a)
theorem k0_off1_inb : ∀ (v0 : BitVec 32) (k0_hw3 : k0_chk3 v0), ∀ (r : Fin 184), ∀ a, (k0_off1 v0 (k0_off1_at r).1 (k0_off1_at r).2) a + S16x1024.size a ≤ S2048x1024.size a := fun v0 k0_hw3 r => k0_hw3.1 r
theorem k0_off2_inb : ∀ (v0 : BitVec 32) (k0_hw3 : k0_chk3 v0), ∀ (r₁ : Fin 8) (r₂ : Fin 15), ∀ a, (k0_off2 v0 (BitVec.ofNat 32 (256 * r₁.val)) (BitVec.ofNat 32 (1 + r₂.val))) a + S16x1024.size a ≤ S2048x1024.size a := fun v0 k0_hw3 r₁ r₂ => k0_hw3.2 r₁ r₂

def k0_dev11 (v1 : BitVec 32) : Nat :=
  let c0_i32_185 : BitVec 32 := 0#32
  let c1_i32_184 : BitVec 32 := 1#32
  let v214 : BitVec 32 := Scalar.muli v1 c1_i32_184
  let v215 : BitVec 32 := Scalar.addi c0_i32_185 v214
  v215.toNat
def k0_dev12 (v1 : BitVec 32) : Nat :=
  let c0_i32_224 : BitVec 32 := 0#32
  let c1_i32_223 : BitVec 32 := 1#32
  let v253 : BitVec 32 := Scalar.muli v1 c1_i32_223
  let v254 : BitVec 32 := Scalar.addi c0_i32_224 v253
  v254.toNat
def k0_dev13 (v1 : BitVec 32) : Nat :=
  let c0_i32_263 : BitVec 32 := 0#32
  let c1_i32_262 : BitVec 32 := 1#32
  let v292 : BitVec 32 := Scalar.muli v1 c1_i32_262
  let v293 : BitVec 32 := Scalar.addi c0_i32_263 v292
  v293.toNat
def k0_dev14 (v1 : BitVec 32) : Nat :=
  let c0_i32_301 : BitVec 32 := 0#32
  let c1_i32_300 : BitVec 32 := 1#32
  let v331 : BitVec 32 := Scalar.muli v1 c1_i32_300
  let v332 : BitVec 32 := Scalar.addi c0_i32_301 v331
  v332.toNat
def k0_dev15 (v2 : BitVec 32) : Nat :=
  let c0_i32_339 : BitVec 32 := 0#32
  let c1_i32_338 : BitVec 32 := 1#32
  let v370 : BitVec 32 := Scalar.muli v2 c1_i32_338
  let v371 : BitVec 32 := Scalar.addi c0_i32_339 v370
  v371.toNat
def k0_dev16 (v2 : BitVec 32) : Nat :=
  let c0_i32_377 : BitVec 32 := 0#32
  let c1_i32_376 : BitVec 32 := 1#32
  let v409 : BitVec 32 := Scalar.muli v2 c1_i32_376
  let v410 : BitVec 32 := Scalar.addi c0_i32_377 v409
  v410.toNat
def k0_dev17 (v2 : BitVec 32) : Nat :=
  let c0_i32_415 : BitVec 32 := 0#32
  let c1_i32_414 : BitVec 32 := 1#32
  let v448 : BitVec 32 := Scalar.muli v2 c1_i32_414
  let v449 : BitVec 32 := Scalar.addi c0_i32_415 v448
  v449.toNat
def k0_dev18 (v2 : BitVec 32) : Nat :=
  let c0_i32_453 : BitVec 32 := 0#32
  let c1_i32_452 : BitVec 32 := 1#32
  let v487 : BitVec 32 := Scalar.muli v2 c1_i32_452
  let v488 : BitVec 32 := Scalar.addi c0_i32_453 v487
  v488.toNat
def k0_dev19 (v1 : BitVec 32) : Nat :=
  let c0_i32_501 : BitVec 32 := 0#32
  let c1_i32_500 : BitVec 32 := 1#32
  let v531 : BitVec 32 := Scalar.muli v1 c1_i32_500
  let v532 : BitVec 32 := Scalar.addi c0_i32_501 v531
  v532.toNat
def k0_dev20 (v1 : BitVec 32) : Nat :=
  let c0_i32_550 : BitVec 32 := 0#32
  let c1_i32_549 : BitVec 32 := 1#32
  let v575 : BitVec 32 := Scalar.muli v1 c1_i32_549
  let v576 : BitVec 32 := Scalar.addi c0_i32_550 v575
  v576.toNat
def k0_dev21 (v1 : BitVec 32) : Nat :=
  let c0_i32_599 : BitVec 32 := 0#32
  let c1_i32_598 : BitVec 32 := 1#32
  let v619 : BitVec 32 := Scalar.muli v1 c1_i32_598
  let v620 : BitVec 32 := Scalar.addi c0_i32_599 v619
  v620.toNat
def k0_dev22 (v1 : BitVec 32) : Nat :=
  let c0_i32_648 : BitVec 32 := 0#32
  let c1_i32_647 : BitVec 32 := 1#32
  let v663 : BitVec 32 := Scalar.muli v1 c1_i32_647
  let v664 : BitVec 32 := Scalar.addi c0_i32_648 v663
  v664.toNat
def k0_dev23 (v2 : BitVec 32) : Nat :=
  let c0_i32_697 : BitVec 32 := 0#32
  let c1_i32_696 : BitVec 32 := 1#32
  let v707 : BitVec 32 := Scalar.muli v2 c1_i32_696
  let v708 : BitVec 32 := Scalar.addi c0_i32_697 v707
  v708.toNat
def k0_dev24 (v2 : BitVec 32) : Nat :=
  let c0_i32_746 : BitVec 32 := 0#32
  let c1_i32_745 : BitVec 32 := 1#32
  let v751 : BitVec 32 := Scalar.muli v2 c1_i32_745
  let v752 : BitVec 32 := Scalar.addi c0_i32_746 v751
  v752.toNat
def k0_dev25 (v2 : BitVec 32) : Nat :=
  let c0_i32_795 : BitVec 32 := 0#32
  let c1_i32_794 : BitVec 32 := 1#32
  let v795 : BitVec 32 := Scalar.muli v2 c1_i32_794
  let v796 : BitVec 32 := Scalar.addi c0_i32_795 v795
  v796.toNat
def k0_dev26 (v2 : BitVec 32) : Nat :=
  let c0_i32_844 : BitVec 32 := 0#32
  let c1_i32_843 : BitVec 32 := 1#32
  let v839 : BitVec 32 := Scalar.muli v2 c1_i32_843
  let v840 : BitVec 32 := Scalar.addi c0_i32_844 v839
  v840.toNat
def k0_dev27 (v1 : BitVec 32) : Nat :=
  let c0_i32_892 : BitVec 32 := 0#32
  let c1_i32_891 : BitVec 32 := 1#32
  let v883 : BitVec 32 := Scalar.muli v1 c1_i32_891
  let v884 : BitVec 32 := Scalar.addi c0_i32_892 v883
  v884.toNat
def k0_dev28 (v1 : BitVec 32) : Nat :=
  let c0_i32_941 : BitVec 32 := 0#32
  let c1_i32_940 : BitVec 32 := 1#32
  let v927 : BitVec 32 := Scalar.muli v1 c1_i32_940
  let v928 : BitVec 32 := Scalar.addi c0_i32_941 v927
  v928.toNat
def k0_dev29 (v1 : BitVec 32) : Nat :=
  let c0_i32_990 : BitVec 32 := 0#32
  let c1_i32_989 : BitVec 32 := 1#32
  let v971 : BitVec 32 := Scalar.muli v1 c1_i32_989
  let v972 : BitVec 32 := Scalar.addi c0_i32_990 v971
  v972.toNat
def k0_dev30 (v1 : BitVec 32) : Nat :=
  let c0_i32_1039 : BitVec 32 := 0#32
  let c1_i32_1038 : BitVec 32 := 1#32
  let v1015 : BitVec 32 := Scalar.muli v1 c1_i32_1038
  let v1016 : BitVec 32 := Scalar.addi c0_i32_1039 v1015
  v1016.toNat
def k0_dev31 (v2 : BitVec 32) : Nat :=
  let c0_i32_1088 : BitVec 32 := 0#32
  let c1_i32_1087 : BitVec 32 := 1#32
  let v1059 : BitVec 32 := Scalar.muli v2 c1_i32_1087
  let v1060 : BitVec 32 := Scalar.addi c0_i32_1088 v1059
  v1060.toNat
def k0_dev32 (v2 : BitVec 32) : Nat :=
  let c0_i32_1137 : BitVec 32 := 0#32
  let c1_i32_1136 : BitVec 32 := 1#32
  let v1103 : BitVec 32 := Scalar.muli v2 c1_i32_1136
  let v1104 : BitVec 32 := Scalar.addi c0_i32_1137 v1103
  v1104.toNat
def k0_dev33 (v2 : BitVec 32) : Nat :=
  let c0_i32_1186 : BitVec 32 := 0#32
  let c1_i32_1185 : BitVec 32 := 1#32
  let v1147 : BitVec 32 := Scalar.muli v2 c1_i32_1185
  let v1148 : BitVec 32 := Scalar.addi c0_i32_1186 v1147
  v1148.toNat
def k0_dev34 (v2 : BitVec 32) : Nat :=
  let c0_i32_1235 : BitVec 32 := 0#32
  let c1_i32_1234 : BitVec 32 := 1#32
  let v1191 : BitVec 32 := Scalar.muli v2 c1_i32_1234
  let v1192 : BitVec 32 := Scalar.addi c0_i32_1235 v1191
  v1192.toNat
def k0_dev35 (v1 : BitVec 32) : Nat :=
  let c0_i32_1283 : BitVec 32 := 0#32
  let c1_i32_1282 : BitVec 32 := 1#32
  let v1235 : BitVec 32 := Scalar.muli v1 c1_i32_1282
  let v1236 : BitVec 32 := Scalar.addi c0_i32_1283 v1235
  v1236.toNat
def k0_dev36 (v1 : BitVec 32) : Nat :=
  let c0_i32_1332 : BitVec 32 := 0#32
  let c1_i32_1331 : BitVec 32 := 1#32
  let v1279 : BitVec 32 := Scalar.muli v1 c1_i32_1331
  let v1280 : BitVec 32 := Scalar.addi c0_i32_1332 v1279
  v1280.toNat
def k0_dev37 (v1 : BitVec 32) : Nat :=
  let c0_i32_1381 : BitVec 32 := 0#32
  let c1_i32_1380 : BitVec 32 := 1#32
  let v1323 : BitVec 32 := Scalar.muli v1 c1_i32_1380
  let v1324 : BitVec 32 := Scalar.addi c0_i32_1381 v1323
  v1324.toNat
def k0_dev38 (v1 : BitVec 32) : Nat :=
  let c0_i32_1430 : BitVec 32 := 0#32
  let c1_i32_1429 : BitVec 32 := 1#32
  let v1367 : BitVec 32 := Scalar.muli v1 c1_i32_1429
  let v1368 : BitVec 32 := Scalar.addi c0_i32_1430 v1367
  v1368.toNat
def k0_dev39 (v2 : BitVec 32) : Nat :=
  let c0_i32_1479 : BitVec 32 := 0#32
  let c1_i32_1478 : BitVec 32 := 1#32
  let v1411 : BitVec 32 := Scalar.muli v2 c1_i32_1478
  let v1412 : BitVec 32 := Scalar.addi c0_i32_1479 v1411
  v1412.toNat
def k0_dev40 (v2 : BitVec 32) : Nat :=
  let c0_i32_1528 : BitVec 32 := 0#32
  let c1_i32_1527 : BitVec 32 := 1#32
  let v1455 : BitVec 32 := Scalar.muli v2 c1_i32_1527
  let v1456 : BitVec 32 := Scalar.addi c0_i32_1528 v1455
  v1456.toNat
def k0_dev41 (v2 : BitVec 32) : Nat :=
  let c0_i32_1577 : BitVec 32 := 0#32
  let c1_i32_1576 : BitVec 32 := 1#32
  let v1499 : BitVec 32 := Scalar.muli v2 c1_i32_1576
  let v1500 : BitVec 32 := Scalar.addi c0_i32_1577 v1499
  v1500.toNat
def k0_dev42 (v2 : BitVec 32) : Nat :=
  let c0_i32_1626 : BitVec 32 := 0#32
  let c1_i32_1625 : BitVec 32 := 1#32
  let v1543 : BitVec 32 := Scalar.muli v2 c1_i32_1625
  let v1544 : BitVec 32 := Scalar.addi c0_i32_1626 v1543
  v1544.toNat
def k0_dev43 (v1 : BitVec 32) : Nat :=
  let c0_i32_1674 : BitVec 32 := 0#32
  let c1_i32_1673 : BitVec 32 := 1#32
  let v1587 : BitVec 32 := Scalar.muli v1 c1_i32_1673
  let v1588 : BitVec 32 := Scalar.addi c0_i32_1674 v1587
  v1588.toNat
def k0_dev44 (v1 : BitVec 32) : Nat :=
  let c0_i32_1723 : BitVec 32 := 0#32
  let c1_i32_1722 : BitVec 32 := 1#32
  let v1631 : BitVec 32 := Scalar.muli v1 c1_i32_1722
  let v1632 : BitVec 32 := Scalar.addi c0_i32_1723 v1631
  v1632.toNat
def k0_dev45 (v1 : BitVec 32) : Nat :=
  let c0_i32_1772 : BitVec 32 := 0#32
  let c1_i32_1771 : BitVec 32 := 1#32
  let v1675 : BitVec 32 := Scalar.muli v1 c1_i32_1771
  let v1676 : BitVec 32 := Scalar.addi c0_i32_1772 v1675
  v1676.toNat
def k0_dev46 (v1 : BitVec 32) : Nat :=
  let c0_i32_1821 : BitVec 32 := 0#32
  let c1_i32_1820 : BitVec 32 := 1#32
  let v1719 : BitVec 32 := Scalar.muli v1 c1_i32_1820
  let v1720 : BitVec 32 := Scalar.addi c0_i32_1821 v1719
  v1720.toNat
def k0_dev47 (v2 : BitVec 32) : Nat :=
  let c0_i32_1870 : BitVec 32 := 0#32
  let c1_i32_1869 : BitVec 32 := 1#32
  let v1763 : BitVec 32 := Scalar.muli v2 c1_i32_1869
  let v1764 : BitVec 32 := Scalar.addi c0_i32_1870 v1763
  v1764.toNat
def k0_dev48 (v2 : BitVec 32) : Nat :=
  let c0_i32_1919 : BitVec 32 := 0#32
  let c1_i32_1918 : BitVec 32 := 1#32
  let v1807 : BitVec 32 := Scalar.muli v2 c1_i32_1918
  let v1808 : BitVec 32 := Scalar.addi c0_i32_1919 v1807
  v1808.toNat
def k0_dev49 (v2 : BitVec 32) : Nat :=
  let c0_i32_1968 : BitVec 32 := 0#32
  let c1_i32_1967 : BitVec 32 := 1#32
  let v1851 : BitVec 32 := Scalar.muli v2 c1_i32_1967
  let v1852 : BitVec 32 := Scalar.addi c0_i32_1968 v1851
  v1852.toNat
def k0_dev50 (v2 : BitVec 32) : Nat :=
  let c0_i32_2017 : BitVec 32 := 0#32
  let c1_i32_2016 : BitVec 32 := 1#32
  let v1895 : BitVec 32 := Scalar.muli v2 c1_i32_2016
  let v1896 : BitVec 32 := Scalar.addi c0_i32_2017 v1895
  v1896.toNat
def k0_dev51 (v1 : BitVec 32) : Nat :=
  let c0_i32_2065 : BitVec 32 := 0#32
  let c1_i32_2064 : BitVec 32 := 1#32
  let v1939 : BitVec 32 := Scalar.muli v1 c1_i32_2064
  let v1940 : BitVec 32 := Scalar.addi c0_i32_2065 v1939
  v1940.toNat
def k0_dev52 (v1 : BitVec 32) : Nat :=
  let c0_i32_2114 : BitVec 32 := 0#32
  let c1_i32_2113 : BitVec 32 := 1#32
  let v1983 : BitVec 32 := Scalar.muli v1 c1_i32_2113
  let v1984 : BitVec 32 := Scalar.addi c0_i32_2114 v1983
  v1984.toNat
def k0_dev53 (v1 : BitVec 32) : Nat :=
  let c0_i32_2163 : BitVec 32 := 0#32
  let c1_i32_2162 : BitVec 32 := 1#32
  let v2027 : BitVec 32 := Scalar.muli v1 c1_i32_2162
  let v2028 : BitVec 32 := Scalar.addi c0_i32_2163 v2027
  v2028.toNat
def k0_dev54 (v1 : BitVec 32) : Nat :=
  let c0_i32_2212 : BitVec 32 := 0#32
  let c1_i32_2211 : BitVec 32 := 1#32
  let v2071 : BitVec 32 := Scalar.muli v1 c1_i32_2211
  let v2072 : BitVec 32 := Scalar.addi c0_i32_2212 v2071
  v2072.toNat
def k0_dev55 (v2 : BitVec 32) : Nat :=
  let c0_i32_2261 : BitVec 32 := 0#32
  let c1_i32_2260 : BitVec 32 := 1#32
  let v2115 : BitVec 32 := Scalar.muli v2 c1_i32_2260
  let v2116 : BitVec 32 := Scalar.addi c0_i32_2261 v2115
  v2116.toNat
def k0_dev56 (v2 : BitVec 32) : Nat :=
  let c0_i32_2310 : BitVec 32 := 0#32
  let c1_i32_2309 : BitVec 32 := 1#32
  let v2159 : BitVec 32 := Scalar.muli v2 c1_i32_2309
  let v2160 : BitVec 32 := Scalar.addi c0_i32_2310 v2159
  v2160.toNat
def k0_dev57 (v2 : BitVec 32) : Nat :=
  let c0_i32_2359 : BitVec 32 := 0#32
  let c1_i32_2358 : BitVec 32 := 1#32
  let v2203 : BitVec 32 := Scalar.muli v2 c1_i32_2358
  let v2204 : BitVec 32 := Scalar.addi c0_i32_2359 v2203
  v2204.toNat
def k0_dev58 (v2 : BitVec 32) : Nat :=
  let c0_i32_2408 : BitVec 32 := 0#32
  let c1_i32_2407 : BitVec 32 := 1#32
  let v2247 : BitVec 32 := Scalar.muli v2 c1_i32_2407
  let v2248 : BitVec 32 := Scalar.addi c0_i32_2408 v2247
  v2248.toNat
def k0_dev59 (v1 : BitVec 32) : Nat :=
  let c0_i32_2456 : BitVec 32 := 0#32
  let c1_i32_2455 : BitVec 32 := 1#32
  let v2291 : BitVec 32 := Scalar.muli v1 c1_i32_2455
  let v2292 : BitVec 32 := Scalar.addi c0_i32_2456 v2291
  v2292.toNat
def k0_dev60 (v1 : BitVec 32) : Nat :=
  let c0_i32_2505 : BitVec 32 := 0#32
  let c1_i32_2504 : BitVec 32 := 1#32
  let v2335 : BitVec 32 := Scalar.muli v1 c1_i32_2504
  let v2336 : BitVec 32 := Scalar.addi c0_i32_2505 v2335
  v2336.toNat
def k0_dev61 (v1 : BitVec 32) : Nat :=
  let c0_i32_2554 : BitVec 32 := 0#32
  let c1_i32_2553 : BitVec 32 := 1#32
  let v2379 : BitVec 32 := Scalar.muli v1 c1_i32_2553
  let v2380 : BitVec 32 := Scalar.addi c0_i32_2554 v2379
  v2380.toNat
def k0_dev62 (v1 : BitVec 32) : Nat :=
  let c0_i32_2603 : BitVec 32 := 0#32
  let c1_i32_2602 : BitVec 32 := 1#32
  let v2423 : BitVec 32 := Scalar.muli v1 c1_i32_2602
  let v2424 : BitVec 32 := Scalar.addi c0_i32_2603 v2423
  v2424.toNat
def k0_dev63 (v2 : BitVec 32) : Nat :=
  let c0_i32_2652 : BitVec 32 := 0#32
  let c1_i32_2651 : BitVec 32 := 1#32
  let v2467 : BitVec 32 := Scalar.muli v2 c1_i32_2651
  let v2468 : BitVec 32 := Scalar.addi c0_i32_2652 v2467
  v2468.toNat
def k0_dev64 (v2 : BitVec 32) : Nat :=
  let c0_i32_2701 : BitVec 32 := 0#32
  let c1_i32_2700 : BitVec 32 := 1#32
  let v2511 : BitVec 32 := Scalar.muli v2 c1_i32_2700
  let v2512 : BitVec 32 := Scalar.addi c0_i32_2701 v2511
  v2512.toNat
def k0_dev65 (v2 : BitVec 32) : Nat :=
  let c0_i32_2750 : BitVec 32 := 0#32
  let c1_i32_2749 : BitVec 32 := 1#32
  let v2555 : BitVec 32 := Scalar.muli v2 c1_i32_2749
  let v2556 : BitVec 32 := Scalar.addi c0_i32_2750 v2555
  v2556.toNat
def k0_dev66 (v2 : BitVec 32) : Nat :=
  let c0_i32_2799 : BitVec 32 := 0#32
  let c1_i32_2798 : BitVec 32 := 1#32
  let v2599 : BitVec 32 := Scalar.muli v2 c1_i32_2798
  let v2600 : BitVec 32 := Scalar.addi c0_i32_2799 v2599
  v2600.toNat
def k0_dev67 (v1 : BitVec 32) : Nat :=
  let c0_i32_2847 : BitVec 32 := 0#32
  let c1_i32_2846 : BitVec 32 := 1#32
  let v2643 : BitVec 32 := Scalar.muli v1 c1_i32_2846
  let v2644 : BitVec 32 := Scalar.addi c0_i32_2847 v2643
  v2644.toNat
def k0_dev68 (v1 : BitVec 32) : Nat :=
  let c0_i32_2896 : BitVec 32 := 0#32
  let c1_i32_2895 : BitVec 32 := 1#32
  let v2687 : BitVec 32 := Scalar.muli v1 c1_i32_2895
  let v2688 : BitVec 32 := Scalar.addi c0_i32_2896 v2687
  v2688.toNat
def k0_dev69 (v1 : BitVec 32) : Nat :=
  let c0_i32_2945 : BitVec 32 := 0#32
  let c1_i32_2944 : BitVec 32 := 1#32
  let v2731 : BitVec 32 := Scalar.muli v1 c1_i32_2944
  let v2732 : BitVec 32 := Scalar.addi c0_i32_2945 v2731
  v2732.toNat
def k0_dev70 (v1 : BitVec 32) : Nat :=
  let c0_i32_2994 : BitVec 32 := 0#32
  let c1_i32_2993 : BitVec 32 := 1#32
  let v2775 : BitVec 32 := Scalar.muli v1 c1_i32_2993
  let v2776 : BitVec 32 := Scalar.addi c0_i32_2994 v2775
  v2776.toNat
def k0_dev71 (v2 : BitVec 32) : Nat :=
  let c0_i32_3043 : BitVec 32 := 0#32
  let c1_i32_3042 : BitVec 32 := 1#32
  let v2819 : BitVec 32 := Scalar.muli v2 c1_i32_3042
  let v2820 : BitVec 32 := Scalar.addi c0_i32_3043 v2819
  v2820.toNat
def k0_dev72 (v2 : BitVec 32) : Nat :=
  let c0_i32_3092 : BitVec 32 := 0#32
  let c1_i32_3091 : BitVec 32 := 1#32
  let v2863 : BitVec 32 := Scalar.muli v2 c1_i32_3091
  let v2864 : BitVec 32 := Scalar.addi c0_i32_3092 v2863
  v2864.toNat
def k0_dev73 (v2 : BitVec 32) : Nat :=
  let c0_i32_3141 : BitVec 32 := 0#32
  let c1_i32_3140 : BitVec 32 := 1#32
  let v2907 : BitVec 32 := Scalar.muli v2 c1_i32_3140
  let v2908 : BitVec 32 := Scalar.addi c0_i32_3141 v2907
  v2908.toNat
def k0_dev74 (v2 : BitVec 32) : Nat :=
  let c0_i32_3190 : BitVec 32 := 0#32
  let c1_i32_3189 : BitVec 32 := 1#32
  let v2951 : BitVec 32 := Scalar.muli v2 c1_i32_3189
  let v2952 : BitVec 32 := Scalar.addi c0_i32_3190 v2951
  v2952.toNat
def k0_dev75 (v1 : BitVec 32) : Nat :=
  let c0_i32_3238 : BitVec 32 := 0#32
  let c1_i32_3237 : BitVec 32 := 1#32
  let v2995 : BitVec 32 := Scalar.muli v1 c1_i32_3237
  let v2996 : BitVec 32 := Scalar.addi c0_i32_3238 v2995
  v2996.toNat
def k0_dev76 (v1 : BitVec 32) : Nat :=
  let c0_i32_3287 : BitVec 32 := 0#32
  let c1_i32_3286 : BitVec 32 := 1#32
  let v3039 : BitVec 32 := Scalar.muli v1 c1_i32_3286
  let v3040 : BitVec 32 := Scalar.addi c0_i32_3287 v3039
  v3040.toNat
def k0_dev77 (v1 : BitVec 32) : Nat :=
  let c0_i32_3336 : BitVec 32 := 0#32
  let c1_i32_3335 : BitVec 32 := 1#32
  let v3083 : BitVec 32 := Scalar.muli v1 c1_i32_3335
  let v3084 : BitVec 32 := Scalar.addi c0_i32_3336 v3083
  v3084.toNat
def k0_dev78 (v1 : BitVec 32) : Nat :=
  let c0_i32_3385 : BitVec 32 := 0#32
  let c1_i32_3384 : BitVec 32 := 1#32
  let v3127 : BitVec 32 := Scalar.muli v1 c1_i32_3384
  let v3128 : BitVec 32 := Scalar.addi c0_i32_3385 v3127
  v3128.toNat
def k0_dev79 (v2 : BitVec 32) : Nat :=
  let c0_i32_3434 : BitVec 32 := 0#32
  let c1_i32_3433 : BitVec 32 := 1#32
  let v3171 : BitVec 32 := Scalar.muli v2 c1_i32_3433
  let v3172 : BitVec 32 := Scalar.addi c0_i32_3434 v3171
  v3172.toNat
def k0_dev80 (v2 : BitVec 32) : Nat :=
  let c0_i32_3483 : BitVec 32 := 0#32
  let c1_i32_3482 : BitVec 32 := 1#32
  let v3215 : BitVec 32 := Scalar.muli v2 c1_i32_3482
  let v3216 : BitVec 32 := Scalar.addi c0_i32_3483 v3215
  v3216.toNat
def k0_dev81 (v2 : BitVec 32) : Nat :=
  let c0_i32_3532 : BitVec 32 := 0#32
  let c1_i32_3531 : BitVec 32 := 1#32
  let v3259 : BitVec 32 := Scalar.muli v2 c1_i32_3531
  let v3260 : BitVec 32 := Scalar.addi c0_i32_3532 v3259
  v3260.toNat
def k0_dev82 (v2 : BitVec 32) : Nat :=
  let c0_i32_3581 : BitVec 32 := 0#32
  let c1_i32_3580 : BitVec 32 := 1#32
  let v3303 : BitVec 32 := Scalar.muli v2 c1_i32_3580
  let v3304 : BitVec 32 := Scalar.addi c0_i32_3581 v3303
  v3304.toNat
def k0_dev83 (v1 : BitVec 32) : Nat :=
  let c0_i32_3629 : BitVec 32 := 0#32
  let c1_i32_3628 : BitVec 32 := 1#32
  let v3347 : BitVec 32 := Scalar.muli v1 c1_i32_3628
  let v3348 : BitVec 32 := Scalar.addi c0_i32_3629 v3347
  v3348.toNat
def k0_dev84 (v1 : BitVec 32) : Nat :=
  let c0_i32_3678 : BitVec 32 := 0#32
  let c1_i32_3677 : BitVec 32 := 1#32
  let v3391 : BitVec 32 := Scalar.muli v1 c1_i32_3677
  let v3392 : BitVec 32 := Scalar.addi c0_i32_3678 v3391
  v3392.toNat
def k0_dev85 (v1 : BitVec 32) : Nat :=
  let c0_i32_3727 : BitVec 32 := 0#32
  let c1_i32_3726 : BitVec 32 := 1#32
  let v3435 : BitVec 32 := Scalar.muli v1 c1_i32_3726
  let v3436 : BitVec 32 := Scalar.addi c0_i32_3727 v3435
  v3436.toNat
def k0_dev86 (v1 : BitVec 32) : Nat :=
  let c0_i32_3776 : BitVec 32 := 0#32
  let c1_i32_3775 : BitVec 32 := 1#32
  let v3479 : BitVec 32 := Scalar.muli v1 c1_i32_3775
  let v3480 : BitVec 32 := Scalar.addi c0_i32_3776 v3479
  v3480.toNat
def k0_dev87 (v2 : BitVec 32) : Nat :=
  let c0_i32_3825 : BitVec 32 := 0#32
  let c1_i32_3824 : BitVec 32 := 1#32
  let v3523 : BitVec 32 := Scalar.muli v2 c1_i32_3824
  let v3524 : BitVec 32 := Scalar.addi c0_i32_3825 v3523
  v3524.toNat
def k0_dev88 (v2 : BitVec 32) : Nat :=
  let c0_i32_3874 : BitVec 32 := 0#32
  let c1_i32_3873 : BitVec 32 := 1#32
  let v3567 : BitVec 32 := Scalar.muli v2 c1_i32_3873
  let v3568 : BitVec 32 := Scalar.addi c0_i32_3874 v3567
  v3568.toNat
def k0_dev89 (v2 : BitVec 32) : Nat :=
  let c0_i32_3923 : BitVec 32 := 0#32
  let c1_i32_3922 : BitVec 32 := 1#32
  let v3611 : BitVec 32 := Scalar.muli v2 c1_i32_3922
  let v3612 : BitVec 32 := Scalar.addi c0_i32_3923 v3611
  v3612.toNat
def k0_dev90 (v2 : BitVec 32) : Nat :=
  let c0_i32_3972 : BitVec 32 := 0#32
  let c1_i32_3971 : BitVec 32 := 1#32
  let v3655 : BitVec 32 := Scalar.muli v2 c1_i32_3971
  let v3656 : BitVec 32 := Scalar.addi c0_i32_3972 v3655
  v3656.toNat
def k0_dev91 (v1 : BitVec 32) : Nat :=
  let c0_i32_4020 : BitVec 32 := 0#32
  let c1_i32_4019 : BitVec 32 := 1#32
  let v3699 : BitVec 32 := Scalar.muli v1 c1_i32_4019
  let v3700 : BitVec 32 := Scalar.addi c0_i32_4020 v3699
  v3700.toNat
def k0_dev92 (v1 : BitVec 32) : Nat :=
  let c0_i32_4069 : BitVec 32 := 0#32
  let c1_i32_4068 : BitVec 32 := 1#32
  let v3743 : BitVec 32 := Scalar.muli v1 c1_i32_4068
  let v3744 : BitVec 32 := Scalar.addi c0_i32_4069 v3743
  v3744.toNat
def k0_dev93 (v1 : BitVec 32) : Nat :=
  let c0_i32_4118 : BitVec 32 := 0#32
  let c1_i32_4117 : BitVec 32 := 1#32
  let v3787 : BitVec 32 := Scalar.muli v1 c1_i32_4117
  let v3788 : BitVec 32 := Scalar.addi c0_i32_4118 v3787
  v3788.toNat
def k0_dev94 (v1 : BitVec 32) : Nat :=
  let c0_i32_4167 : BitVec 32 := 0#32
  let c1_i32_4166 : BitVec 32 := 1#32
  let v3831 : BitVec 32 := Scalar.muli v1 c1_i32_4166
  let v3832 : BitVec 32 := Scalar.addi c0_i32_4167 v3831
  v3832.toNat
def k0_dev95 (v2 : BitVec 32) : Nat :=
  let c0_i32_4216 : BitVec 32 := 0#32
  let c1_i32_4215 : BitVec 32 := 1#32
  let v3875 : BitVec 32 := Scalar.muli v2 c1_i32_4215
  let v3876 : BitVec 32 := Scalar.addi c0_i32_4216 v3875
  v3876.toNat
def k0_dev96 (v2 : BitVec 32) : Nat :=
  let c0_i32_4265 : BitVec 32 := 0#32
  let c1_i32_4264 : BitVec 32 := 1#32
  let v3919 : BitVec 32 := Scalar.muli v2 c1_i32_4264
  let v3920 : BitVec 32 := Scalar.addi c0_i32_4265 v3919
  v3920.toNat
def k0_dev97 (v2 : BitVec 32) : Nat :=
  let c0_i32_4314 : BitVec 32 := 0#32
  let c1_i32_4313 : BitVec 32 := 1#32
  let v3963 : BitVec 32 := Scalar.muli v2 c1_i32_4313
  let v3964 : BitVec 32 := Scalar.addi c0_i32_4314 v3963
  v3964.toNat
def k0_dev98 (v2 : BitVec 32) : Nat :=
  let c0_i32_4363 : BitVec 32 := 0#32
  let c1_i32_4362 : BitVec 32 := 1#32
  let v4007 : BitVec 32 := Scalar.muli v2 c1_i32_4362
  let v4008 : BitVec 32 := Scalar.addi c0_i32_4363 v4007
  v4008.toNat
def k0_dev99 (v1 : BitVec 32) : Nat :=
  let c0_i32_4411 : BitVec 32 := 0#32
  let c1_i32_4410 : BitVec 32 := 1#32
  let v4051 : BitVec 32 := Scalar.muli v1 c1_i32_4410
  let v4052 : BitVec 32 := Scalar.addi c0_i32_4411 v4051
  v4052.toNat
def k0_dev100 (v1 : BitVec 32) : Nat :=
  let c0_i32_4460 : BitVec 32 := 0#32
  let c1_i32_4459 : BitVec 32 := 1#32
  let v4095 : BitVec 32 := Scalar.muli v1 c1_i32_4459
  let v4096 : BitVec 32 := Scalar.addi c0_i32_4460 v4095
  v4096.toNat
def k0_dev101 (v1 : BitVec 32) : Nat :=
  let c0_i32_4509 : BitVec 32 := 0#32
  let c1_i32_4508 : BitVec 32 := 1#32
  let v4139 : BitVec 32 := Scalar.muli v1 c1_i32_4508
  let v4140 : BitVec 32 := Scalar.addi c0_i32_4509 v4139
  v4140.toNat
def k0_dev102 (v1 : BitVec 32) : Nat :=
  let c0_i32_4558 : BitVec 32 := 0#32
  let c1_i32_4557 : BitVec 32 := 1#32
  let v4183 : BitVec 32 := Scalar.muli v1 c1_i32_4557
  let v4184 : BitVec 32 := Scalar.addi c0_i32_4558 v4183
  v4184.toNat
def k0_dev103 (v2 : BitVec 32) : Nat :=
  let c0_i32_4607 : BitVec 32 := 0#32
  let c1_i32_4606 : BitVec 32 := 1#32
  let v4227 : BitVec 32 := Scalar.muli v2 c1_i32_4606
  let v4228 : BitVec 32 := Scalar.addi c0_i32_4607 v4227
  v4228.toNat
def k0_dev104 (v2 : BitVec 32) : Nat :=
  let c0_i32_4656 : BitVec 32 := 0#32
  let c1_i32_4655 : BitVec 32 := 1#32
  let v4271 : BitVec 32 := Scalar.muli v2 c1_i32_4655
  let v4272 : BitVec 32 := Scalar.addi c0_i32_4656 v4271
  v4272.toNat
def k0_dev105 (v2 : BitVec 32) : Nat :=
  let c0_i32_4705 : BitVec 32 := 0#32
  let c1_i32_4704 : BitVec 32 := 1#32
  let v4315 : BitVec 32 := Scalar.muli v2 c1_i32_4704
  let v4316 : BitVec 32 := Scalar.addi c0_i32_4705 v4315
  v4316.toNat
def k0_dev106 (v2 : BitVec 32) : Nat :=
  let c0_i32_4754 : BitVec 32 := 0#32
  let c1_i32_4753 : BitVec 32 := 1#32
  let v4359 : BitVec 32 := Scalar.muli v2 c1_i32_4753
  let v4360 : BitVec 32 := Scalar.addi c0_i32_4754 v4359
  v4360.toNat
def k0_dev107 (v1 : BitVec 32) : Nat :=
  let c0_i32_4802 : BitVec 32 := 0#32
  let c1_i32_4801 : BitVec 32 := 1#32
  let v4403 : BitVec 32 := Scalar.muli v1 c1_i32_4801
  let v4404 : BitVec 32 := Scalar.addi c0_i32_4802 v4403
  v4404.toNat
def k0_dev108 (v1 : BitVec 32) : Nat :=
  let c0_i32_4851 : BitVec 32 := 0#32
  let c1_i32_4850 : BitVec 32 := 1#32
  let v4447 : BitVec 32 := Scalar.muli v1 c1_i32_4850
  let v4448 : BitVec 32 := Scalar.addi c0_i32_4851 v4447
  v4448.toNat
def k0_dev109 (v1 : BitVec 32) : Nat :=
  let c0_i32_4900 : BitVec 32 := 0#32
  let c1_i32_4899 : BitVec 32 := 1#32
  let v4491 : BitVec 32 := Scalar.muli v1 c1_i32_4899
  let v4492 : BitVec 32 := Scalar.addi c0_i32_4900 v4491
  v4492.toNat
def k0_dev110 (v1 : BitVec 32) : Nat :=
  let c0_i32_4949 : BitVec 32 := 0#32
  let c1_i32_4948 : BitVec 32 := 1#32
  let v4535 : BitVec 32 := Scalar.muli v1 c1_i32_4948
  let v4536 : BitVec 32 := Scalar.addi c0_i32_4949 v4535
  v4536.toNat
def k0_dev111 (v2 : BitVec 32) : Nat :=
  let c0_i32_4998 : BitVec 32 := 0#32
  let c1_i32_4997 : BitVec 32 := 1#32
  let v4579 : BitVec 32 := Scalar.muli v2 c1_i32_4997
  let v4580 : BitVec 32 := Scalar.addi c0_i32_4998 v4579
  v4580.toNat
def k0_dev112 (v2 : BitVec 32) : Nat :=
  let c0_i32_5047 : BitVec 32 := 0#32
  let c1_i32_5046 : BitVec 32 := 1#32
  let v4623 : BitVec 32 := Scalar.muli v2 c1_i32_5046
  let v4624 : BitVec 32 := Scalar.addi c0_i32_5047 v4623
  v4624.toNat
def k0_dev113 (v2 : BitVec 32) : Nat :=
  let c0_i32_5096 : BitVec 32 := 0#32
  let c1_i32_5095 : BitVec 32 := 1#32
  let v4667 : BitVec 32 := Scalar.muli v2 c1_i32_5095
  let v4668 : BitVec 32 := Scalar.addi c0_i32_5096 v4667
  v4668.toNat
def k0_dev114 (v2 : BitVec 32) : Nat :=
  let c0_i32_5145 : BitVec 32 := 0#32
  let c1_i32_5144 : BitVec 32 := 1#32
  let v4711 : BitVec 32 := Scalar.muli v2 c1_i32_5144
  let v4712 : BitVec 32 := Scalar.addi c0_i32_5145 v4711
  v4712.toNat
def k0_dev115 (v1 : BitVec 32) : Nat :=
  let c0_i32_5193 : BitVec 32 := 0#32
  let c1_i32_5192 : BitVec 32 := 1#32
  let v4755 : BitVec 32 := Scalar.muli v1 c1_i32_5192
  let v4756 : BitVec 32 := Scalar.addi c0_i32_5193 v4755
  v4756.toNat
def k0_dev116 (v1 : BitVec 32) : Nat :=
  let c0_i32_5242 : BitVec 32 := 0#32
  let c1_i32_5241 : BitVec 32 := 1#32
  let v4799 : BitVec 32 := Scalar.muli v1 c1_i32_5241
  let v4800 : BitVec 32 := Scalar.addi c0_i32_5242 v4799
  v4800.toNat
def k0_dev117 (v1 : BitVec 32) : Nat :=
  let c0_i32_5291 : BitVec 32 := 0#32
  let c1_i32_5290 : BitVec 32 := 1#32
  let v4843 : BitVec 32 := Scalar.muli v1 c1_i32_5290
  let v4844 : BitVec 32 := Scalar.addi c0_i32_5291 v4843
  v4844.toNat
def k0_dev118 (v1 : BitVec 32) : Nat :=
  let c0_i32_5340 : BitVec 32 := 0#32
  let c1_i32_5339 : BitVec 32 := 1#32
  let v4887 : BitVec 32 := Scalar.muli v1 c1_i32_5339
  let v4888 : BitVec 32 := Scalar.addi c0_i32_5340 v4887
  v4888.toNat
def k0_dev119 (v2 : BitVec 32) : Nat :=
  let c0_i32_5389 : BitVec 32 := 0#32
  let c1_i32_5388 : BitVec 32 := 1#32
  let v4931 : BitVec 32 := Scalar.muli v2 c1_i32_5388
  let v4932 : BitVec 32 := Scalar.addi c0_i32_5389 v4931
  v4932.toNat
def k0_dev120 (v2 : BitVec 32) : Nat :=
  let c0_i32_5438 : BitVec 32 := 0#32
  let c1_i32_5437 : BitVec 32 := 1#32
  let v4975 : BitVec 32 := Scalar.muli v2 c1_i32_5437
  let v4976 : BitVec 32 := Scalar.addi c0_i32_5438 v4975
  v4976.toNat
def k0_dev121 (v2 : BitVec 32) : Nat :=
  let c0_i32_5487 : BitVec 32 := 0#32
  let c1_i32_5486 : BitVec 32 := 1#32
  let v5019 : BitVec 32 := Scalar.muli v2 c1_i32_5486
  let v5020 : BitVec 32 := Scalar.addi c0_i32_5487 v5019
  v5020.toNat
def k0_dev122 (v2 : BitVec 32) : Nat :=
  let c0_i32_5536 : BitVec 32 := 0#32
  let c1_i32_5535 : BitVec 32 := 1#32
  let v5063 : BitVec 32 := Scalar.muli v2 c1_i32_5535
  let v5064 : BitVec 32 := Scalar.addi c0_i32_5536 v5063
  v5064.toNat
def k0_dev123 (v1 : BitVec 32) : Nat :=
  let c0_i32_5929 : BitVec 32 := 0#32
  let c1_i32_5928 : BitVec 32 := 1#32
  let v5455 : BitVec 32 := Scalar.muli v1 c1_i32_5928
  let v5456 : BitVec 32 := Scalar.addi c0_i32_5929 v5455
  v5456.toNat
def k0_dev124 (v1 : BitVec 32) : Nat :=
  let c0_i32_5948 : BitVec 32 := 0#32
  let c1_i32_5947 : BitVec 32 := 1#32
  let v5478 : BitVec 32 := Scalar.muli v1 c1_i32_5947
  let v5479 : BitVec 32 := Scalar.addi c0_i32_5948 v5478
  v5479.toNat
def k0_dev125 (v1 : BitVec 32) : Nat :=
  let c0_i32_5967 : BitVec 32 := 0#32
  let c1_i32_5966 : BitVec 32 := 1#32
  let v5501 : BitVec 32 := Scalar.muli v1 c1_i32_5966
  let v5502 : BitVec 32 := Scalar.addi c0_i32_5967 v5501
  v5502.toNat
def k0_dev126 (v1 : BitVec 32) : Nat :=
  let c0_i32_5986 : BitVec 32 := 0#32
  let c1_i32_5985 : BitVec 32 := 1#32
  let v5524 : BitVec 32 := Scalar.muli v1 c1_i32_5985
  let v5525 : BitVec 32 := Scalar.addi c0_i32_5986 v5524
  v5525.toNat
def k0_dev127 (v2 : BitVec 32) : Nat :=
  let c0_i32_6005 : BitVec 32 := 0#32
  let c1_i32_6004 : BitVec 32 := 1#32
  let v5547 : BitVec 32 := Scalar.muli v2 c1_i32_6004
  let v5548 : BitVec 32 := Scalar.addi c0_i32_6005 v5547
  v5548.toNat
def k0_dev128 (v2 : BitVec 32) : Nat :=
  let c0_i32_6024 : BitVec 32 := 0#32
  let c1_i32_6023 : BitVec 32 := 1#32
  let v5570 : BitVec 32 := Scalar.muli v2 c1_i32_6023
  let v5571 : BitVec 32 := Scalar.addi c0_i32_6024 v5570
  v5571.toNat
def k0_dev129 (v2 : BitVec 32) : Nat :=
  let c0_i32_6043 : BitVec 32 := 0#32
  let c1_i32_6042 : BitVec 32 := 1#32
  let v5593 : BitVec 32 := Scalar.muli v2 c1_i32_6042
  let v5594 : BitVec 32 := Scalar.addi c0_i32_6043 v5593
  v5594.toNat
def k0_dev130 (v2 : BitVec 32) : Nat :=
  let c0_i32_6062 : BitVec 32 := 0#32
  let c1_i32_6061 : BitVec 32 := 1#32
  let v5616 : BitVec 32 := Scalar.muli v2 c1_i32_6061
  let v5617 : BitVec 32 := Scalar.addi c0_i32_6062 v5616
  v5617.toNat
def k0_dev131 (v1 : BitVec 32) : Nat :=
  let c0_i32_6089 : BitVec 32 := 0#32
  let c1_i32_6088 : BitVec 32 := 1#32
  let v5645 : BitVec 32 := Scalar.muli v1 c1_i32_6088
  let v5646 : BitVec 32 := Scalar.addi c0_i32_6089 v5645
  v5646.toNat
def k0_dev132 (v1 : BitVec 32) : Nat :=
  let c0_i32_6116 : BitVec 32 := 0#32
  let c1_i32_6115 : BitVec 32 := 1#32
  let v5674 : BitVec 32 := Scalar.muli v1 c1_i32_6115
  let v5675 : BitVec 32 := Scalar.addi c0_i32_6116 v5674
  v5675.toNat
def k0_dev133 (v1 : BitVec 32) : Nat :=
  let c0_i32_6143 : BitVec 32 := 0#32
  let c1_i32_6142 : BitVec 32 := 1#32
  let v5703 : BitVec 32 := Scalar.muli v1 c1_i32_6142
  let v5704 : BitVec 32 := Scalar.addi c0_i32_6143 v5703
  v5704.toNat
def k0_dev134 (v1 : BitVec 32) : Nat :=
  let c0_i32_6170 : BitVec 32 := 0#32
  let c1_i32_6169 : BitVec 32 := 1#32
  let v5732 : BitVec 32 := Scalar.muli v1 c1_i32_6169
  let v5733 : BitVec 32 := Scalar.addi c0_i32_6170 v5732
  v5733.toNat
def k0_dev135 (v2 : BitVec 32) : Nat :=
  let c0_i32_6197 : BitVec 32 := 0#32
  let c1_i32_6196 : BitVec 32 := 1#32
  let v5761 : BitVec 32 := Scalar.muli v2 c1_i32_6196
  let v5762 : BitVec 32 := Scalar.addi c0_i32_6197 v5761
  v5762.toNat
def k0_dev136 (v2 : BitVec 32) : Nat :=
  let c0_i32_6224 : BitVec 32 := 0#32
  let c1_i32_6223 : BitVec 32 := 1#32
  let v5790 : BitVec 32 := Scalar.muli v2 c1_i32_6223
  let v5791 : BitVec 32 := Scalar.addi c0_i32_6224 v5790
  v5791.toNat
def k0_dev137 (v2 : BitVec 32) : Nat :=
  let c0_i32_6251 : BitVec 32 := 0#32
  let c1_i32_6250 : BitVec 32 := 1#32
  let v5819 : BitVec 32 := Scalar.muli v2 c1_i32_6250
  let v5820 : BitVec 32 := Scalar.addi c0_i32_6251 v5819
  v5820.toNat
def k0_dev138 (v2 : BitVec 32) : Nat :=
  let c0_i32_6278 : BitVec 32 := 0#32
  let c1_i32_6277 : BitVec 32 := 1#32
  let v5848 : BitVec 32 := Scalar.muli v2 c1_i32_6277
  let v5849 : BitVec 32 := Scalar.addi c0_i32_6278 v5848
  v5849.toNat
def k0_dev139 (v1 : BitVec 32) : Nat :=
  let c0_i32_6312 : BitVec 32 := 0#32
  let c1_i32_6311 : BitVec 32 := 1#32
  let v5881 : BitVec 32 := Scalar.muli v1 c1_i32_6311
  let v5882 : BitVec 32 := Scalar.addi c0_i32_6312 v5881
  v5882.toNat
def k0_dev140 (v1 : BitVec 32) : Nat :=
  let c0_i32_6346 : BitVec 32 := 0#32
  let c1_i32_6345 : BitVec 32 := 1#32
  let v5914 : BitVec 32 := Scalar.muli v1 c1_i32_6345
  let v5915 : BitVec 32 := Scalar.addi c0_i32_6346 v5914
  v5915.toNat
def k0_dev141 (v1 : BitVec 32) : Nat :=
  let c0_i32_6380 : BitVec 32 := 0#32
  let c1_i32_6379 : BitVec 32 := 1#32
  let v5947 : BitVec 32 := Scalar.muli v1 c1_i32_6379
  let v5948 : BitVec 32 := Scalar.addi c0_i32_6380 v5947
  v5948.toNat
def k0_dev142 (v1 : BitVec 32) : Nat :=
  let c0_i32_6414 : BitVec 32 := 0#32
  let c1_i32_6413 : BitVec 32 := 1#32
  let v5980 : BitVec 32 := Scalar.muli v1 c1_i32_6413
  let v5981 : BitVec 32 := Scalar.addi c0_i32_6414 v5980
  v5981.toNat
def k0_dev143 (v2 : BitVec 32) : Nat :=
  let c0_i32_6448 : BitVec 32 := 0#32
  let c1_i32_6447 : BitVec 32 := 1#32
  let v6013 : BitVec 32 := Scalar.muli v2 c1_i32_6447
  let v6014 : BitVec 32 := Scalar.addi c0_i32_6448 v6013
  v6014.toNat
def k0_dev144 (v2 : BitVec 32) : Nat :=
  let c0_i32_6482 : BitVec 32 := 0#32
  let c1_i32_6481 : BitVec 32 := 1#32
  let v6046 : BitVec 32 := Scalar.muli v2 c1_i32_6481
  let v6047 : BitVec 32 := Scalar.addi c0_i32_6482 v6046
  v6047.toNat
def k0_dev145 (v2 : BitVec 32) : Nat :=
  let c0_i32_6516 : BitVec 32 := 0#32
  let c1_i32_6515 : BitVec 32 := 1#32
  let v6079 : BitVec 32 := Scalar.muli v2 c1_i32_6515
  let v6080 : BitVec 32 := Scalar.addi c0_i32_6516 v6079
  v6080.toNat
def k0_dev146 (v2 : BitVec 32) : Nat :=
  let c0_i32_6550 : BitVec 32 := 0#32
  let c1_i32_6549 : BitVec 32 := 1#32
  let v6112 : BitVec 32 := Scalar.muli v2 c1_i32_6549
  let v6113 : BitVec 32 := Scalar.addi c0_i32_6550 v6112
  v6113.toNat
def k0_dev147 (v1 : BitVec 32) : Nat :=
  let c0_i32_6584 : BitVec 32 := 0#32
  let c1_i32_6583 : BitVec 32 := 1#32
  let v6145 : BitVec 32 := Scalar.muli v1 c1_i32_6583
  let v6146 : BitVec 32 := Scalar.addi c0_i32_6584 v6145
  v6146.toNat
def k0_dev148 (v1 : BitVec 32) : Nat :=
  let c0_i32_6618 : BitVec 32 := 0#32
  let c1_i32_6617 : BitVec 32 := 1#32
  let v6178 : BitVec 32 := Scalar.muli v1 c1_i32_6617
  let v6179 : BitVec 32 := Scalar.addi c0_i32_6618 v6178
  v6179.toNat
def k0_dev149 (v1 : BitVec 32) : Nat :=
  let c0_i32_6652 : BitVec 32 := 0#32
  let c1_i32_6651 : BitVec 32 := 1#32
  let v6211 : BitVec 32 := Scalar.muli v1 c1_i32_6651
  let v6212 : BitVec 32 := Scalar.addi c0_i32_6652 v6211
  v6212.toNat
def k0_dev150 (v1 : BitVec 32) : Nat :=
  let c0_i32_6686 : BitVec 32 := 0#32
  let c1_i32_6685 : BitVec 32 := 1#32
  let v6244 : BitVec 32 := Scalar.muli v1 c1_i32_6685
  let v6245 : BitVec 32 := Scalar.addi c0_i32_6686 v6244
  v6245.toNat
def k0_dev151 (v2 : BitVec 32) : Nat :=
  let c0_i32_6719 : BitVec 32 := 0#32
  let c1_i32_6718 : BitVec 32 := 1#32
  let v6277 : BitVec 32 := Scalar.muli v2 c1_i32_6718
  let v6278 : BitVec 32 := Scalar.addi c0_i32_6719 v6277
  v6278.toNat
def k0_dev152 (v2 : BitVec 32) : Nat :=
  let c0_i32_6753 : BitVec 32 := 0#32
  let c1_i32_6752 : BitVec 32 := 1#32
  let v6310 : BitVec 32 := Scalar.muli v2 c1_i32_6752
  let v6311 : BitVec 32 := Scalar.addi c0_i32_6753 v6310
  v6311.toNat
def k0_dev153 (v2 : BitVec 32) : Nat :=
  let c0_i32_6787 : BitVec 32 := 0#32
  let c1_i32_6786 : BitVec 32 := 1#32
  let v6343 : BitVec 32 := Scalar.muli v2 c1_i32_6786
  let v6344 : BitVec 32 := Scalar.addi c0_i32_6787 v6343
  v6344.toNat
def k0_dev154 (v2 : BitVec 32) : Nat :=
  let c0_i32_6821 : BitVec 32 := 0#32
  let c1_i32_6820 : BitVec 32 := 1#32
  let v6376 : BitVec 32 := Scalar.muli v2 c1_i32_6820
  let v6377 : BitVec 32 := Scalar.addi c0_i32_6821 v6376
  v6377.toNat
def k0_dev155 (v1 : BitVec 32) : Nat :=
  let c0_i32_6855 : BitVec 32 := 0#32
  let c1_i32_6854 : BitVec 32 := 1#32
  let v6409 : BitVec 32 := Scalar.muli v1 c1_i32_6854
  let v6410 : BitVec 32 := Scalar.addi c0_i32_6855 v6409
  v6410.toNat
def k0_dev156 (v1 : BitVec 32) : Nat :=
  let c0_i32_6889 : BitVec 32 := 0#32
  let c1_i32_6888 : BitVec 32 := 1#32
  let v6442 : BitVec 32 := Scalar.muli v1 c1_i32_6888
  let v6443 : BitVec 32 := Scalar.addi c0_i32_6889 v6442
  v6443.toNat
def k0_dev157 (v1 : BitVec 32) : Nat :=
  let c0_i32_6923 : BitVec 32 := 0#32
  let c1_i32_6922 : BitVec 32 := 1#32
  let v6475 : BitVec 32 := Scalar.muli v1 c1_i32_6922
  let v6476 : BitVec 32 := Scalar.addi c0_i32_6923 v6475
  v6476.toNat
def k0_dev158 (v1 : BitVec 32) : Nat :=
  let c0_i32_6957 : BitVec 32 := 0#32
  let c1_i32_6956 : BitVec 32 := 1#32
  let v6508 : BitVec 32 := Scalar.muli v1 c1_i32_6956
  let v6509 : BitVec 32 := Scalar.addi c0_i32_6957 v6508
  v6509.toNat
def k0_dev159 (v2 : BitVec 32) : Nat :=
  let c0_i32_6990 : BitVec 32 := 0#32
  let c1_i32_6989 : BitVec 32 := 1#32
  let v6541 : BitVec 32 := Scalar.muli v2 c1_i32_6989
  let v6542 : BitVec 32 := Scalar.addi c0_i32_6990 v6541
  v6542.toNat
def k0_dev160 (v2 : BitVec 32) : Nat :=
  let c0_i32_7024 : BitVec 32 := 0#32
  let c1_i32_7023 : BitVec 32 := 1#32
  let v6574 : BitVec 32 := Scalar.muli v2 c1_i32_7023
  let v6575 : BitVec 32 := Scalar.addi c0_i32_7024 v6574
  v6575.toNat
def k0_dev161 (v2 : BitVec 32) : Nat :=
  let c0_i32_7058 : BitVec 32 := 0#32
  let c1_i32_7057 : BitVec 32 := 1#32
  let v6607 : BitVec 32 := Scalar.muli v2 c1_i32_7057
  let v6608 : BitVec 32 := Scalar.addi c0_i32_7058 v6607
  v6608.toNat
def k0_dev162 (v2 : BitVec 32) : Nat :=
  let c0_i32_7092 : BitVec 32 := 0#32
  let c1_i32_7091 : BitVec 32 := 1#32
  let v6640 : BitVec 32 := Scalar.muli v2 c1_i32_7091
  let v6641 : BitVec 32 := Scalar.addi c0_i32_7092 v6640
  v6641.toNat
def k0_dev163 (v1 : BitVec 32) : Nat :=
  let c0_i32_7126 : BitVec 32 := 0#32
  let c1_i32_7125 : BitVec 32 := 1#32
  let v6673 : BitVec 32 := Scalar.muli v1 c1_i32_7125
  let v6674 : BitVec 32 := Scalar.addi c0_i32_7126 v6673
  v6674.toNat
def k0_dev164 (v1 : BitVec 32) : Nat :=
  let c0_i32_7160 : BitVec 32 := 0#32
  let c1_i32_7159 : BitVec 32 := 1#32
  let v6706 : BitVec 32 := Scalar.muli v1 c1_i32_7159
  let v6707 : BitVec 32 := Scalar.addi c0_i32_7160 v6706
  v6707.toNat
def k0_dev165 (v1 : BitVec 32) : Nat :=
  let c0_i32_7194 : BitVec 32 := 0#32
  let c1_i32_7193 : BitVec 32 := 1#32
  let v6739 : BitVec 32 := Scalar.muli v1 c1_i32_7193
  let v6740 : BitVec 32 := Scalar.addi c0_i32_7194 v6739
  v6740.toNat
def k0_dev166 (v1 : BitVec 32) : Nat :=
  let c0_i32_7228 : BitVec 32 := 0#32
  let c1_i32_7227 : BitVec 32 := 1#32
  let v6772 : BitVec 32 := Scalar.muli v1 c1_i32_7227
  let v6773 : BitVec 32 := Scalar.addi c0_i32_7228 v6772
  v6773.toNat
def k0_dev167 (v2 : BitVec 32) : Nat :=
  let c0_i32_7261 : BitVec 32 := 0#32
  let c1_i32_7260 : BitVec 32 := 1#32
  let v6805 : BitVec 32 := Scalar.muli v2 c1_i32_7260
  let v6806 : BitVec 32 := Scalar.addi c0_i32_7261 v6805
  v6806.toNat
def k0_dev168 (v2 : BitVec 32) : Nat :=
  let c0_i32_7295 : BitVec 32 := 0#32
  let c1_i32_7294 : BitVec 32 := 1#32
  let v6838 : BitVec 32 := Scalar.muli v2 c1_i32_7294
  let v6839 : BitVec 32 := Scalar.addi c0_i32_7295 v6838
  v6839.toNat
def k0_dev169 (v2 : BitVec 32) : Nat :=
  let c0_i32_7329 : BitVec 32 := 0#32
  let c1_i32_7328 : BitVec 32 := 1#32
  let v6871 : BitVec 32 := Scalar.muli v2 c1_i32_7328
  let v6872 : BitVec 32 := Scalar.addi c0_i32_7329 v6871
  v6872.toNat
def k0_dev170 (v2 : BitVec 32) : Nat :=
  let c0_i32_7363 : BitVec 32 := 0#32
  let c1_i32_7362 : BitVec 32 := 1#32
  let v6904 : BitVec 32 := Scalar.muli v2 c1_i32_7362
  let v6905 : BitVec 32 := Scalar.addi c0_i32_7363 v6904
  v6905.toNat
def k0_dev171 (v1 : BitVec 32) : Nat :=
  let c0_i32_7397 : BitVec 32 := 0#32
  let c1_i32_7396 : BitVec 32 := 1#32
  let v6937 : BitVec 32 := Scalar.muli v1 c1_i32_7396
  let v6938 : BitVec 32 := Scalar.addi c0_i32_7397 v6937
  v6938.toNat
def k0_dev172 (v1 : BitVec 32) : Nat :=
  let c0_i32_7431 : BitVec 32 := 0#32
  let c1_i32_7430 : BitVec 32 := 1#32
  let v6970 : BitVec 32 := Scalar.muli v1 c1_i32_7430
  let v6971 : BitVec 32 := Scalar.addi c0_i32_7431 v6970
  v6971.toNat
def k0_dev173 (v1 : BitVec 32) : Nat :=
  let c0_i32_7465 : BitVec 32 := 0#32
  let c1_i32_7464 : BitVec 32 := 1#32
  let v7003 : BitVec 32 := Scalar.muli v1 c1_i32_7464
  let v7004 : BitVec 32 := Scalar.addi c0_i32_7465 v7003
  v7004.toNat
def k0_dev174 (v1 : BitVec 32) : Nat :=
  let c0_i32_7499 : BitVec 32 := 0#32
  let c1_i32_7498 : BitVec 32 := 1#32
  let v7036 : BitVec 32 := Scalar.muli v1 c1_i32_7498
  let v7037 : BitVec 32 := Scalar.addi c0_i32_7499 v7036
  v7037.toNat
def k0_dev175 (v2 : BitVec 32) : Nat :=
  let c0_i32_7532 : BitVec 32 := 0#32
  let c1_i32_7531 : BitVec 32 := 1#32
  let v7069 : BitVec 32 := Scalar.muli v2 c1_i32_7531
  let v7070 : BitVec 32 := Scalar.addi c0_i32_7532 v7069
  v7070.toNat
def k0_dev176 (v2 : BitVec 32) : Nat :=
  let c0_i32_7566 : BitVec 32 := 0#32
  let c1_i32_7565 : BitVec 32 := 1#32
  let v7102 : BitVec 32 := Scalar.muli v2 c1_i32_7565
  let v7103 : BitVec 32 := Scalar.addi c0_i32_7566 v7102
  v7103.toNat
def k0_dev177 (v2 : BitVec 32) : Nat :=
  let c0_i32_7600 : BitVec 32 := 0#32
  let c1_i32_7599 : BitVec 32 := 1#32
  let v7135 : BitVec 32 := Scalar.muli v2 c1_i32_7599
  let v7136 : BitVec 32 := Scalar.addi c0_i32_7600 v7135
  v7136.toNat
def k0_dev178 (v2 : BitVec 32) : Nat :=
  let c0_i32_7634 : BitVec 32 := 0#32
  let c1_i32_7633 : BitVec 32 := 1#32
  let v7168 : BitVec 32 := Scalar.muli v2 c1_i32_7633
  let v7169 : BitVec 32 := Scalar.addi c0_i32_7634 v7168
  v7169.toNat
def k0_dev179 (v1 : BitVec 32) : Nat :=
  let c0_i32_7668 : BitVec 32 := 0#32
  let c1_i32_7667 : BitVec 32 := 1#32
  let v7201 : BitVec 32 := Scalar.muli v1 c1_i32_7667
  let v7202 : BitVec 32 := Scalar.addi c0_i32_7668 v7201
  v7202.toNat
def k0_dev180 (v1 : BitVec 32) : Nat :=
  let c0_i32_7702 : BitVec 32 := 0#32
  let c1_i32_7701 : BitVec 32 := 1#32
  let v7234 : BitVec 32 := Scalar.muli v1 c1_i32_7701
  let v7235 : BitVec 32 := Scalar.addi c0_i32_7702 v7234
  v7235.toNat
def k0_dev181 (v1 : BitVec 32) : Nat :=
  let c0_i32_7736 : BitVec 32 := 0#32
  let c1_i32_7735 : BitVec 32 := 1#32
  let v7267 : BitVec 32 := Scalar.muli v1 c1_i32_7735
  let v7268 : BitVec 32 := Scalar.addi c0_i32_7736 v7267
  v7268.toNat
def k0_dev182 (v1 : BitVec 32) : Nat :=
  let c0_i32_7770 : BitVec 32 := 0#32
  let c1_i32_7769 : BitVec 32 := 1#32
  let v7300 : BitVec 32 := Scalar.muli v1 c1_i32_7769
  let v7301 : BitVec 32 := Scalar.addi c0_i32_7770 v7300
  v7301.toNat
def k0_dev183 (v2 : BitVec 32) : Nat :=
  let c0_i32_7803 : BitVec 32 := 0#32
  let c1_i32_7802 : BitVec 32 := 1#32
  let v7333 : BitVec 32 := Scalar.muli v2 c1_i32_7802
  let v7334 : BitVec 32 := Scalar.addi c0_i32_7803 v7333
  v7334.toNat
def k0_dev184 (v2 : BitVec 32) : Nat :=
  let c0_i32_7837 : BitVec 32 := 0#32
  let c1_i32_7836 : BitVec 32 := 1#32
  let v7366 : BitVec 32 := Scalar.muli v2 c1_i32_7836
  let v7367 : BitVec 32 := Scalar.addi c0_i32_7837 v7366
  v7367.toNat
def k0_dev185 (v2 : BitVec 32) : Nat :=
  let c0_i32_7871 : BitVec 32 := 0#32
  let c1_i32_7870 : BitVec 32 := 1#32
  let v7399 : BitVec 32 := Scalar.muli v2 c1_i32_7870
  let v7400 : BitVec 32 := Scalar.addi c0_i32_7871 v7399
  v7400.toNat
def k0_dev186 (v2 : BitVec 32) : Nat :=
  let c0_i32_7905 : BitVec 32 := 0#32
  let c1_i32_7904 : BitVec 32 := 1#32
  let v7432 : BitVec 32 := Scalar.muli v2 c1_i32_7904
  let v7433 : BitVec 32 := Scalar.addi c0_i32_7905 v7432
  v7433.toNat
def k0_dev187 (v1 : BitVec 32) : Nat :=
  let c0_i32_7939 : BitVec 32 := 0#32
  let c1_i32_7938 : BitVec 32 := 1#32
  let v7465 : BitVec 32 := Scalar.muli v1 c1_i32_7938
  let v7466 : BitVec 32 := Scalar.addi c0_i32_7939 v7465
  v7466.toNat
def k0_dev188 (v1 : BitVec 32) : Nat :=
  let c0_i32_7973 : BitVec 32 := 0#32
  let c1_i32_7972 : BitVec 32 := 1#32
  let v7498 : BitVec 32 := Scalar.muli v1 c1_i32_7972
  let v7499 : BitVec 32 := Scalar.addi c0_i32_7973 v7498
  v7499.toNat
def k0_dev189 (v1 : BitVec 32) : Nat :=
  let c0_i32_8007 : BitVec 32 := 0#32
  let c1_i32_8006 : BitVec 32 := 1#32
  let v7531 : BitVec 32 := Scalar.muli v1 c1_i32_8006
  let v7532 : BitVec 32 := Scalar.addi c0_i32_8007 v7531
  v7532.toNat
def k0_dev190 (v1 : BitVec 32) : Nat :=
  let c0_i32_8041 : BitVec 32 := 0#32
  let c1_i32_8040 : BitVec 32 := 1#32
  let v7564 : BitVec 32 := Scalar.muli v1 c1_i32_8040
  let v7565 : BitVec 32 := Scalar.addi c0_i32_8041 v7564
  v7565.toNat
def k0_dev191 (v2 : BitVec 32) : Nat :=
  let c0_i32_8074 : BitVec 32 := 0#32
  let c1_i32_8073 : BitVec 32 := 1#32
  let v7597 : BitVec 32 := Scalar.muli v2 c1_i32_8073
  let v7598 : BitVec 32 := Scalar.addi c0_i32_8074 v7597
  v7598.toNat
def k0_dev192 (v2 : BitVec 32) : Nat :=
  let c0_i32_8108 : BitVec 32 := 0#32
  let c1_i32_8107 : BitVec 32 := 1#32
  let v7630 : BitVec 32 := Scalar.muli v2 c1_i32_8107
  let v7631 : BitVec 32 := Scalar.addi c0_i32_8108 v7630
  v7631.toNat
def k0_dev193 (v2 : BitVec 32) : Nat :=
  let c0_i32_8142 : BitVec 32 := 0#32
  let c1_i32_8141 : BitVec 32 := 1#32
  let v7663 : BitVec 32 := Scalar.muli v2 c1_i32_8141
  let v7664 : BitVec 32 := Scalar.addi c0_i32_8142 v7663
  v7664.toNat
def k0_dev194 (v2 : BitVec 32) : Nat :=
  let c0_i32_8176 : BitVec 32 := 0#32
  let c1_i32_8175 : BitVec 32 := 1#32
  let v7696 : BitVec 32 := Scalar.muli v2 c1_i32_8175
  let v7697 : BitVec 32 := Scalar.addi c0_i32_8176 v7696
  v7697.toNat
def k0_dev195 (v1 : BitVec 32) : Nat :=
  let c0_i32_8210 : BitVec 32 := 0#32
  let c1_i32_8209 : BitVec 32 := 1#32
  let v7729 : BitVec 32 := Scalar.muli v1 c1_i32_8209
  let v7730 : BitVec 32 := Scalar.addi c0_i32_8210 v7729
  v7730.toNat
def k0_dev196 (v1 : BitVec 32) : Nat :=
  let c0_i32_8244 : BitVec 32 := 0#32
  let c1_i32_8243 : BitVec 32 := 1#32
  let v7762 : BitVec 32 := Scalar.muli v1 c1_i32_8243
  let v7763 : BitVec 32 := Scalar.addi c0_i32_8244 v7762
  v7763.toNat
def k0_dev197 (v1 : BitVec 32) : Nat :=
  let c0_i32_8278 : BitVec 32 := 0#32
  let c1_i32_8277 : BitVec 32 := 1#32
  let v7795 : BitVec 32 := Scalar.muli v1 c1_i32_8277
  let v7796 : BitVec 32 := Scalar.addi c0_i32_8278 v7795
  v7796.toNat
def k0_dev198 (v1 : BitVec 32) : Nat :=
  let c0_i32_8312 : BitVec 32 := 0#32
  let c1_i32_8311 : BitVec 32 := 1#32
  let v7828 : BitVec 32 := Scalar.muli v1 c1_i32_8311
  let v7829 : BitVec 32 := Scalar.addi c0_i32_8312 v7828
  v7829.toNat
def k0_dev199 (v2 : BitVec 32) : Nat :=
  let c0_i32_8345 : BitVec 32 := 0#32
  let c1_i32_8344 : BitVec 32 := 1#32
  let v7861 : BitVec 32 := Scalar.muli v2 c1_i32_8344
  let v7862 : BitVec 32 := Scalar.addi c0_i32_8345 v7861
  v7862.toNat
def k0_dev200 (v2 : BitVec 32) : Nat :=
  let c0_i32_8379 : BitVec 32 := 0#32
  let c1_i32_8378 : BitVec 32 := 1#32
  let v7894 : BitVec 32 := Scalar.muli v2 c1_i32_8378
  let v7895 : BitVec 32 := Scalar.addi c0_i32_8379 v7894
  v7895.toNat
def k0_dev201 (v2 : BitVec 32) : Nat :=
  let c0_i32_8413 : BitVec 32 := 0#32
  let c1_i32_8412 : BitVec 32 := 1#32
  let v7927 : BitVec 32 := Scalar.muli v2 c1_i32_8412
  let v7928 : BitVec 32 := Scalar.addi c0_i32_8413 v7927
  v7928.toNat
def k0_dev202 (v2 : BitVec 32) : Nat :=
  let c0_i32_8447 : BitVec 32 := 0#32
  let c1_i32_8446 : BitVec 32 := 1#32
  let v7960 : BitVec 32 := Scalar.muli v2 c1_i32_8446
  let v7961 : BitVec 32 := Scalar.addi c0_i32_8447 v7960
  v7961.toNat
def k0_dev203 (v1 : BitVec 32) : Nat :=
  let c0_i32_8481 : BitVec 32 := 0#32
  let c1_i32_8480 : BitVec 32 := 1#32
  let v7993 : BitVec 32 := Scalar.muli v1 c1_i32_8480
  let v7994 : BitVec 32 := Scalar.addi c0_i32_8481 v7993
  v7994.toNat
def k0_dev204 (v1 : BitVec 32) : Nat :=
  let c0_i32_8515 : BitVec 32 := 0#32
  let c1_i32_8514 : BitVec 32 := 1#32
  let v8026 : BitVec 32 := Scalar.muli v1 c1_i32_8514
  let v8027 : BitVec 32 := Scalar.addi c0_i32_8515 v8026
  v8027.toNat
def k0_dev205 (v1 : BitVec 32) : Nat :=
  let c0_i32_8549 : BitVec 32 := 0#32
  let c1_i32_8548 : BitVec 32 := 1#32
  let v8059 : BitVec 32 := Scalar.muli v1 c1_i32_8548
  let v8060 : BitVec 32 := Scalar.addi c0_i32_8549 v8059
  v8060.toNat
def k0_dev206 (v1 : BitVec 32) : Nat :=
  let c0_i32_8583 : BitVec 32 := 0#32
  let c1_i32_8582 : BitVec 32 := 1#32
  let v8092 : BitVec 32 := Scalar.muli v1 c1_i32_8582
  let v8093 : BitVec 32 := Scalar.addi c0_i32_8583 v8092
  v8093.toNat
def k0_dev207 (v2 : BitVec 32) : Nat :=
  let c0_i32_8616 : BitVec 32 := 0#32
  let c1_i32_8615 : BitVec 32 := 1#32
  let v8125 : BitVec 32 := Scalar.muli v2 c1_i32_8615
  let v8126 : BitVec 32 := Scalar.addi c0_i32_8616 v8125
  v8126.toNat
def k0_dev208 (v2 : BitVec 32) : Nat :=
  let c0_i32_8650 : BitVec 32 := 0#32
  let c1_i32_8649 : BitVec 32 := 1#32
  let v8158 : BitVec 32 := Scalar.muli v2 c1_i32_8649
  let v8159 : BitVec 32 := Scalar.addi c0_i32_8650 v8158
  v8159.toNat
def k0_dev209 (v2 : BitVec 32) : Nat :=
  let c0_i32_8684 : BitVec 32 := 0#32
  let c1_i32_8683 : BitVec 32 := 1#32
  let v8191 : BitVec 32 := Scalar.muli v2 c1_i32_8683
  let v8192 : BitVec 32 := Scalar.addi c0_i32_8684 v8191
  v8192.toNat
def k0_dev210 (v2 : BitVec 32) : Nat :=
  let c0_i32_8718 : BitVec 32 := 0#32
  let c1_i32_8717 : BitVec 32 := 1#32
  let v8224 : BitVec 32 := Scalar.muli v2 c1_i32_8717
  let v8225 : BitVec 32 := Scalar.addi c0_i32_8718 v8224
  v8225.toNat
def k0_dev211 (v1 : BitVec 32) : Nat :=
  let c0_i32_8752 : BitVec 32 := 0#32
  let c1_i32_8751 : BitVec 32 := 1#32
  let v8257 : BitVec 32 := Scalar.muli v1 c1_i32_8751
  let v8258 : BitVec 32 := Scalar.addi c0_i32_8752 v8257
  v8258.toNat
def k0_dev212 (v1 : BitVec 32) : Nat :=
  let c0_i32_8786 : BitVec 32 := 0#32
  let c1_i32_8785 : BitVec 32 := 1#32
  let v8290 : BitVec 32 := Scalar.muli v1 c1_i32_8785
  let v8291 : BitVec 32 := Scalar.addi c0_i32_8786 v8290
  v8291.toNat
def k0_dev213 (v1 : BitVec 32) : Nat :=
  let c0_i32_8820 : BitVec 32 := 0#32
  let c1_i32_8819 : BitVec 32 := 1#32
  let v8323 : BitVec 32 := Scalar.muli v1 c1_i32_8819
  let v8324 : BitVec 32 := Scalar.addi c0_i32_8820 v8323
  v8324.toNat
def k0_dev214 (v1 : BitVec 32) : Nat :=
  let c0_i32_8854 : BitVec 32 := 0#32
  let c1_i32_8853 : BitVec 32 := 1#32
  let v8356 : BitVec 32 := Scalar.muli v1 c1_i32_8853
  let v8357 : BitVec 32 := Scalar.addi c0_i32_8854 v8356
  v8357.toNat
def k0_dev215 (v2 : BitVec 32) : Nat :=
  let c0_i32_8887 : BitVec 32 := 0#32
  let c1_i32_8886 : BitVec 32 := 1#32
  let v8389 : BitVec 32 := Scalar.muli v2 c1_i32_8886
  let v8390 : BitVec 32 := Scalar.addi c0_i32_8887 v8389
  v8390.toNat
def k0_dev216 (v2 : BitVec 32) : Nat :=
  let c0_i32_8921 : BitVec 32 := 0#32
  let c1_i32_8920 : BitVec 32 := 1#32
  let v8422 : BitVec 32 := Scalar.muli v2 c1_i32_8920
  let v8423 : BitVec 32 := Scalar.addi c0_i32_8921 v8422
  v8423.toNat
def k0_dev217 (v2 : BitVec 32) : Nat :=
  let c0_i32_8955 : BitVec 32 := 0#32
  let c1_i32_8954 : BitVec 32 := 1#32
  let v8455 : BitVec 32 := Scalar.muli v2 c1_i32_8954
  let v8456 : BitVec 32 := Scalar.addi c0_i32_8955 v8455
  v8456.toNat
def k0_dev218 (v2 : BitVec 32) : Nat :=
  let c0_i32_8989 : BitVec 32 := 0#32
  let c1_i32_8988 : BitVec 32 := 1#32
  let v8488 : BitVec 32 := Scalar.muli v2 c1_i32_8988
  let v8489 : BitVec 32 := Scalar.addi c0_i32_8989 v8488
  v8489.toNat
def k0_dev219 (v1 : BitVec 32) : Nat :=
  let c0_i32_9023 : BitVec 32 := 0#32
  let c1_i32_9022 : BitVec 32 := 1#32
  let v8521 : BitVec 32 := Scalar.muli v1 c1_i32_9022
  let v8522 : BitVec 32 := Scalar.addi c0_i32_9023 v8521
  v8522.toNat
def k0_dev220 (v1 : BitVec 32) : Nat :=
  let c0_i32_9057 : BitVec 32 := 0#32
  let c1_i32_9056 : BitVec 32 := 1#32
  let v8554 : BitVec 32 := Scalar.muli v1 c1_i32_9056
  let v8555 : BitVec 32 := Scalar.addi c0_i32_9057 v8554
  v8555.toNat
def k0_dev221 (v1 : BitVec 32) : Nat :=
  let c0_i32_9091 : BitVec 32 := 0#32
  let c1_i32_9090 : BitVec 32 := 1#32
  let v8587 : BitVec 32 := Scalar.muli v1 c1_i32_9090
  let v8588 : BitVec 32 := Scalar.addi c0_i32_9091 v8587
  v8588.toNat
def k0_dev222 (v1 : BitVec 32) : Nat :=
  let c0_i32_9125 : BitVec 32 := 0#32
  let c1_i32_9124 : BitVec 32 := 1#32
  let v8620 : BitVec 32 := Scalar.muli v1 c1_i32_9124
  let v8621 : BitVec 32 := Scalar.addi c0_i32_9125 v8620
  v8621.toNat
def k0_dev223 (v2 : BitVec 32) : Nat :=
  let c0_i32_9158 : BitVec 32 := 0#32
  let c1_i32_9157 : BitVec 32 := 1#32
  let v8653 : BitVec 32 := Scalar.muli v2 c1_i32_9157
  let v8654 : BitVec 32 := Scalar.addi c0_i32_9158 v8653
  v8654.toNat
def k0_dev224 (v2 : BitVec 32) : Nat :=
  let c0_i32_9192 : BitVec 32 := 0#32
  let c1_i32_9191 : BitVec 32 := 1#32
  let v8686 : BitVec 32 := Scalar.muli v2 c1_i32_9191
  let v8687 : BitVec 32 := Scalar.addi c0_i32_9192 v8686
  v8687.toNat
def k0_dev225 (v2 : BitVec 32) : Nat :=
  let c0_i32_9226 : BitVec 32 := 0#32
  let c1_i32_9225 : BitVec 32 := 1#32
  let v8719 : BitVec 32 := Scalar.muli v2 c1_i32_9225
  let v8720 : BitVec 32 := Scalar.addi c0_i32_9226 v8719
  v8720.toNat
def k0_dev226 (v2 : BitVec 32) : Nat :=
  let c0_i32_9260 : BitVec 32 := 0#32
  let c1_i32_9259 : BitVec 32 := 1#32
  let v8752 : BitVec 32 := Scalar.muli v2 c1_i32_9259
  let v8753 : BitVec 32 := Scalar.addi c0_i32_9260 v8752
  v8753.toNat
def k0_dev227 (v1 : BitVec 32) : Nat :=
  let c0_i32_9294 : BitVec 32 := 0#32
  let c1_i32_9293 : BitVec 32 := 1#32
  let v8785 : BitVec 32 := Scalar.muli v1 c1_i32_9293
  let v8786 : BitVec 32 := Scalar.addi c0_i32_9294 v8785
  v8786.toNat
def k0_dev228 (v1 : BitVec 32) : Nat :=
  let c0_i32_9328 : BitVec 32 := 0#32
  let c1_i32_9327 : BitVec 32 := 1#32
  let v8818 : BitVec 32 := Scalar.muli v1 c1_i32_9327
  let v8819 : BitVec 32 := Scalar.addi c0_i32_9328 v8818
  v8819.toNat
def k0_dev229 (v1 : BitVec 32) : Nat :=
  let c0_i32_9362 : BitVec 32 := 0#32
  let c1_i32_9361 : BitVec 32 := 1#32
  let v8851 : BitVec 32 := Scalar.muli v1 c1_i32_9361
  let v8852 : BitVec 32 := Scalar.addi c0_i32_9362 v8851
  v8852.toNat
def k0_dev230 (v1 : BitVec 32) : Nat :=
  let c0_i32_9396 : BitVec 32 := 0#32
  let c1_i32_9395 : BitVec 32 := 1#32
  let v8884 : BitVec 32 := Scalar.muli v1 c1_i32_9395
  let v8885 : BitVec 32 := Scalar.addi c0_i32_9396 v8884
  v8885.toNat
def k0_dev231 (v2 : BitVec 32) : Nat :=
  let c0_i32_9429 : BitVec 32 := 0#32
  let c1_i32_9428 : BitVec 32 := 1#32
  let v8917 : BitVec 32 := Scalar.muli v2 c1_i32_9428
  let v8918 : BitVec 32 := Scalar.addi c0_i32_9429 v8917
  v8918.toNat
def k0_dev232 (v2 : BitVec 32) : Nat :=
  let c0_i32_9463 : BitVec 32 := 0#32
  let c1_i32_9462 : BitVec 32 := 1#32
  let v8950 : BitVec 32 := Scalar.muli v2 c1_i32_9462
  let v8951 : BitVec 32 := Scalar.addi c0_i32_9463 v8950
  v8951.toNat
def k0_dev233 (v2 : BitVec 32) : Nat :=
  let c0_i32_9497 : BitVec 32 := 0#32
  let c1_i32_9496 : BitVec 32 := 1#32
  let v8983 : BitVec 32 := Scalar.muli v2 c1_i32_9496
  let v8984 : BitVec 32 := Scalar.addi c0_i32_9497 v8983
  v8984.toNat
def k0_dev234 (v2 : BitVec 32) : Nat :=
  let c0_i32_9531 : BitVec 32 := 0#32
  let c1_i32_9530 : BitVec 32 := 1#32
  let v9016 : BitVec 32 := Scalar.muli v2 c1_i32_9530
  let v9017 : BitVec 32 := Scalar.addi c0_i32_9531 v9016
  v9017.toNat
def k0_dev235 (v1 : BitVec 32) : Nat :=
  let c0_i32_9565 : BitVec 32 := 0#32
  let c1_i32_9564 : BitVec 32 := 1#32
  let v9049 : BitVec 32 := Scalar.muli v1 c1_i32_9564
  let v9050 : BitVec 32 := Scalar.addi c0_i32_9565 v9049
  v9050.toNat
def k0_dev236 (v1 : BitVec 32) : Nat :=
  let c0_i32_9599 : BitVec 32 := 0#32
  let c1_i32_9598 : BitVec 32 := 1#32
  let v9082 : BitVec 32 := Scalar.muli v1 c1_i32_9598
  let v9083 : BitVec 32 := Scalar.addi c0_i32_9599 v9082
  v9083.toNat
def k0_dev237 (v1 : BitVec 32) : Nat :=
  let c0_i32_9633 : BitVec 32 := 0#32
  let c1_i32_9632 : BitVec 32 := 1#32
  let v9115 : BitVec 32 := Scalar.muli v1 c1_i32_9632
  let v9116 : BitVec 32 := Scalar.addi c0_i32_9633 v9115
  v9116.toNat
def k0_dev238 (v1 : BitVec 32) : Nat :=
  let c0_i32_9667 : BitVec 32 := 0#32
  let c1_i32_9666 : BitVec 32 := 1#32
  let v9148 : BitVec 32 := Scalar.muli v1 c1_i32_9666
  let v9149 : BitVec 32 := Scalar.addi c0_i32_9667 v9148
  v9149.toNat

def k0_chk2_0 (v1 : BitVec 32) : Prop :=
  ((k0_dev2 v1) < nD) ∧
  ((k0_dev3 v1) < nD) ∧
  ((k0_dev4 v1) < nD) ∧
  ((k0_dev5 v1) < nD) ∧
  ((k0_dev6 v1) < nD) ∧
  ((k0_dev11 v1) < nD) ∧
  ((k0_dev12 v1) < nD) ∧
  ((k0_dev13 v1) < nD) ∧
  ((k0_dev14 v1) < nD) ∧
  ((k0_dev19 v1) < nD) ∧
  ((k0_dev20 v1) < nD) ∧
  ((k0_dev21 v1) < nD) ∧
  ((k0_dev22 v1) < nD) ∧
  ((k0_dev27 v1) < nD) ∧
  ((k0_dev28 v1) < nD) ∧
  ((k0_dev29 v1) < nD) ∧
  ((k0_dev30 v1) < nD) ∧
  ((k0_dev35 v1) < nD) ∧
  ((k0_dev36 v1) < nD) ∧
  ((k0_dev37 v1) < nD) ∧
  ((k0_dev38 v1) < nD) ∧
  ((k0_dev43 v1) < nD) ∧
  ((k0_dev44 v1) < nD) ∧
  ((k0_dev45 v1) < nD) ∧
  ((k0_dev46 v1) < nD) ∧
  ((k0_dev51 v1) < nD) ∧
  ((k0_dev52 v1) < nD) ∧
  ((k0_dev53 v1) < nD) ∧
  ((k0_dev54 v1) < nD) ∧
  ((k0_dev59 v1) < nD) ∧
  ((k0_dev60 v1) < nD) ∧
  ((k0_dev61 v1) < nD)
def k0_chk2_1 (v1 : BitVec 32) : Prop :=
  ((k0_dev62 v1) < nD) ∧
  ((k0_dev67 v1) < nD) ∧
  ((k0_dev68 v1) < nD) ∧
  ((k0_dev69 v1) < nD) ∧
  ((k0_dev70 v1) < nD) ∧
  ((k0_dev75 v1) < nD) ∧
  ((k0_dev76 v1) < nD) ∧
  ((k0_dev77 v1) < nD) ∧
  ((k0_dev78 v1) < nD) ∧
  ((k0_dev83 v1) < nD) ∧
  ((k0_dev84 v1) < nD) ∧
  ((k0_dev85 v1) < nD) ∧
  ((k0_dev86 v1) < nD) ∧
  ((k0_dev91 v1) < nD) ∧
  ((k0_dev92 v1) < nD) ∧
  ((k0_dev93 v1) < nD) ∧
  ((k0_dev94 v1) < nD) ∧
  ((k0_dev99 v1) < nD) ∧
  ((k0_dev100 v1) < nD) ∧
  ((k0_dev101 v1) < nD) ∧
  ((k0_dev102 v1) < nD) ∧
  ((k0_dev107 v1) < nD) ∧
  ((k0_dev108 v1) < nD) ∧
  ((k0_dev109 v1) < nD) ∧
  ((k0_dev110 v1) < nD) ∧
  ((k0_dev115 v1) < nD) ∧
  ((k0_dev116 v1) < nD) ∧
  ((k0_dev117 v1) < nD) ∧
  ((k0_dev118 v1) < nD) ∧
  ((k0_dev123 v1) < nD) ∧
  ((k0_dev124 v1) < nD) ∧
  ((k0_dev125 v1) < nD)
def k0_chk2_2 (v1 : BitVec 32) : Prop :=
  ((k0_dev126 v1) < nD) ∧
  ((k0_dev131 v1) < nD) ∧
  ((k0_dev132 v1) < nD) ∧
  ((k0_dev133 v1) < nD) ∧
  ((k0_dev134 v1) < nD) ∧
  ((k0_dev139 v1) < nD) ∧
  ((k0_dev140 v1) < nD) ∧
  ((k0_dev141 v1) < nD) ∧
  ((k0_dev142 v1) < nD) ∧
  ((k0_dev147 v1) < nD) ∧
  ((k0_dev148 v1) < nD) ∧
  ((k0_dev149 v1) < nD) ∧
  ((k0_dev150 v1) < nD) ∧
  ((k0_dev155 v1) < nD) ∧
  ((k0_dev156 v1) < nD) ∧
  ((k0_dev157 v1) < nD) ∧
  ((k0_dev158 v1) < nD) ∧
  ((k0_dev163 v1) < nD) ∧
  ((k0_dev164 v1) < nD) ∧
  ((k0_dev165 v1) < nD) ∧
  ((k0_dev166 v1) < nD) ∧
  ((k0_dev171 v1) < nD) ∧
  ((k0_dev172 v1) < nD) ∧
  ((k0_dev173 v1) < nD) ∧
  ((k0_dev174 v1) < nD) ∧
  ((k0_dev179 v1) < nD) ∧
  ((k0_dev180 v1) < nD) ∧
  ((k0_dev181 v1) < nD) ∧
  ((k0_dev182 v1) < nD) ∧
  ((k0_dev187 v1) < nD) ∧
  ((k0_dev188 v1) < nD) ∧
  ((k0_dev189 v1) < nD)
def k0_chk2_3 (v1 : BitVec 32) : Prop :=
  ((k0_dev190 v1) < nD) ∧
  ((k0_dev195 v1) < nD) ∧
  ((k0_dev196 v1) < nD) ∧
  ((k0_dev197 v1) < nD) ∧
  ((k0_dev198 v1) < nD) ∧
  ((k0_dev203 v1) < nD) ∧
  ((k0_dev204 v1) < nD) ∧
  ((k0_dev205 v1) < nD) ∧
  ((k0_dev206 v1) < nD) ∧
  ((k0_dev211 v1) < nD) ∧
  ((k0_dev212 v1) < nD) ∧
  ((k0_dev213 v1) < nD) ∧
  ((k0_dev214 v1) < nD) ∧
  ((k0_dev219 v1) < nD) ∧
  ((k0_dev220 v1) < nD) ∧
  ((k0_dev221 v1) < nD) ∧
  ((k0_dev222 v1) < nD) ∧
  ((k0_dev227 v1) < nD) ∧
  ((k0_dev228 v1) < nD) ∧
  ((k0_dev229 v1) < nD) ∧
  ((k0_dev230 v1) < nD) ∧
  ((k0_dev235 v1) < nD) ∧
  ((k0_dev236 v1) < nD) ∧
  ((k0_dev237 v1) < nD) ∧
  ((k0_dev238 v1) < nD)
def k0_chk2 (v1 : BitVec 32) : Prop :=
  k0_chk2_0 v1 ∧
  k0_chk2_1 v1 ∧
  k0_chk2_2 v1 ∧
  k0_chk2_3 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev4_lt : ∀ (v1 : BitVec 32) (k0_hw2 : k0_chk2 v1), (k0_dev4 v1) < nD := fun v1 k0_hw2 => k0_hw2.1.2.2.1
theorem k0_dev5_lt : ∀ (v1 : BitVec 32) (k0_hw2 : k0_chk2 v1), (k0_dev5 v1) < nD := fun v1 k0_hw2 => k0_hw2.1.2.2.2.1
theorem k0_dev6_lt : ∀ (v1 : BitVec 32) (k0_hw2 : k0_chk2 v1), (k0_dev6 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev12_lt : ∀ (v1 : BitVec 32) (k0_hw2 : k0_chk2 v1), (k0_dev12 v1) < nD := fun v1 k0_hw2 => k0_hw2.1.2.2.2.2.2.2.1
theorem k0_dev13_lt : ∀ (v1 : BitVec 32) (k0_hw2 : k0_chk2 v1), (k0_dev13 v1) < nD := fun v1 k0_hw2 => k0_hw2.1.2.2.2.2.2.2.2.1
theorem k0_dev14_lt : ∀ (v1 : BitVec 32) (k0_hw2 : k0_chk2 v1), (k0_dev14 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev20_lt : ∀ (v1 : BitVec 32) (k0_hw2 : k0_chk2 v1), (k0_dev20 v1) < nD := fun v1 k0_hw2 => k0_hw2.1.2.2.2.2.2.2.2.2.2.2.1
theorem k0_dev21_lt : ∀ (v1 : BitVec 32) (k0_hw2 : k0_chk2 v1), (k0_dev21 v1) < nD := fun v1 k0_hw2 => k0_hw2.1.2.2.2.2.2.2.2.2.2.2.2.1
theorem k0_dev22_lt : ∀ (v1 : BitVec 32) (k0_hw2 : k0_chk2 v1), (k0_dev22 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev28_lt : ∀ (v1 : BitVec 32) (k0_hw2 : k0_chk2 v1), (k0_dev28 v1) < nD := fun v1 k0_hw2 => k0_hw2.1.2.2.2.2.2.2.2.2.2.2.2.2.2.2.1
theorem k0_dev29_lt : ∀ (v1 : BitVec 32) (k0_hw2 : k0_chk2 v1), (k0_dev29 v1) < nD := fun v1 k0_hw2 => k0_hw2.1.2.2.2.2.2.2.2.2.2.2.2.2.2.2.2.1
theorem k0_dev30_lt : ∀ (v1 : BitVec 32) (k0_hw2 : k0_chk2 v1), (k0_dev30 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev36_lt : ∀ (v1 : BitVec 32) (k0_hw2 : k0_chk2 v1), (k0_dev36 v1) < nD := fun v1 k0_hw2 => k0_hw2.1.2.2.2.2.2.2.2.2.2.2.2.2.2.2.2.2.2.2.1
theorem k0_dev37_lt : ∀ (v1 : BitVec 32) (k0_hw2 : k0_chk2 v1), (k0_dev37 v1) < nD := fun v1 k0_hw2 => k0_hw2.1.2.2.2.2.2.2.2.2.2.2.2.2.2.2.2.2.2.2.2.1
theorem k0_dev38_lt : ∀ (v1 : BitVec 32) (k0_hw2 : k0_chk2 v1), (k0_dev38 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev44_lt : ∀ (v1 : BitVec 32) (k0_hw2 : k0_chk2 v1), (k0_dev44 v1) < nD := fun v1 k0_hw2 => k0_hw2.1.2.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.2.1
theorem k0_dev46_lt : ∀ (v1 : BitVec 32) (k0_hw2 : k0_chk2 v1), (k0_dev46 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev52_lt : ∀ (v1 : BitVec 32) (k0_hw2 : k0_chk2 v1), (k0_dev52 v1) < nD := fun v1 k0_hw2 => k0_hw2.1.2.2.2.2.2.2.2.2.2.2.2.2.2.2.2.2.2.2.2.2.2.2.2.2.2.2.1
theorem k0_dev53_lt : ∀ (v1 : BitVec 32) (k0_hw2 : k0_chk2 v1), (k0_dev53 v1) < nD := fun v1 k0_hw2 => k0_hw2.1.2.2.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev60_lt : ∀ (v1 : BitVec 32) (k0_hw2 : k0_chk2 v1), (k0_dev60 v1) < nD := fun v1 k0_hw2 => k0_hw2.1.2.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.2
theorem k0_dev62_lt : ∀ (v1 : BitVec 32) (k0_hw2 : k0_chk2 v1), (k0_dev62 v1) < nD := fun v1 k0_hw2 => k0_hw2.2.1.1
theorem k0_dev67_lt : ∀ (v1 : BitVec 32) (k0_hw2 : k0_chk2 v1), (k0_dev67 v1) < nD := fun v1 k0_hw2 => k0_hw2.2.1.2.1
theorem k0_dev68_lt : ∀ (v1 : BitVec 32) (k0_hw2 : k0_chk2 v1), (k0_dev68 v1) < nD := fun v1 k0_hw2 => k0_hw2.2.1.2.2.1
theorem k0_dev69_lt : ∀ (v1 : BitVec 32) (k0_hw2 : k0_chk2 v1), (k0_dev69 v1) < nD := fun v1 k0_hw2 => k0_hw2.2.1.2.2.2.1
theorem k0_dev70_lt : ∀ (v1 : BitVec 32) (k0_hw2 : k0_chk2 v1), (k0_dev70 v1) < nD := fun v1 k0_hw2 => k0_hw2.2.1.2.2.2.2.1
theorem k0_dev75_lt : ∀ (v1 : BitVec 32) (k0_hw2 : k0_chk2 v1), (k0_dev75 v1) < nD := fun v1 k0_hw2 => k0_hw2.2.1.2.2.2.2.2.1
theorem k0_dev76_lt : ∀ (v1 : BitVec 32) (k0_hw2 : k0_chk2 v1), (k0_dev76 v1) < nD := fun v1 k0_hw2 => k0_hw2.2.1.2.2.2.2.2.2.1
theorem k0_dev77_lt : ∀ (v1 : BitVec 32) (k0_hw2 : k0_chk2 v1), (k0_dev77 v1) < nD := fun v1 k0_hw2 => k0_hw2.2.1.2.2.2.2.2.2.2.1
theorem k0_dev78_lt : ∀ (v1 : BitVec 32) (k0_hw2 : k0_chk2 v1), (k0_dev78 v1) < nD := fun v1 k0_hw2 => k0_hw2.2.1.2.2.2.2.2.2.2.2.1
theorem k0_dev83_lt : ∀ (v1 : BitVec 32) (k0_hw2 : k0_chk2 v1), (k0_dev83 v1) < nD := fun v1 k0_hw2 => k0_hw2.2.1.2.2.2.2.2.2.2.2.2.1
theorem k0_dev84_lt : ∀ (v1 : BitVec 32) (k0_hw2 : k0_chk2 v1), (k0_dev84 v1) < nD := fun v1 k0_hw2 => k0_hw2.2.1.2.2.2.2.2.2.2.2.2.2.1
theorem k0_dev85_lt : ∀ (v1 : BitVec 32) (k0_hw2 : k0_chk2 v1), (k0_dev85 v1) < nD := fun v1 k0_hw2 => k0_hw2.2.1.2.2.2.2.2.2.2.2.2.2.2.1
theorem k0_dev86_lt : ∀ (v1 : BitVec 32) (k0_hw2 : k0_chk2 v1), (k0_dev86 v1) < nD := fun v1 k0_hw2 => k0_hw2.2.1.2.2.2.2.2.2.2.2.2.2.2.2.1
theorem k0_dev91_lt : ∀ (v1 : BitVec 32) (k0_hw2 : k0_chk2 v1), (k0_dev91 v1) < nD := fun v1 k0_hw2 => k0_hw2.2.1.2.2.2.2.2.2.2.2.2.2.2.2.2.1
theorem k0_dev92_lt : ∀ (v1 : BitVec 32) (k0_hw2 : k0_chk2 v1), (k0_dev92 v1) < nD := fun v1 k0_hw2 => k0_hw2.2.1.2.2.2.2.2.2.2.2.2.2.2.2.2.2.1
theorem k0_dev93_lt : ∀ (v1 : BitVec 32) (k0_hw2 : k0_chk2 v1), (k0_dev93 v1) < nD := fun v1 k0_hw2 => k0_hw2.2.1.2.2.2.2.2.2.2.2.2.2.2.2.2.2.2.1
theorem k0_dev94_lt : ∀ (v1 : BitVec 32) (k0_hw2 : k0_chk2 v1), (k0_dev94 v1) < nD := fun v1 k0_hw2 => k0_hw2.2.1.2.2.2.2.2.2.2.2.2.2.2.2.2.2.2.2.1
theorem k0_dev99_lt : ∀ (v1 : BitVec 32) (k0_hw2 : k0_chk2 v1), (k0_dev99 v1) < nD := fun v1 k0_hw2 => k0_hw2.2.1.2.2.2.2.2.2.2.2.2.2.2.2.2.2.2.2.2.1
theorem k0_dev100_lt : ∀ (v1 : BitVec 32) (k0_hw2 : k0_chk2 v1), (k0_dev100 v1) < nD := fun v1 k0_hw2 => k0_hw2.2.1.2.2.2.2.2.2.2.2.2.2.2.2.2.2.2.2.2.2.1
theorem k0_dev101_lt : ∀ (v1 : BitVec 32) (k0_hw2 : k0_chk2 v1), (k0_dev101 v1) < nD := fun v1 k0_hw2 => k0_hw2.2.1.2.2.2.2.2.2.2.2.2.2.2.2.2.2.2.2.2.2.2.1
theorem k0_dev102_lt : ∀ (v1 : BitVec 32) (k0_hw2 : k0_chk2 v1), (k0_dev102 v1) < nD := fun v1 k0_hw2 => k0_hw2.2.1.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.1.2.2.2.2.2.2.2.2.2.2.2.2.2.2.2.2.2.2.2.2.2.1
theorem k0_dev108_lt : ∀ (v1 : BitVec 32) (k0_hw2 : k0_chk2 v1), (k0_dev108 v1) < nD := fun v1 k0_hw2 => k0_hw2.2.1.2.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.1.2.2.2.2.2.2.2.2.2.2.2.2.2.2.2.2.2.2.2.2.2.2.2.1
theorem k0_dev110_lt : ∀ (v1 : BitVec 32) (k0_hw2 : k0_chk2 v1), (k0_dev110 v1) < nD := fun v1 k0_hw2 => k0_hw2.2.1.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.1.2.2.2.2.2.2.2.2.2.2.2.2.2.2.2.2.2.2.2.2.2.2.2.2.2.1
theorem k0_dev116_lt : ∀ (v1 : BitVec 32) (k0_hw2 : k0_chk2 v1), (k0_dev116 v1) < nD := fun v1 k0_hw2 => k0_hw2.2.1.2.2.2.2.2.2.2.2.2.2.2.2.2.2.2.2.2.2.2.2.2.2.2.2.2.2.1
theorem k0_dev117_lt : ∀ (v1 : BitVec 32) (k0_hw2 : k0_chk2 v1), (k0_dev117 v1) < nD := fun v1 k0_hw2 => k0_hw2.2.1.2.2.2.2.2.2.2.2.2.2.2.2.2.2.2.2.2.2.2.2.2.2.2.2.2.2.2.1
theorem k0_dev118_lt : ∀ (v1 : BitVec 32) (k0_hw2 : k0_chk2 v1), (k0_dev118 v1) < nD := fun v1 k0_hw2 => k0_hw2.2.1.2.2.2.2.2.2.2.2.2.2.2.2.2.2.2.2.2.2.2.2.2.2.2.2.2.2.2.2.1
theorem k0_dev123_lt : ∀ (v1 : BitVec 32) (k0_hw2 : k0_chk2 v1), (k0_dev123 v1) < nD := fun v1 k0_hw2 => k0_hw2.2.1.2.2.2.2.2.2.2.2.2.2.2.2.2.2.2.2.2.2.2.2.2.2.2.2.2.2.2.2.2.1
theorem k0_dev124_lt : ∀ (v1 : BitVec 32) (k0_hw2 : k0_chk2 v1), (k0_dev124 v1) < nD := fun v1 k0_hw2 => k0_hw2.2.1.2.2.2.2.2.2.2.2.2.2.2.2.2.2.2.2.2.2.2.2.2.2.2.2.2.2.2.2.2.2.1
theorem k0_dev125_lt : ∀ (v1 : BitVec 32) (k0_hw2 : k0_chk2 v1), (k0_dev125 v1) < nD := fun v1 k0_hw2 => k0_hw2.2.1.2.2.2.2.2.2.2.2.2.2.2.2.2.2.2.2.2.2.2.2.2.2.2.2.2.2.2.2.2.2.2
theorem k0_dev126_lt : ∀ (v1 : BitVec 32) (k0_hw2 : k0_chk2 v1), (k0_dev126 v1) < nD := fun v1 k0_hw2 => k0_hw2.2.2.1.1
theorem k0_dev131_lt : ∀ (v1 : BitVec 32) (k0_hw2 : k0_chk2 v1), (k0_dev131 v1) < nD := fun v1 k0_hw2 => k0_hw2.2.2.1.2.1
theorem k0_dev132_lt : ∀ (v1 : BitVec 32) (k0_hw2 : k0_chk2 v1), (k0_dev132 v1) < nD := fun v1 k0_hw2 => k0_hw2.2.2.1.2.2.1
theorem k0_dev133_lt : ∀ (v1 : BitVec 32) (k0_hw2 : k0_chk2 v1), (k0_dev133 v1) < nD := fun v1 k0_hw2 => k0_hw2.2.2.1.2.2.2.1
theorem k0_dev134_lt : ∀ (v1 : BitVec 32) (k0_hw2 : k0_chk2 v1), (k0_dev134 v1) < nD := fun v1 k0_hw2 => k0_hw2.2.2.1.2.2.2.2.1
theorem k0_dev139_lt : ∀ (v1 : BitVec 32) (k0_hw2 : k0_chk2 v1), (k0_dev139 v1) < nD := fun v1 k0_hw2 => k0_hw2.2.2.1.2.2.2.2.2.1
theorem k0_dev140_lt : ∀ (v1 : BitVec 32) (k0_hw2 : k0_chk2 v1), (k0_dev140 v1) < nD := fun v1 k0_hw2 => k0_hw2.2.2.1.2.2.2.2.2.2.1
theorem k0_dev141_lt : ∀ (v1 : BitVec 32) (k0_hw2 : k0_chk2 v1), (k0_dev141 v1) < nD := fun v1 k0_hw2 => k0_hw2.2.2.1.2.2.2.2.2.2.2.1
theorem k0_dev142_lt : ∀ (v1 : BitVec 32) (k0_hw2 : k0_chk2 v1), (k0_dev142 v1) < nD := fun v1 k0_hw2 => k0_hw2.2.2.1.2.2.2.2.2.2.2.2.1
theorem k0_dev147_lt : ∀ (v1 : BitVec 32) (k0_hw2 : k0_chk2 v1), (k0_dev147 v1) < nD := fun v1 k0_hw2 => k0_hw2.2.2.1.2.2.2.2.2.2.2.2.2.1
theorem k0_dev148_lt : ∀ (v1 : BitVec 32) (k0_hw2 : k0_chk2 v1), (k0_dev148 v1) < nD := fun v1 k0_hw2 => k0_hw2.2.2.1.2.2.2.2.2.2.2.2.2.2.1
theorem k0_dev149_lt : ∀ (v1 : BitVec 32) (k0_hw2 : k0_chk2 v1), (k0_dev149 v1) < nD := fun v1 k0_hw2 => k0_hw2.2.2.1.2.2.2.2.2.2.2.2.2.2.2.1
theorem k0_dev150_lt : ∀ (v1 : BitVec 32) (k0_hw2 : k0_chk2 v1), (k0_dev150 v1) < nD := fun v1 k0_hw2 => k0_hw2.2.2.1.2.2.2.2.2.2.2.2.2.2.2.2.1
theorem k0_dev155_lt : ∀ (v1 : BitVec 32) (k0_hw2 : k0_chk2 v1), (k0_dev155 v1) < nD := fun v1 k0_hw2 => k0_hw2.2.2.1.2.2.2.2.2.2.2.2.2.2.2.2.2.1
theorem k0_dev156_lt : ∀ (v1 : BitVec 32) (k0_hw2 : k0_chk2 v1), (k0_dev156 v1) < nD := fun v1 k0_hw2 => k0_hw2.2.2.1.2.2.2.2.2.2.2.2.2.2.2.2.2.2.1
theorem k0_dev157_lt : ∀ (v1 : BitVec 32) (k0_hw2 : k0_chk2 v1), (k0_dev157 v1) < nD := fun v1 k0_hw2 => k0_hw2.2.2.1.2.2.2.2.2.2.2.2.2.2.2.2.2.2.2.1
theorem k0_dev158_lt : ∀ (v1 : BitVec 32) (k0_hw2 : k0_chk2 v1), (k0_dev158 v1) < nD := fun v1 k0_hw2 => k0_hw2.2.2.1.2.2.2.2.2.2.2.2.2.2.2.2.2.2.2.2.1
theorem k0_dev163_lt : ∀ (v1 : BitVec 32) (k0_hw2 : k0_chk2 v1), (k0_dev163 v1) < nD := fun v1 k0_hw2 => k0_hw2.2.2.1.2.2.2.2.2.2.2.2.2.2.2.2.2.2.2.2.2.1
theorem k0_dev164_lt : ∀ (v1 : BitVec 32) (k0_hw2 : k0_chk2 v1), (k0_dev164 v1) < nD := fun v1 k0_hw2 => k0_hw2.2.2.1.2.2.2.2.2.2.2.2.2.2.2.2.2.2.2.2.2.2.1
theorem k0_dev165_lt : ∀ (v1 : BitVec 32) (k0_hw2 : k0_chk2 v1), (k0_dev165 v1) < nD := fun v1 k0_hw2 => k0_hw2.2.2.1.2.2.2.2.2.2.2.2.2.2.2.2.2.2.2.2.2.2.2.1
theorem k0_dev166_lt : ∀ (v1 : BitVec 32) (k0_hw2 : k0_chk2 v1), (k0_dev166 v1) < nD := fun v1 k0_hw2 => k0_hw2.2.2.1.2.2.2.2.2.2.2.2.2.2.2.2.2.2.2.2.2.2.2.2.1
theorem k0_dev171_lt : ∀ (v1 : BitVec 32) (k0_hw2 : k0_chk2 v1), (k0_dev171 v1) < nD := fun v1 k0_hw2 => k0_hw2.2.2.1.2.2.2.2.2.2.2.2.2.2.2.2.2.2.2.2.2.2.2.2.2.1
theorem k0_dev172_lt : ∀ (v1 : BitVec 32) (k0_hw2 : k0_chk2 v1), (k0_dev172 v1) < nD := fun v1 k0_hw2 => k0_hw2.2.2.1.2.2.2.2.2.2.2.2.2.2.2.2.2.2.2.2.2.2.2.2.2.2.1
theorem k0_dev173_lt : ∀ (v1 : BitVec 32) (k0_hw2 : k0_chk2 v1), (k0_dev173 v1) < nD := fun v1 k0_hw2 => k0_hw2.2.2.1.2.2.2.2.2.2.2.2.2.2.2.2.2.2.2.2.2.2.2.2.2.2.2.1
theorem k0_dev174_lt : ∀ (v1 : BitVec 32) (k0_hw2 : k0_chk2 v1), (k0_dev174 v1) < nD := fun v1 k0_hw2 => k0_hw2.2.2.1.2.2.2.2.2.2.2.2.2.2.2.2.2.2.2.2.2.2.2.2.2.2.2.2.1
theorem k0_dev179_lt : ∀ (v1 : BitVec 32) (k0_hw2 : k0_chk2 v1), (k0_dev179 v1) < nD := fun v1 k0_hw2 => k0_hw2.2.2.1.2.2.2.2.2.2.2.2.2.2.2.2.2.2.2.2.2.2.2.2.2.2.2.2.2.1
theorem k0_dev180_lt : ∀ (v1 : BitVec 32) (k0_hw2 : k0_chk2 v1), (k0_dev180 v1) < nD := fun v1 k0_hw2 => k0_hw2.2.2.1.2.2.2.2.2.2.2.2.2.2.2.2.2.2.2.2.2.2.2.2.2.2.2.2.2.2.1
theorem k0_dev181_lt : ∀ (v1 : BitVec 32) (k0_hw2 : k0_chk2 v1), (k0_dev181 v1) < nD := fun v1 k0_hw2 => k0_hw2.2.2.1.2.2.2.2.2.2.2.2.2.2.2.2.2.2.2.2.2.2.2.2.2.2.2.2.2.2.2.1
theorem k0_dev182_lt : ∀ (v1 : BitVec 32) (k0_hw2 : k0_chk2 v1), (k0_dev182 v1) < nD := fun v1 k0_hw2 => k0_hw2.2.2.1.2.2.2.2.2.2.2.2.2.2.2.2.2.2.2.2.2.2.2.2.2.2.2.2.2.2.2.2.1
theorem k0_dev187_lt : ∀ (v1 : BitVec 32) (k0_hw2 : k0_chk2 v1), (k0_dev187 v1) < nD := fun v1 k0_hw2 => k0_hw2.2.2.1.2.2.2.2.2.2.2.2.2.2.2.2.2.2.2.2.2.2.2.2.2.2.2.2.2.2.2.2.2.1
theorem k0_dev188_lt : ∀ (v1 : BitVec 32) (k0_hw2 : k0_chk2 v1), (k0_dev188 v1) < nD := fun v1 k0_hw2 => k0_hw2.2.2.1.2.2.2.2.2.2.2.2.2.2.2.2.2.2.2.2.2.2.2.2.2.2.2.2.2.2.2.2.2.2.1
theorem k0_dev189_lt : ∀ (v1 : BitVec 32) (k0_hw2 : k0_chk2 v1), (k0_dev189 v1) < nD := fun v1 k0_hw2 => k0_hw2.2.2.1.2.2.2.2.2.2.2.2.2.2.2.2.2.2.2.2.2.2.2.2.2.2.2.2.2.2.2.2.2.2.2
theorem k0_dev190_lt : ∀ (v1 : BitVec 32) (k0_hw2 : k0_chk2 v1), (k0_dev190 v1) < nD := fun v1 k0_hw2 => k0_hw2.2.2.2.1
theorem k0_dev195_lt : ∀ (v1 : BitVec 32) (k0_hw2 : k0_chk2 v1), (k0_dev195 v1) < nD := fun v1 k0_hw2 => k0_hw2.2.2.2.2.1
theorem k0_dev196_lt : ∀ (v1 : BitVec 32) (k0_hw2 : k0_chk2 v1), (k0_dev196 v1) < nD := fun v1 k0_hw2 => k0_hw2.2.2.2.2.2.1
theorem k0_dev197_lt : ∀ (v1 : BitVec 32) (k0_hw2 : k0_chk2 v1), (k0_dev197 v1) < nD := fun v1 k0_hw2 => k0_hw2.2.2.2.2.2.2.1
theorem k0_dev198_lt : ∀ (v1 : BitVec 32) (k0_hw2 : k0_chk2 v1), (k0_dev198 v1) < nD := fun v1 k0_hw2 => k0_hw2.2.2.2.2.2.2.2.1
theorem k0_dev203_lt : ∀ (v1 : BitVec 32) (k0_hw2 : k0_chk2 v1), (k0_dev203 v1) < nD := fun v1 k0_hw2 => k0_hw2.2.2.2.2.2.2.2.2.1
theorem k0_dev204_lt : ∀ (v1 : BitVec 32) (k0_hw2 : k0_chk2 v1), (k0_dev204 v1) < nD := fun v1 k0_hw2 => k0_hw2.2.2.2.2.2.2.2.2.2.1
theorem k0_dev205_lt : ∀ (v1 : BitVec 32) (k0_hw2 : k0_chk2 v1), (k0_dev205 v1) < nD := fun v1 k0_hw2 => k0_hw2.2.2.2.2.2.2.2.2.2.2.1
theorem k0_dev206_lt : ∀ (v1 : BitVec 32) (k0_hw2 : k0_chk2 v1), (k0_dev206 v1) < nD := fun v1 k0_hw2 => k0_hw2.2.2.2.2.2.2.2.2.2.2.2.1
theorem k0_dev211_lt : ∀ (v1 : BitVec 32) (k0_hw2 : k0_chk2 v1), (k0_dev211 v1) < nD := fun v1 k0_hw2 => k0_hw2.2.2.2.2.2.2.2.2.2.2.2.2.1
theorem k0_dev212_lt : ∀ (v1 : BitVec 32) (k0_hw2 : k0_chk2 v1), (k0_dev212 v1) < nD := fun v1 k0_hw2 => k0_hw2.2.2.2.2.2.2.2.2.2.2.2.2.2.1
theorem k0_dev213_lt : ∀ (v1 : BitVec 32) (k0_hw2 : k0_chk2 v1), (k0_dev213 v1) < nD := fun v1 k0_hw2 => k0_hw2.2.2.2.2.2.2.2.2.2.2.2.2.2.2.1
theorem k0_dev214_lt : ∀ (v1 : BitVec 32) (k0_hw2 : k0_chk2 v1), (k0_dev214 v1) < nD := fun v1 k0_hw2 => k0_hw2.2.2.2.2.2.2.2.2.2.2.2.2.2.2.2.1
theorem k0_dev219_lt : ∀ (v1 : BitVec 32) (k0_hw2 : k0_chk2 v1), (k0_dev219 v1) < nD := fun v1 k0_hw2 => k0_hw2.2.2.2.2.2.2.2.2.2.2.2.2.2.2.2.2.1
theorem k0_dev220_lt : ∀ (v1 : BitVec 32) (k0_hw2 : k0_chk2 v1), (k0_dev220 v1) < nD := fun v1 k0_hw2 => k0_hw2.2.2.2.2.2.2.2.2.2.2.2.2.2.2.2.2.2.1
theorem k0_dev221_lt : ∀ (v1 : BitVec 32) (k0_hw2 : k0_chk2 v1), (k0_dev221 v1) < nD := fun v1 k0_hw2 => k0_hw2.2.2.2.2.2.2.2.2.2.2.2.2.2.2.2.2.2.2.1
theorem k0_dev222_lt : ∀ (v1 : BitVec 32) (k0_hw2 : k0_chk2 v1), (k0_dev222 v1) < nD := fun v1 k0_hw2 => k0_hw2.2.2.2.2.2.2.2.2.2.2.2.2.2.2.2.2.2.2.2.1
theorem k0_dev227_lt : ∀ (v1 : BitVec 32) (k0_hw2 : k0_chk2 v1), (k0_dev227 v1) < nD := fun v1 k0_hw2 => k0_hw2.2.2.2.2.2.2.2.2.2.2.2.2.2.2.2.2.2.2.2.2.1
theorem k0_dev228_lt : ∀ (v1 : BitVec 32) (k0_hw2 : k0_chk2 v1), (k0_dev228 v1) < nD := fun v1 k0_hw2 => k0_hw2.2.2.2.2.2.2.2.2.2.2.2.2.2.2.2.2.2.2.2.2.2.1
theorem k0_dev229_lt : ∀ (v1 : BitVec 32) (k0_hw2 : k0_chk2 v1), (k0_dev229 v1) < nD := fun v1 k0_hw2 => k0_hw2.2.2.2.2.2.2.2.2.2.2.2.2.2.2.2.2.2.2.2.2.2.2.1
theorem k0_dev230_lt : ∀ (v1 : BitVec 32) (k0_hw2 : k0_chk2 v1), (k0_dev230 v1) < nD := fun v1 k0_hw2 => k0_hw2.2.2.2.2.2.2.2.2.2.2.2.2.2.2.2.2.2.2.2.2.2.2.2.1
theorem k0_dev235_lt : ∀ (v1 : BitVec 32) (k0_hw2 : k0_chk2 v1), (k0_dev235 v1) < nD := fun v1 k0_hw2 => k0_hw2.2.2.2.2.2.2.2.2.2.2.2.2.2.2.2.2.2.2.2.2.2.2.2.2.1
theorem k0_dev236_lt : ∀ (v1 : BitVec 32) (k0_hw2 : k0_chk2 v1), (k0_dev236 v1) < nD := fun v1 k0_hw2 => k0_hw2.2.2.2.2.2.2.2.2.2.2.2.2.2.2.2.2.2.2.2.2.2.2.2.2.2.1
theorem k0_dev237_lt : ∀ (v1 : BitVec 32) (k0_hw2 : k0_chk2 v1), (k0_dev237 v1) < nD := fun v1 k0_hw2 => k0_hw2.2.2.2.2.2.2.2.2.2.2.2.2.2.2.2.2.2.2.2.2.2.2.2.2.2.2.1
theorem k0_dev238_lt : ∀ (v1 : BitVec 32) (k0_hw2 : k0_chk2 v1), (k0_dev238 v1) < nD := fun v1 k0_hw2 => k0_hw2.2.2.2.2.2.2.2.2.2.2.2.2.2.2.2.2.2.2.2.2.2.2.2.2.2.2.2

def k0_dev239 (v2 : BitVec 32) : Nat :=
  let c0_i32_9700 : BitVec 32 := 0#32
  let c1_i32_9699 : BitVec 32 := 1#32
  let v9181 : BitVec 32 := Scalar.muli v2 c1_i32_9699
  let v9182 : BitVec 32 := Scalar.addi c0_i32_9700 v9181
  v9182.toNat
def k0_dev240 (v2 : BitVec 32) : Nat :=
  let c0_i32_9734 : BitVec 32 := 0#32
  let c1_i32_9733 : BitVec 32 := 1#32
  let v9214 : BitVec 32 := Scalar.muli v2 c1_i32_9733
  let v9215 : BitVec 32 := Scalar.addi c0_i32_9734 v9214
  v9215.toNat
def k0_dev241 (v2 : BitVec 32) : Nat :=
  let c0_i32_9768 : BitVec 32 := 0#32
  let c1_i32_9767 : BitVec 32 := 1#32
  let v9247 : BitVec 32 := Scalar.muli v2 c1_i32_9767
  let v9248 : BitVec 32 := Scalar.addi c0_i32_9768 v9247
  v9248.toNat
def k0_dev242 (v2 : BitVec 32) : Nat :=
  let c0_i32_9802 : BitVec 32 := 0#32
  let c1_i32_9801 : BitVec 32 := 1#32
  let v9280 : BitVec 32 := Scalar.muli v2 c1_i32_9801
  let v9281 : BitVec 32 := Scalar.addi c0_i32_9802 v9280
  v9281.toNat

def k0_chk1_0 (v2 : BitVec 32) : Prop :=
  ((k0_dev1 v2) < nD) ∧
  ((k0_dev7 v2) < nD) ∧
  ((k0_dev8 v2) < nD) ∧
  ((k0_dev9 v2) < nD) ∧
  ((k0_dev10 v2) < nD) ∧
  ((k0_dev15 v2) < nD) ∧
  ((k0_dev16 v2) < nD) ∧
  ((k0_dev17 v2) < nD) ∧
  ((k0_dev18 v2) < nD) ∧
  ((k0_dev23 v2) < nD) ∧
  ((k0_dev24 v2) < nD) ∧
  ((k0_dev25 v2) < nD) ∧
  ((k0_dev26 v2) < nD) ∧
  ((k0_dev31 v2) < nD) ∧
  ((k0_dev32 v2) < nD) ∧
  ((k0_dev33 v2) < nD) ∧
  ((k0_dev34 v2) < nD) ∧
  ((k0_dev39 v2) < nD) ∧
  ((k0_dev40 v2) < nD) ∧
  ((k0_dev41 v2) < nD) ∧
  ((k0_dev42 v2) < nD) ∧
  ((k0_dev47 v2) < nD) ∧
  ((k0_dev48 v2) < nD) ∧
  ((k0_dev49 v2) < nD) ∧
  ((k0_dev50 v2) < nD) ∧
  ((k0_dev55 v2) < nD) ∧
  ((k0_dev56 v2) < nD) ∧
  ((k0_dev57 v2) < nD) ∧
  ((k0_dev58 v2) < nD) ∧
  ((k0_dev63 v2) < nD) ∧
  ((k0_dev64 v2) < nD) ∧
  ((k0_dev65 v2) < nD)
def k0_chk1_1 (v2 : BitVec 32) : Prop :=
  ((k0_dev66 v2) < nD) ∧
  ((k0_dev71 v2) < nD) ∧
  ((k0_dev72 v2) < nD) ∧
  ((k0_dev73 v2) < nD) ∧
  ((k0_dev74 v2) < nD) ∧
  ((k0_dev79 v2) < nD) ∧
  ((k0_dev80 v2) < nD) ∧
  ((k0_dev81 v2) < nD) ∧
  ((k0_dev82 v2) < nD) ∧
  ((k0_dev87 v2) < nD) ∧
  ((k0_dev88 v2) < nD) ∧
  ((k0_dev89 v2) < nD) ∧
  ((k0_dev90 v2) < nD) ∧
  ((k0_dev95 v2) < nD) ∧
  ((k0_dev96 v2) < nD) ∧
  ((k0_dev97 v2) < nD) ∧
  ((k0_dev98 v2) < nD) ∧
  ((k0_dev103 v2) < nD) ∧
  ((k0_dev104 v2) < nD) ∧
  ((k0_dev105 v2) < nD) ∧
  ((k0_dev106 v2) < nD) ∧
  ((k0_dev111 v2) < nD) ∧
  ((k0_dev112 v2) < nD) ∧
  ((k0_dev113 v2) < nD) ∧
  ((k0_dev114 v2) < nD) ∧
  ((k0_dev119 v2) < nD) ∧
  ((k0_dev120 v2) < nD) ∧
  ((k0_dev121 v2) < nD) ∧
  ((k0_dev122 v2) < nD) ∧
  ((k0_dev127 v2) < nD) ∧
  ((k0_dev128 v2) < nD) ∧
  ((k0_dev129 v2) < nD)
def k0_chk1_2 (v2 : BitVec 32) : Prop :=
  ((k0_dev130 v2) < nD) ∧
  ((k0_dev135 v2) < nD) ∧
  ((k0_dev136 v2) < nD) ∧
  ((k0_dev137 v2) < nD) ∧
  ((k0_dev138 v2) < nD) ∧
  ((k0_dev143 v2) < nD) ∧
  ((k0_dev144 v2) < nD) ∧
  ((k0_dev145 v2) < nD) ∧
  ((k0_dev146 v2) < nD) ∧
  ((k0_dev151 v2) < nD) ∧
  ((k0_dev152 v2) < nD) ∧
  ((k0_dev153 v2) < nD) ∧
  ((k0_dev154 v2) < nD) ∧
  ((k0_dev159 v2) < nD) ∧
  ((k0_dev160 v2) < nD) ∧
  ((k0_dev161 v2) < nD) ∧
  ((k0_dev162 v2) < nD) ∧
  ((k0_dev167 v2) < nD) ∧
  ((k0_dev168 v2) < nD) ∧
  ((k0_dev169 v2) < nD) ∧
  ((k0_dev170 v2) < nD) ∧
  ((k0_dev175 v2) < nD) ∧
  ((k0_dev176 v2) < nD) ∧
  ((k0_dev177 v2) < nD) ∧
  ((k0_dev178 v2) < nD) ∧
  ((k0_dev183 v2) < nD) ∧
  ((k0_dev184 v2) < nD) ∧
  ((k0_dev185 v2) < nD) ∧
  ((k0_dev186 v2) < nD) ∧
  ((k0_dev191 v2) < nD) ∧
  ((k0_dev192 v2) < nD) ∧
  ((k0_dev193 v2) < nD)
def k0_chk1_3 (v2 : BitVec 32) : Prop :=
  ((k0_dev194 v2) < nD) ∧
  ((k0_dev199 v2) < nD) ∧
  ((k0_dev200 v2) < nD) ∧
  ((k0_dev201 v2) < nD) ∧
  ((k0_dev202 v2) < nD) ∧
  ((k0_dev207 v2) < nD) ∧
  ((k0_dev208 v2) < nD) ∧
  ((k0_dev209 v2) < nD) ∧
  ((k0_dev210 v2) < nD) ∧
  ((k0_dev215 v2) < nD) ∧
  ((k0_dev216 v2) < nD) ∧
  ((k0_dev217 v2) < nD) ∧
  ((k0_dev218 v2) < nD) ∧
  ((k0_dev223 v2) < nD) ∧
  ((k0_dev224 v2) < nD) ∧
  ((k0_dev225 v2) < nD) ∧
  ((k0_dev226 v2) < nD) ∧
  ((k0_dev231 v2) < nD) ∧
  ((k0_dev232 v2) < nD) ∧
  ((k0_dev233 v2) < nD) ∧
  ((k0_dev234 v2) < nD) ∧
  ((k0_dev239 v2) < nD) ∧
  ((k0_dev240 v2) < nD) ∧
  ((k0_dev241 v2) < nD) ∧
  ((k0_dev242 v2) < nD)
def k0_chk1 (v2 : BitVec 32) : Prop :=
  k0_chk1_0 v2 ∧
  k0_chk1_1 v2 ∧
  k0_chk1_2 v2 ∧
  k0_chk1_3 v2
theorem k0_dev1_lt : ∀ (v2 : BitVec 32) (k0_hw1 : k0_chk1 v2), (k0_dev1 v2) < nD := fun v2 k0_hw1 => k0_hw1.1.1
theorem k0_dev7_lt : ∀ (v2 : BitVec 32) (k0_hw1 : k0_chk1 v2), (k0_dev7 v2) < nD := fun v2 k0_hw1 => k0_hw1.1.2.1
theorem k0_dev8_lt : ∀ (v2 : BitVec 32) (k0_hw1 : k0_chk1 v2), (k0_dev8 v2) < nD := fun v2 k0_hw1 => k0_hw1.1.2.2.1
theorem k0_dev9_lt : ∀ (v2 : BitVec 32) (k0_hw1 : k0_chk1 v2), (k0_dev9 v2) < nD := fun v2 k0_hw1 => k0_hw1.1.2.2.2.1
theorem k0_dev10_lt : ∀ (v2 : BitVec 32) (k0_hw1 : k0_chk1 v2), (k0_dev10 v2) < nD := fun v2 k0_hw1 => k0_hw1.1.2.2.2.2.1
theorem k0_dev15_lt : ∀ (v2 : BitVec 32) (k0_hw1 : k0_chk1 v2), (k0_dev15 v2) < nD := fun v2 k0_hw1 => k0_hw1.1.2.2.2.2.2.1
theorem k0_dev16_lt : ∀ (v2 : BitVec 32) (k0_hw1 : k0_chk1 v2), (k0_dev16 v2) < nD := fun v2 k0_hw1 => k0_hw1.1.2.2.2.2.2.2.1
theorem k0_dev17_lt : ∀ (v2 : BitVec 32) (k0_hw1 : k0_chk1 v2), (k0_dev17 v2) < nD := fun v2 k0_hw1 => k0_hw1.1.2.2.2.2.2.2.2.1
theorem k0_dev18_lt : ∀ (v2 : BitVec 32) (k0_hw1 : k0_chk1 v2), (k0_dev18 v2) < nD := fun v2 k0_hw1 => k0_hw1.1.2.2.2.2.2.2.2.2.1
theorem k0_dev23_lt : ∀ (v2 : BitVec 32) (k0_hw1 : k0_chk1 v2), (k0_dev23 v2) < nD := fun v2 k0_hw1 => k0_hw1.1.2.2.2.2.2.2.2.2.2.1
theorem k0_dev24_lt : ∀ (v2 : BitVec 32) (k0_hw1 : k0_chk1 v2), (k0_dev24 v2) < nD := fun v2 k0_hw1 => k0_hw1.1.2.2.2.2.2.2.2.2.2.2.1
theorem k0_dev25_lt : ∀ (v2 : BitVec 32) (k0_hw1 : k0_chk1 v2), (k0_dev25 v2) < nD := fun v2 k0_hw1 => k0_hw1.1.2.2.2.2.2.2.2.2.2.2.2.1
theorem k0_dev26_lt : ∀ (v2 : BitVec 32) (k0_hw1 : k0_chk1 v2), (k0_dev26 v2) < nD := fun v2 k0_hw1 => k0_hw1.1.2.2.2.2.2.2.2.2.2.2.2.2.1
theorem k0_dev31_lt : ∀ (v2 : BitVec 32) (k0_hw1 : k0_chk1 v2), (k0_dev31 v2) < nD := fun v2 k0_hw1 => k0_hw1.1.2.2.2.2.2.2.2.2.2.2.2.2.2.1
theorem k0_dev32_lt : ∀ (v2 : BitVec 32) (k0_hw1 : k0_chk1 v2), (k0_dev32 v2) < nD := fun v2 k0_hw1 => k0_hw1.1.2.2.2.2.2.2.2.2.2.2.2.2.2.2.1
theorem k0_dev33_lt : ∀ (v2 : BitVec 32) (k0_hw1 : k0_chk1 v2), (k0_dev33 v2) < nD := fun v2 k0_hw1 => k0_hw1.1.2.2.2.2.2.2.2.2.2.2.2.2.2.2.2.1
theorem k0_dev34_lt : ∀ (v2 : BitVec 32) (k0_hw1 : k0_chk1 v2), (k0_dev34 v2) < nD := fun v2 k0_hw1 => k0_hw1.1.2.2.2.2.2.2.2.2.2.2.2.2.2.2.2.2.1
theorem k0_dev39_lt : ∀ (v2 : BitVec 32) (k0_hw1 : k0_chk1 v2), (k0_dev39 v2) < nD := fun v2 k0_hw1 => k0_hw1.1.2.2.2.2.2.2.2.2.2.2.2.2.2.2.2.2.2.1
theorem k0_dev40_lt : ∀ (v2 : BitVec 32) (k0_hw1 : k0_chk1 v2), (k0_dev40 v2) < nD := fun v2 k0_hw1 => k0_hw1.1.2.2.2.2.2.2.2.2.2.2.2.2.2.2.2.2.2.2.1
theorem k0_dev41_lt : ∀ (v2 : BitVec 32) (k0_hw1 : k0_chk1 v2), (k0_dev41 v2) < nD := fun v2 k0_hw1 => k0_hw1.1.2.2.2.2.2.2.2.2.2.2.2.2.2.2.2.2.2.2.2.1
theorem k0_dev42_lt : ∀ (v2 : BitVec 32) (k0_hw1 : k0_chk1 v2), (k0_dev42 v2) < nD := fun v2 k0_hw1 => k0_hw1.1.2.2.2.2.2.2.2.2.2.2.2.2.2.2.2.2.2.2.2.2.1
theorem k0_dev47_lt : ∀ (v2 : BitVec 32) (k0_hw1 : k0_chk1 v2), (k0_dev47 v2) < nD := fun v2 k0_hw1 => k0_hw1.1.2.2.2.2.2.2.2.2.2.2.2.2.2.2.2.2.2.2.2.2.2.1
theorem k0_dev48_lt : ∀ (v2 : BitVec 32) (k0_hw1 : k0_chk1 v2), (k0_dev48 v2) < nD := fun v2 k0_hw1 => k0_hw1.1.2.2.2.2.2.2.2.2.2.2.2.2.2.2.2.2.2.2.2.2.2.2.1
theorem k0_dev49_lt : ∀ (v2 : BitVec 32) (k0_hw1 : k0_chk1 v2), (k0_dev49 v2) < nD := fun v2 k0_hw1 => k0_hw1.1.2.2.2.2.2.2.2.2.2.2.2.2.2.2.2.2.2.2.2.2.2.2.2.1
theorem k0_dev50_lt : ∀ (v2 : BitVec 32) (k0_hw1 : k0_chk1 v2), (k0_dev50 v2) < nD := fun v2 k0_hw1 => k0_hw1.1.2.2.2.2.2.2.2.2.2.2.2.2.2.2.2.2.2.2.2.2.2.2.2.2.1
theorem k0_dev55_lt : ∀ (v2 : BitVec 32) (k0_hw1 : k0_chk1 v2), (k0_dev55 v2) < nD := fun v2 k0_hw1 => k0_hw1.1.2.2.2.2.2.2.2.2.2.2.2.2.2.2.2.2.2.2.2.2.2.2.2.2.2.1
theorem k0_dev56_lt : ∀ (v2 : BitVec 32) (k0_hw1 : k0_chk1 v2), (k0_dev56 v2) < nD := fun v2 k0_hw1 => k0_hw1.1.2.2.2.2.2.2.2.2.2.2.2.2.2.2.2.2.2.2.2.2.2.2.2.2.2.2.1
theorem k0_dev57_lt : ∀ (v2 : BitVec 32) (k0_hw1 : k0_chk1 v2), (k0_dev57 v2) < nD := fun v2 k0_hw1 => k0_hw1.1.2.2.2.2.2.2.2.2.2.2.2.2.2.2.2.2.2.2.2.2.2.2.2.2.2.2.2.1
theorem k0_dev58_lt : ∀ (v2 : BitVec 32) (k0_hw1 : k0_chk1 v2), (k0_dev58 v2) < nD := fun v2 k0_hw1 => k0_hw1.1.2.2.2.2.2.2.2.2.2.2.2.2.2.2.2.2.2.2.2.2.2.2.2.2.2.2.2.2.1
theorem k0_dev63_lt : ∀ (v2 : BitVec 32) (k0_hw1 : k0_chk1 v2), (k0_dev63 v2) < nD := fun v2 k0_hw1 => k0_hw1.1.2.2.2.2.2.2.2.2.2.2.2.2.2.2.2.2.2.2.2.2.2.2.2.2.2.2.2.2.2.1
theorem k0_dev64_lt : ∀ (v2 : BitVec 32) (k0_hw1 : k0_chk1 v2), (k0_dev64 v2) < nD := fun v2 k0_hw1 => k0_hw1.1.2.2.2.2.2.2.2.2.2.2.2.2.2.2.2.2.2.2.2.2.2.2.2.2.2.2.2.2.2.2.1
theorem k0_dev65_lt : ∀ (v2 : BitVec 32) (k0_hw1 : k0_chk1 v2), (k0_dev65 v2) < nD := fun v2 k0_hw1 => k0_hw1.1.2.2.2.2.2.2.2.2.2.2.2.2.2.2.2.2.2.2.2.2.2.2.2.2.2.2.2.2.2.2.2
theorem k0_dev66_lt : ∀ (v2 : BitVec 32) (k0_hw1 : k0_chk1 v2), (k0_dev66 v2) < nD := fun v2 k0_hw1 => k0_hw1.2.1.1
theorem k0_dev71_lt : ∀ (v2 : BitVec 32) (k0_hw1 : k0_chk1 v2), (k0_dev71 v2) < nD := fun v2 k0_hw1 => k0_hw1.2.1.2.1
theorem k0_dev72_lt : ∀ (v2 : BitVec 32) (k0_hw1 : k0_chk1 v2), (k0_dev72 v2) < nD := fun v2 k0_hw1 => k0_hw1.2.1.2.2.1
theorem k0_dev73_lt : ∀ (v2 : BitVec 32) (k0_hw1 : k0_chk1 v2), (k0_dev73 v2) < nD := fun v2 k0_hw1 => k0_hw1.2.1.2.2.2.1
theorem k0_dev74_lt : ∀ (v2 : BitVec 32) (k0_hw1 : k0_chk1 v2), (k0_dev74 v2) < nD := fun v2 k0_hw1 => k0_hw1.2.1.2.2.2.2.1
theorem k0_dev79_lt : ∀ (v2 : BitVec 32) (k0_hw1 : k0_chk1 v2), (k0_dev79 v2) < nD := fun v2 k0_hw1 => k0_hw1.2.1.2.2.2.2.2.1
theorem k0_dev80_lt : ∀ (v2 : BitVec 32) (k0_hw1 : k0_chk1 v2), (k0_dev80 v2) < nD := fun v2 k0_hw1 => k0_hw1.2.1.2.2.2.2.2.2.1
theorem k0_dev81_lt : ∀ (v2 : BitVec 32) (k0_hw1 : k0_chk1 v2), (k0_dev81 v2) < nD := fun v2 k0_hw1 => k0_hw1.2.1.2.2.2.2.2.2.2.1
theorem k0_dev82_lt : ∀ (v2 : BitVec 32) (k0_hw1 : k0_chk1 v2), (k0_dev82 v2) < nD := fun v2 k0_hw1 => k0_hw1.2.1.2.2.2.2.2.2.2.2.1
theorem k0_dev87_lt : ∀ (v2 : BitVec 32) (k0_hw1 : k0_chk1 v2), (k0_dev87 v2) < nD := fun v2 k0_hw1 => k0_hw1.2.1.2.2.2.2.2.2.2.2.2.1
theorem k0_dev88_lt : ∀ (v2 : BitVec 32) (k0_hw1 : k0_chk1 v2), (k0_dev88 v2) < nD := fun v2 k0_hw1 => k0_hw1.2.1.2.2.2.2.2.2.2.2.2.2.1
theorem k0_dev89_lt : ∀ (v2 : BitVec 32) (k0_hw1 : k0_chk1 v2), (k0_dev89 v2) < nD := fun v2 k0_hw1 => k0_hw1.2.1.2.2.2.2.2.2.2.2.2.2.2.1
theorem k0_dev90_lt : ∀ (v2 : BitVec 32) (k0_hw1 : k0_chk1 v2), (k0_dev90 v2) < nD := fun v2 k0_hw1 => k0_hw1.2.1.2.2.2.2.2.2.2.2.2.2.2.2.1
theorem k0_dev95_lt : ∀ (v2 : BitVec 32) (k0_hw1 : k0_chk1 v2), (k0_dev95 v2) < nD := fun v2 k0_hw1 => k0_hw1.2.1.2.2.2.2.2.2.2.2.2.2.2.2.2.1
theorem k0_dev96_lt : ∀ (v2 : BitVec 32) (k0_hw1 : k0_chk1 v2), (k0_dev96 v2) < nD := fun v2 k0_hw1 => k0_hw1.2.1.2.2.2.2.2.2.2.2.2.2.2.2.2.2.1
theorem k0_dev97_lt : ∀ (v2 : BitVec 32) (k0_hw1 : k0_chk1 v2), (k0_dev97 v2) < nD := fun v2 k0_hw1 => k0_hw1.2.1.2.2.2.2.2.2.2.2.2.2.2.2.2.2.2.1
theorem k0_dev98_lt : ∀ (v2 : BitVec 32) (k0_hw1 : k0_chk1 v2), (k0_dev98 v2) < nD := fun v2 k0_hw1 => k0_hw1.2.1.2.2.2.2.2.2.2.2.2.2.2.2.2.2.2.2.1
theorem k0_dev103_lt : ∀ (v2 : BitVec 32) (k0_hw1 : k0_chk1 v2), (k0_dev103 v2) < nD := fun v2 k0_hw1 => k0_hw1.2.1.2.2.2.2.2.2.2.2.2.2.2.2.2.2.2.2.2.1
theorem k0_dev104_lt : ∀ (v2 : BitVec 32) (k0_hw1 : k0_chk1 v2), (k0_dev104 v2) < nD := fun v2 k0_hw1 => k0_hw1.2.1.2.2.2.2.2.2.2.2.2.2.2.2.2.2.2.2.2.2.1
theorem k0_dev105_lt : ∀ (v2 : BitVec 32) (k0_hw1 : k0_chk1 v2), (k0_dev105 v2) < nD := fun v2 k0_hw1 => k0_hw1.2.1.2.2.2.2.2.2.2.2.2.2.2.2.2.2.2.2.2.2.2.1
theorem k0_dev106_lt : ∀ (v2 : BitVec 32) (k0_hw1 : k0_chk1 v2), (k0_dev106 v2) < nD := fun v2 k0_hw1 => k0_hw1.2.1.2.2.2.2.2.2.2.2.2.2.2.2.2.2.2.2.2.2.2.2.1
theorem k0_dev111_lt : ∀ (v2 : BitVec 32) (k0_hw1 : k0_chk1 v2), (k0_dev111 v2) < nD := fun v2 k0_hw1 => k0_hw1.2.1.2.2.2.2.2.2.2.2.2.2.2.2.2.2.2.2.2.2.2.2.2.1
theorem k0_dev112_lt : ∀ (v2 : BitVec 32) (k0_hw1 : k0_chk1 v2), (k0_dev112 v2) < nD := fun v2 k0_hw1 => k0_hw1.2.1.2.2.2.2.2.2.2.2.2.2.2.2.2.2.2.2.2.2.2.2.2.2.1
theorem k0_dev113_lt : ∀ (v2 : BitVec 32) (k0_hw1 : k0_chk1 v2), (k0_dev113 v2) < nD := fun v2 k0_hw1 => k0_hw1.2.1.2.2.2.2.2.2.2.2.2.2.2.2.2.2.2.2.2.2.2.2.2.2.2.1
theorem k0_dev114_lt : ∀ (v2 : BitVec 32) (k0_hw1 : k0_chk1 v2), (k0_dev114 v2) < nD := fun v2 k0_hw1 => k0_hw1.2.1.2.2.2.2.2.2.2.2.2.2.2.2.2.2.2.2.2.2.2.2.2.2.2.2.1
theorem k0_dev119_lt : ∀ (v2 : BitVec 32) (k0_hw1 : k0_chk1 v2), (k0_dev119 v2) < nD := fun v2 k0_hw1 => k0_hw1.2.1.2.2.2.2.2.2.2.2.2.2.2.2.2.2.2.2.2.2.2.2.2.2.2.2.2.1
theorem k0_dev120_lt : ∀ (v2 : BitVec 32) (k0_hw1 : k0_chk1 v2), (k0_dev120 v2) < nD := fun v2 k0_hw1 => k0_hw1.2.1.2.2.2.2.2.2.2.2.2.2.2.2.2.2.2.2.2.2.2.2.2.2.2.2.2.2.1
theorem k0_dev121_lt : ∀ (v2 : BitVec 32) (k0_hw1 : k0_chk1 v2), (k0_dev121 v2) < nD := fun v2 k0_hw1 => k0_hw1.2.1.2.2.2.2.2.2.2.2.2.2.2.2.2.2.2.2.2.2.2.2.2.2.2.2.2.2.2.1
theorem k0_dev122_lt : ∀ (v2 : BitVec 32) (k0_hw1 : k0_chk1 v2), (k0_dev122 v2) < nD := fun v2 k0_hw1 => k0_hw1.2.1.2.2.2.2.2.2.2.2.2.2.2.2.2.2.2.2.2.2.2.2.2.2.2.2.2.2.2.2.1
theorem k0_dev127_lt : ∀ (v2 : BitVec 32) (k0_hw1 : k0_chk1 v2), (k0_dev127 v2) < nD := fun v2 k0_hw1 => k0_hw1.2.1.2.2.2.2.2.2.2.2.2.2.2.2.2.2.2.2.2.2.2.2.2.2.2.2.2.2.2.2.2.1
theorem k0_dev128_lt : ∀ (v2 : BitVec 32) (k0_hw1 : k0_chk1 v2), (k0_dev128 v2) < nD := fun v2 k0_hw1 => k0_hw1.2.1.2.2.2.2.2.2.2.2.2.2.2.2.2.2.2.2.2.2.2.2.2.2.2.2.2.2.2.2.2.2.1
theorem k0_dev129_lt : ∀ (v2 : BitVec 32) (k0_hw1 : k0_chk1 v2), (k0_dev129 v2) < nD := fun v2 k0_hw1 => k0_hw1.2.1.2.2.2.2.2.2.2.2.2.2.2.2.2.2.2.2.2.2.2.2.2.2.2.2.2.2.2.2.2.2.2
theorem k0_dev130_lt : ∀ (v2 : BitVec 32) (k0_hw1 : k0_chk1 v2), (k0_dev130 v2) < nD := fun v2 k0_hw1 => k0_hw1.2.2.1.1
theorem k0_dev135_lt : ∀ (v2 : BitVec 32) (k0_hw1 : k0_chk1 v2), (k0_dev135 v2) < nD := fun v2 k0_hw1 => k0_hw1.2.2.1.2.1
theorem k0_dev136_lt : ∀ (v2 : BitVec 32) (k0_hw1 : k0_chk1 v2), (k0_dev136 v2) < nD := fun v2 k0_hw1 => k0_hw1.2.2.1.2.2.1
theorem k0_dev137_lt : ∀ (v2 : BitVec 32) (k0_hw1 : k0_chk1 v2), (k0_dev137 v2) < nD := fun v2 k0_hw1 => k0_hw1.2.2.1.2.2.2.1
theorem k0_dev138_lt : ∀ (v2 : BitVec 32) (k0_hw1 : k0_chk1 v2), (k0_dev138 v2) < nD := fun v2 k0_hw1 => k0_hw1.2.2.1.2.2.2.2.1
theorem k0_dev143_lt : ∀ (v2 : BitVec 32) (k0_hw1 : k0_chk1 v2), (k0_dev143 v2) < nD := fun v2 k0_hw1 => k0_hw1.2.2.1.2.2.2.2.2.1
theorem k0_dev144_lt : ∀ (v2 : BitVec 32) (k0_hw1 : k0_chk1 v2), (k0_dev144 v2) < nD := fun v2 k0_hw1 => k0_hw1.2.2.1.2.2.2.2.2.2.1
theorem k0_dev145_lt : ∀ (v2 : BitVec 32) (k0_hw1 : k0_chk1 v2), (k0_dev145 v2) < nD := fun v2 k0_hw1 => k0_hw1.2.2.1.2.2.2.2.2.2.2.1
theorem k0_dev146_lt : ∀ (v2 : BitVec 32) (k0_hw1 : k0_chk1 v2), (k0_dev146 v2) < nD := fun v2 k0_hw1 => k0_hw1.2.2.1.2.2.2.2.2.2.2.2.1
theorem k0_dev151_lt : ∀ (v2 : BitVec 32) (k0_hw1 : k0_chk1 v2), (k0_dev151 v2) < nD := fun v2 k0_hw1 => k0_hw1.2.2.1.2.2.2.2.2.2.2.2.2.1
theorem k0_dev152_lt : ∀ (v2 : BitVec 32) (k0_hw1 : k0_chk1 v2), (k0_dev152 v2) < nD := fun v2 k0_hw1 => k0_hw1.2.2.1.2.2.2.2.2.2.2.2.2.2.1
theorem k0_dev153_lt : ∀ (v2 : BitVec 32) (k0_hw1 : k0_chk1 v2), (k0_dev153 v2) < nD := fun v2 k0_hw1 => k0_hw1.2.2.1.2.2.2.2.2.2.2.2.2.2.2.1
theorem k0_dev154_lt : ∀ (v2 : BitVec 32) (k0_hw1 : k0_chk1 v2), (k0_dev154 v2) < nD := fun v2 k0_hw1 => k0_hw1.2.2.1.2.2.2.2.2.2.2.2.2.2.2.2.1
theorem k0_dev159_lt : ∀ (v2 : BitVec 32) (k0_hw1 : k0_chk1 v2), (k0_dev159 v2) < nD := fun v2 k0_hw1 => k0_hw1.2.2.1.2.2.2.2.2.2.2.2.2.2.2.2.2.1
theorem k0_dev160_lt : ∀ (v2 : BitVec 32) (k0_hw1 : k0_chk1 v2), (k0_dev160 v2) < nD := fun v2 k0_hw1 => k0_hw1.2.2.1.2.2.2.2.2.2.2.2.2.2.2.2.2.2.1
theorem k0_dev161_lt : ∀ (v2 : BitVec 32) (k0_hw1 : k0_chk1 v2), (k0_dev161 v2) < nD := fun v2 k0_hw1 => k0_hw1.2.2.1.2.2.2.2.2.2.2.2.2.2.2.2.2.2.2.1
theorem k0_dev162_lt : ∀ (v2 : BitVec 32) (k0_hw1 : k0_chk1 v2), (k0_dev162 v2) < nD := fun v2 k0_hw1 => k0_hw1.2.2.1.2.2.2.2.2.2.2.2.2.2.2.2.2.2.2.2.1
theorem k0_dev167_lt : ∀ (v2 : BitVec 32) (k0_hw1 : k0_chk1 v2), (k0_dev167 v2) < nD := fun v2 k0_hw1 => k0_hw1.2.2.1.2.2.2.2.2.2.2.2.2.2.2.2.2.2.2.2.2.1
theorem k0_dev168_lt : ∀ (v2 : BitVec 32) (k0_hw1 : k0_chk1 v2), (k0_dev168 v2) < nD := fun v2 k0_hw1 => k0_hw1.2.2.1.2.2.2.2.2.2.2.2.2.2.2.2.2.2.2.2.2.2.1
theorem k0_dev169_lt : ∀ (v2 : BitVec 32) (k0_hw1 : k0_chk1 v2), (k0_dev169 v2) < nD := fun v2 k0_hw1 => k0_hw1.2.2.1.2.2.2.2.2.2.2.2.2.2.2.2.2.2.2.2.2.2.2.1
theorem k0_dev170_lt : ∀ (v2 : BitVec 32) (k0_hw1 : k0_chk1 v2), (k0_dev170 v2) < nD := fun v2 k0_hw1 => k0_hw1.2.2.1.2.2.2.2.2.2.2.2.2.2.2.2.2.2.2.2.2.2.2.2.1
theorem k0_dev175_lt : ∀ (v2 : BitVec 32) (k0_hw1 : k0_chk1 v2), (k0_dev175 v2) < nD := fun v2 k0_hw1 => k0_hw1.2.2.1.2.2.2.2.2.2.2.2.2.2.2.2.2.2.2.2.2.2.2.2.2.1
theorem k0_dev176_lt : ∀ (v2 : BitVec 32) (k0_hw1 : k0_chk1 v2), (k0_dev176 v2) < nD := fun v2 k0_hw1 => k0_hw1.2.2.1.2.2.2.2.2.2.2.2.2.2.2.2.2.2.2.2.2.2.2.2.2.2.1
theorem k0_dev177_lt : ∀ (v2 : BitVec 32) (k0_hw1 : k0_chk1 v2), (k0_dev177 v2) < nD := fun v2 k0_hw1 => k0_hw1.2.2.1.2.2.2.2.2.2.2.2.2.2.2.2.2.2.2.2.2.2.2.2.2.2.2.1
theorem k0_dev178_lt : ∀ (v2 : BitVec 32) (k0_hw1 : k0_chk1 v2), (k0_dev178 v2) < nD := fun v2 k0_hw1 => k0_hw1.2.2.1.2.2.2.2.2.2.2.2.2.2.2.2.2.2.2.2.2.2.2.2.2.2.2.2.1
theorem k0_dev183_lt : ∀ (v2 : BitVec 32) (k0_hw1 : k0_chk1 v2), (k0_dev183 v2) < nD := fun v2 k0_hw1 => k0_hw1.2.2.1.2.2.2.2.2.2.2.2.2.2.2.2.2.2.2.2.2.2.2.2.2.2.2.2.2.1
theorem k0_dev184_lt : ∀ (v2 : BitVec 32) (k0_hw1 : k0_chk1 v2), (k0_dev184 v2) < nD := fun v2 k0_hw1 => k0_hw1.2.2.1.2.2.2.2.2.2.2.2.2.2.2.2.2.2.2.2.2.2.2.2.2.2.2.2.2.2.1
theorem k0_dev185_lt : ∀ (v2 : BitVec 32) (k0_hw1 : k0_chk1 v2), (k0_dev185 v2) < nD := fun v2 k0_hw1 => k0_hw1.2.2.1.2.2.2.2.2.2.2.2.2.2.2.2.2.2.2.2.2.2.2.2.2.2.2.2.2.2.2.1
theorem k0_dev186_lt : ∀ (v2 : BitVec 32) (k0_hw1 : k0_chk1 v2), (k0_dev186 v2) < nD := fun v2 k0_hw1 => k0_hw1.2.2.1.2.2.2.2.2.2.2.2.2.2.2.2.2.2.2.2.2.2.2.2.2.2.2.2.2.2.2.2.1
theorem k0_dev191_lt : ∀ (v2 : BitVec 32) (k0_hw1 : k0_chk1 v2), (k0_dev191 v2) < nD := fun v2 k0_hw1 => k0_hw1.2.2.1.2.2.2.2.2.2.2.2.2.2.2.2.2.2.2.2.2.2.2.2.2.2.2.2.2.2.2.2.2.1
theorem k0_dev192_lt : ∀ (v2 : BitVec 32) (k0_hw1 : k0_chk1 v2), (k0_dev192 v2) < nD := fun v2 k0_hw1 => k0_hw1.2.2.1.2.2.2.2.2.2.2.2.2.2.2.2.2.2.2.2.2.2.2.2.2.2.2.2.2.2.2.2.2.2.1
theorem k0_dev193_lt : ∀ (v2 : BitVec 32) (k0_hw1 : k0_chk1 v2), (k0_dev193 v2) < nD := fun v2 k0_hw1 => k0_hw1.2.2.1.2.2.2.2.2.2.2.2.2.2.2.2.2.2.2.2.2.2.2.2.2.2.2.2.2.2.2.2.2.2.2
theorem k0_dev194_lt : ∀ (v2 : BitVec 32) (k0_hw1 : k0_chk1 v2), (k0_dev194 v2) < nD := fun v2 k0_hw1 => k0_hw1.2.2.2.1
theorem k0_dev199_lt : ∀ (v2 : BitVec 32) (k0_hw1 : k0_chk1 v2), (k0_dev199 v2) < nD := fun v2 k0_hw1 => k0_hw1.2.2.2.2.1
theorem k0_dev200_lt : ∀ (v2 : BitVec 32) (k0_hw1 : k0_chk1 v2), (k0_dev200 v2) < nD := fun v2 k0_hw1 => k0_hw1.2.2.2.2.2.1
theorem k0_dev201_lt : ∀ (v2 : BitVec 32) (k0_hw1 : k0_chk1 v2), (k0_dev201 v2) < nD := fun v2 k0_hw1 => k0_hw1.2.2.2.2.2.2.1
theorem k0_dev202_lt : ∀ (v2 : BitVec 32) (k0_hw1 : k0_chk1 v2), (k0_dev202 v2) < nD := fun v2 k0_hw1 => k0_hw1.2.2.2.2.2.2.2.1
theorem k0_dev207_lt : ∀ (v2 : BitVec 32) (k0_hw1 : k0_chk1 v2), (k0_dev207 v2) < nD := fun v2 k0_hw1 => k0_hw1.2.2.2.2.2.2.2.2.1
theorem k0_dev208_lt : ∀ (v2 : BitVec 32) (k0_hw1 : k0_chk1 v2), (k0_dev208 v2) < nD := fun v2 k0_hw1 => k0_hw1.2.2.2.2.2.2.2.2.2.1
theorem k0_dev209_lt : ∀ (v2 : BitVec 32) (k0_hw1 : k0_chk1 v2), (k0_dev209 v2) < nD := fun v2 k0_hw1 => k0_hw1.2.2.2.2.2.2.2.2.2.2.1
theorem k0_dev210_lt : ∀ (v2 : BitVec 32) (k0_hw1 : k0_chk1 v2), (k0_dev210 v2) < nD := fun v2 k0_hw1 => k0_hw1.2.2.2.2.2.2.2.2.2.2.2.1
theorem k0_dev215_lt : ∀ (v2 : BitVec 32) (k0_hw1 : k0_chk1 v2), (k0_dev215 v2) < nD := fun v2 k0_hw1 => k0_hw1.2.2.2.2.2.2.2.2.2.2.2.2.1
theorem k0_dev216_lt : ∀ (v2 : BitVec 32) (k0_hw1 : k0_chk1 v2), (k0_dev216 v2) < nD := fun v2 k0_hw1 => k0_hw1.2.2.2.2.2.2.2.2.2.2.2.2.2.1
theorem k0_dev217_lt : ∀ (v2 : BitVec 32) (k0_hw1 : k0_chk1 v2), (k0_dev217 v2) < nD := fun v2 k0_hw1 => k0_hw1.2.2.2.2.2.2.2.2.2.2.2.2.2.2.1
theorem k0_dev218_lt : ∀ (v2 : BitVec 32) (k0_hw1 : k0_chk1 v2), (k0_dev218 v2) < nD := fun v2 k0_hw1 => k0_hw1.2.2.2.2.2.2.2.2.2.2.2.2.2.2.2.1
theorem k0_dev223_lt : ∀ (v2 : BitVec 32) (k0_hw1 : k0_chk1 v2), (k0_dev223 v2) < nD := fun v2 k0_hw1 => k0_hw1.2.2.2.2.2.2.2.2.2.2.2.2.2.2.2.2.1
theorem k0_dev224_lt : ∀ (v2 : BitVec 32) (k0_hw1 : k0_chk1 v2), (k0_dev224 v2) < nD := fun v2 k0_hw1 => k0_hw1.2.2.2.2.2.2.2.2.2.2.2.2.2.2.2.2.2.1
theorem k0_dev225_lt : ∀ (v2 : BitVec 32) (k0_hw1 : k0_chk1 v2), (k0_dev225 v2) < nD := fun v2 k0_hw1 => k0_hw1.2.2.2.2.2.2.2.2.2.2.2.2.2.2.2.2.2.2.1
theorem k0_dev226_lt : ∀ (v2 : BitVec 32) (k0_hw1 : k0_chk1 v2), (k0_dev226 v2) < nD := fun v2 k0_hw1 => k0_hw1.2.2.2.2.2.2.2.2.2.2.2.2.2.2.2.2.2.2.2.1
theorem k0_dev231_lt : ∀ (v2 : BitVec 32) (k0_hw1 : k0_chk1 v2), (k0_dev231 v2) < nD := fun v2 k0_hw1 => k0_hw1.2.2.2.2.2.2.2.2.2.2.2.2.2.2.2.2.2.2.2.2.1
theorem k0_dev232_lt : ∀ (v2 : BitVec 32) (k0_hw1 : k0_chk1 v2), (k0_dev232 v2) < nD := fun v2 k0_hw1 => k0_hw1.2.2.2.2.2.2.2.2.2.2.2.2.2.2.2.2.2.2.2.2.2.1
theorem k0_dev233_lt : ∀ (v2 : BitVec 32) (k0_hw1 : k0_chk1 v2), (k0_dev233 v2) < nD := fun v2 k0_hw1 => k0_hw1.2.2.2.2.2.2.2.2.2.2.2.2.2.2.2.2.2.2.2.2.2.2.1
theorem k0_dev234_lt : ∀ (v2 : BitVec 32) (k0_hw1 : k0_chk1 v2), (k0_dev234 v2) < nD := fun v2 k0_hw1 => k0_hw1.2.2.2.2.2.2.2.2.2.2.2.2.2.2.2.2.2.2.2.2.2.2.2.1
theorem k0_dev239_lt : ∀ (v2 : BitVec 32) (k0_hw1 : k0_chk1 v2), (k0_dev239 v2) < nD := fun v2 k0_hw1 => k0_hw1.2.2.2.2.2.2.2.2.2.2.2.2.2.2.2.2.2.2.2.2.2.2.2.2.1
theorem k0_dev240_lt : ∀ (v2 : BitVec 32) (k0_hw1 : k0_chk1 v2), (k0_dev240 v2) < nD := fun v2 k0_hw1 => k0_hw1.2.2.2.2.2.2.2.2.2.2.2.2.2.2.2.2.2.2.2.2.2.2.2.2.2.1
theorem k0_dev241_lt : ∀ (v2 : BitVec 32) (k0_hw1 : k0_chk1 v2), (k0_dev241 v2) < nD := fun v2 k0_hw1 => k0_hw1.2.2.2.2.2.2.2.2.2.2.2.2.2.2.2.2.2.2.2.2.2.2.2.2.2.2.1
theorem k0_dev242_lt : ∀ (v2 : BitVec 32) (k0_hw1 : k0_chk1 v2), (k0_dev242 v2) < nD := fun v2 k0_hw1 => k0_hw1.2.2.2.2.2.2.2.2.2.2.2.2.2.2.2.2.2.2.2.2.2.2.2.2.2.2.2

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32768x1024 : Shape := ⟨2, ![32768, 1024]⟩
abbrev S16x2048x1024 : Shape := ⟨3, ![16, 2048, 1024]⟩
abbrev S_ : Shape := ⟨0, ![]⟩
abbrev S2048x1024 : Shape := ⟨2, ![2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x2048x1024, .f32⟩
  | .hbm, ⟨2, _⟩ => ⟨S_, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Steps.lean ====
/-
  The steps of the body, and what each of them uses and leaves.

  A device's share of the protocol is a stock of pieces: chunks and slots it holds, leave to write a neighbour's, the right
  to pay a round of a semaphore, units to wait with. Every step takes some pieces and leaves others. That the 840 steps,
  in their order, always find the pieces they take, and never wait for something that may depend on what they still owe,
  is a finite check.
-/
module

public import Mathlib.Data.Fin.Basic
public import Mathlib.Data.List.Perm.Basic
public import Mathlib.Data.Nat.Bitwise
public import Mathlib.Tactic.DeriveFintype
public import Mathlib.Data.Fintype.Sum
public import Mathlib.Data.Fintype.Sigma

@[expose] public section

namespace Cert.Ring

/-! ## The steps -/

/-- One step of the body. `r` is the ring, `h` the hop. -/
inductive Op
  /-- First round trip: send the chunk of hop `h` to the neighbour's slot of that hop. -/
  | send (r : Fin 8) (h : Fin 15)
  /-- First round trip: wait for the neighbour's chunk of hop `h`. -/
  | recv (r : Fin 8) (h : Fin 15)
  /-- Add what arrived at hop `h` to the device's own chunk, into the output array. -/
  | acc (r : Fin 8) (h : Fin 15)
  /-- The same at the last hop, followed by the activation. -/
  | fin (r : Fin 8)
  /-- First round trip: wait until the chunk of hop `h` has left. -/
  | sent (r : Fin 8) (h : Fin 15)
  /-- Second round trip: send the finished chunk of hop `g` into the same place on the neighbour. -/
  | send' (r : Fin 8) (g : Fin 15)
  /-- Second round trip: wait for the neighbour's finished chunk of hop `g`. -/
  | recv' (r : Fin 8) (g : Fin 15)
  /-- Second round trip: wait until the chunk of hop `g` has left. -/
  | sent' (r : Fin 8) (g : Fin 15)

/-! ## The body's steps in order -/

/-- The eight rings. -/
def rings : List (Fin 8) := [0, 1, 2, 3, 4, 5, 6, 7]
/-- Hops 1 to 14 of the first round trip, each taking in hop `h - 1`. -/
def laterHops : List (Fin 14) := [0, 1, 2, 3, 4, 5, 6, 7, 8, 9, 10, 11, 12, 13]

/-- Ring `r`, hop `h + 1` of the first round trip. -/
def rsOps (h : Fin 14) (r : Fin 8) : List Op :=
  [.recv r h.castSucc, .acc r h.castSucc] ++ (if h.val = 0 then [] else [.sent r ⟨h.val - 1, by omega⟩]) ++ [.send r h.succ]
/-- Ring `r`, hop `g + 1` of the second round trip. -/
def agOps (g : Fin 14) (r : Fin 8) : List Op :=
  [.recv' r g.castSucc] ++ (if g.val = 0 then [] else [.sent' r ⟨g.val - 1, by omega⟩]) ++ [.send' r g.succ]

/-- Every step of the body after the entry handshake. -/
def ops : List Op :=
  rings.map (.send · 0)
    ++ (laterHops.flatMap fun h => rings.flatMap (rsOps h))
    ++ (rings.flatMap fun r => [.recv r 14, .fin r])
    ++ (rings.flatMap fun r => [.sent r 13, .sent r 14])
    ++ rings.map (.send' · 0)
    ++ (laterHops.flatMap fun g => rings.flatMap (agOps g))
    ++ (rings.flatMap fun r => [.recv' r 14, .sent' r 13, .sent' r 14])

/-! ## Hops, turns and rounds -/

/-- A ring that runs the other way. -/
def pair (r : Fin 8) : Fin 8 := r + 4

/-- Hop `h` as a turn. -/
abbrev tn (h : Fin 15) : Fin 16 := h.castSucc
/-- The turn after hop `h`. -/
abbrev tnS (h : Fin 15) : Fin 16 := h.succ
/-- The turn of the finished chunk that hop `g` of the second round trip sends. -/
def tnB (g : Fin 15) : Fin 16 := tn g - 1

/-- A hop's parity. -/
def par (h : Fin 15) : Fin 2 := ⟨h.val % 2, Nat.mod_lt _ (by decide)⟩

/-- The round of a leaving semaphore that hop `h` of the first round trip pays. -/
def rnd (h : Fin 15) : ℕ := h.val / 2
/-- The round of a leaving semaphore that hop `g` of the second round trip pays. -/
def rnd' (g : Fin 15) : ℕ := 8 - g.val % 2 + g.val / 2

/-- The hops whose leave comes with the first hop of the second round trip. -/
def later : List (Fin 15) := [2, 3, 4, 5, 6, 7, 8, 9, 10, 11, 12, 13, 14]
/-- The hops. -/
def hops : List (Fin 15) := [0, 1, 2, 3, 4, 5, 6, 7, 8, 9, 10, 11, 12, 13, 14]

/-! ## Order -/

/-- The arrival a step pays: its ring, hop and round trip. -/
def pays : Op → Option (Fin 8 × Fin 15 × Fin 2)
  | .send r h => some (r, h, 0)
  | .send' r g => some (r, g, 1)
  | _ => none

/-- The level of what a step pays. -/
def payLevel (op : Op) : Option ℕ := (pays op).map fun x => if x.2.2 = 0 then 2 + x.2.1.val else 17 + x.2.1.val

/-- Everything the steps `l` pay lies above level `b`. -/
def above (b : ℕ) (l : List Op) : Bool := l.all fun op => match payLevel op with | some v => decide (b < v) | none => true

/-! ## Pieces -/

/-- A piece of what device holds between steps. -/
inductive Atom
  /-- the input's chunk of turn `i` -/
  | xc (r : Fin 8) (i : Fin 16)
  /-- the output's chunk of turn `i`, at any contents -/
  | oAny (r : Fin 8) (i : Fin 16)
  /-- the output's chunk of turn `i`, at its partial sum -/
  | oPart (r : Fin 8) (i : Fin 16)
  /-- the output's chunk of turn `i`, finished -/
  | oRes (r : Fin 8) (i : Fin 16)
  /-- leave to write the neighbour's slot -/
  | nSlot (r : Fin 8) (h : Fin 15)
  /-- the own slot with what arrived -/
  | got (r : Fin 8) (h : Fin 15)
  /-- leave to write the neighbour's chunk -/
  | nOut (r : Fin 8) (g : Fin 15)
  /-- the own landing semaphore stands at round `n` -/
  | rp (r : Fin 8) (h : Fin 15) (n : Fin 3)
  /-- the own leaving semaphore stands at round `n` -/
  | sp (r : Fin 8) (p : Fin 2) (n : Fin 17)
  /-- the right to pay round `n` of the own leaving semaphore -/
  | tS (r : Fin 8) (p : Fin 2) (n : Fin 16)
  /-- the right to pay round `n` of the neighbour's landing semaphore -/
  | tR (r : Fin 8) (h : Fin 15) (n : Fin 2)
  /-- the units to wait with on the own landing semaphore -/
  | cR (r : Fin 8) (h : Fin 15) (n : Fin 2)
  /-- the units to wait with on the own leaving semaphore -/
  | cS (r : Fin 8) (p : Fin 2)
  deriving DecidableEq, Fintype

/-- The round of the leaving semaphore that hop `h` of the first round trip uses. -/
abbrev nS (h : Fin 15) : Fin 16 := Fin.ofNat 16 (rnd h)
/-- The round of the leaving semaphore that hop `g` of the second round trip uses. -/
abbrev nS' (g : Fin 15) : Fin 16 := Fin.ofNat 16 (rnd' g)

/-- What a step uses. -/
def pre : Op → List Atom
  | .send r h => [.tS r (par h) (nS h), .tR r h 0, .nSlot r h, .sp r (par h) (nS h).castSucc]
      ++ ((if h.val = 0 then [.xc r 0] else [.oPart r (tn h)])
        ++ (if h.val = 14 then [.oAny (pair r) 0, .oPart (pair r) 1, .rp (pair r) 0 1, .rp (pair r) 1 1] else []))
  | .recv r h => [.cR r h 0, .rp r h 0]
  | .acc r h => [.xc r (tnS h), .oAny r (tnS h), .got r h]
  | .fin r => [.xc r 15, .oAny r 15, .got r 14]
  | .sent r h => [.cS r (par h), .sp r (par h) (nS h).castSucc]
  | .send' r g => [.tS r (par g) (nS' g), .tR r g 1, .nOut r g, .sp r (par g) (nS' g).castSucc, .oRes r (tnB g)]
      ++ (if g.val = 0 then (later.map fun g' => Atom.oPart (pair r) (tn g')) ++ (later.map fun g' => Atom.rp (pair r) g' 1) else [])
  | .recv' r g => [.cR r g 1, .rp r g 1]
  | .sent' r g => [.cS r (par g), .sp r (par g) (nS' g).castSucc]

/-- What a step leaves. -/
def post : Op → List Atom
  | .send r h => [.cS r (par h), .sp r (par h) (nS h).castSucc]
      ++ (if h.val = 14 then [.rp (pair r) 0 1, .rp (pair r) 1 1] else [])
  | .recv r h => [.got r h, .rp r h 1] ++ (if h.val = 14 then [.nOut (pair r) 0, .nOut (pair r) 1] else [])
  | .acc r h => [.got r h, .xc r (tnS h), .oPart r (tnS h)]
  | .fin r => [.got r 14, .xc r 15, .oRes r 15]
  | .sent r h => [.sp r (par h) (nS h).succ, if h.val = 0 then .xc r (tn h) else .oPart r (tn h)]
  | .send' r g => [.cS r (par g), .sp r (par g) (nS' g).castSucc]
      ++ (if g.val = 0 then later.map fun g' => Atom.rp (pair r) g' 1 else [])
  | .recv' r g => [.oRes r (tn g), .rp r g 2] ++ (if g.val = 0 then later.map fun g' => Atom.nOut (pair r) g' else [])
  | .sent' r g => [.sp r (par g) (nS' g).succ, .oRes r (tnB g)]

/-- The level of a step's wait. -/
def waitLevel : Op → Option ℕ
  | .recv _ h => some (2 + h.val)
  | .recv' _ g => some (17 + g.val)
  | .sent _ _ => some 0
  | .sent' _ _ => some 0
  | _ => none

/-! ## The bookkeeping of a run

A stock of pieces is written as a number, one binary digit per piece. -/

/-- The digit of a piece, from its kind, its ring and its two counters. -/
def code4 (t r x y : ℕ) : ℕ := t + 13 * (r + 8 * (x + 17 * y))

/-- The digit of a piece. -/
def code : Atom → ℕ
  | .xc r i => code4 0 r.val i.val 0
  | .oAny r i => code4 1 r.val i.val 0
  | .oPart r i => code4 2 r.val i.val 0
  | .oRes r i => code4 3 r.val i.val 0
  | .nSlot r h => code4 4 r.val h.val 0
  | .got r h => code4 5 r.val h.val 0
  | .nOut r g => code4 6 r.val g.val 0
  | .rp r h n => code4 7 r.val h.val n.val
  | .sp r p n => code4 8 r.val p.val n.val
  | .tS r p n => code4 9 r.val p.val n.val
  | .tR r h n => code4 10 r.val h.val n.val
  | .cR r h n => code4 11 r.val h.val n.val
  | .cS r p => code4 12 r.val p.val 0

/-- Four small numbers are read off their common code. -/
theorem code4_inj {t r x y t' r' x' y' : ℕ} (ht : t < 13) (ht' : t' < 13) (hr : r < 8) (hr' : r' < 8) (hx : x < 17) (hx' : x' < 17)
    (h : code4 t r x y = code4 t' r' x' y') : t = t' ∧ r = r' ∧ x = x' ∧ y = y' := by
  unfold code4 at h; omega

/-- Different pieces have different digits. -/
theorem code_inj : Function.Injective code := by
  intro a b h
  cases a <;> cases b <;>
    (obtain ⟨h1, h2, h3, h4⟩ := code4_inj (by omega) (by omega) (by omega) (by omega) (by omega) (by omega) h) <;>
    first
    | exact absurd h1 (by decide)
    | (congr 1 <;> exact Fin.ext (by assumption))

/-- A list of pieces as a number. -/
def mask : List Atom → ℕ
  | [] => 0
  | a :: l => 2 ^ code a ||| mask l

/-- A digit of a list's mask is set exactly if its piece is on the list. -/
theorem testBit_mask (a : Atom) : ∀ l : List Atom, (mask l).testBit (code a) = decide (a ∈ l)
  | [] => by simp [mask]
  | b :: l => by
    rw [mask, Nat.testBit_or, Nat.testBit_two_pow, testBit_mask a l]
    by_cases hb : a = b
    · subst hb; simp
    · have : code b ≠ code a := fun h => hb (code_inj h).symm
      simp [hb, this]

/-- The pieces a number stands for. -/
def stock (m : ℕ) : Finset Atom := Finset.univ.filter fun a => m.testBit (code a) = true

/-- A piece is in a stock exactly if its digit is set. -/
theorem mem_stock {m : ℕ} {a : Atom} : a ∈ stock m ↔ m.testBit (code a) = true := by
  unfold stock; rw [Finset.mem_filter]; exact ⟨fun h => h.2, fun h => ⟨Finset.mem_univ _, h⟩⟩

/-- The stock of a list's mask is the list's pieces. -/
theorem stock_mask (l : List Atom) : stock (mask l) = l.toFinset := by
  ext a; rw [mem_stock, testBit_mask, decide_eq_true_iff, List.mem_toFinset]

/-- A stock that contains the pieces `l` is those and the rest. -/
theorem stock_take (m : ℕ) (l : List Atom) (h : m &&& mask l = mask l) :
    stock m = l.toFinset ∪ stock (m ^^^ mask l) ∧ Disjoint l.toFinset (stock (m ^^^ mask l)) := by
  have key : ∀ a : Atom, a ∈ l → m.testBit (code a) = true := fun a ha => by
    have e := congrArg (fun x => x.testBit (code a)) h
    rw [Nat.testBit_and, testBit_mask, decide_eq_true ha, Bool.and_true] at e
    exact e
  constructor
  · ext a
    rw [Finset.mem_union, mem_stock, mem_stock, List.mem_toFinset, Nat.testBit_xor, testBit_mask]
    by_cases ha : a ∈ l
    · simp [ha, key a ha]
    · simp [ha]
  · rw [Finset.disjoint_left]
    intro a ha hs
    rw [List.mem_toFinset] at ha
    rw [mem_stock, Nat.testBit_xor, testBit_mask, decide_eq_true ha, key a ha] at hs
    exact absurd hs (by decide)

/-- New pieces put to a stock. -/
theorem stock_put (m : ℕ) (l : List Atom) (h : m &&& mask l = 0) :
    stock (m ||| mask l) = l.toFinset ∪ stock m ∧ Disjoint l.toFinset (stock m) := by
  constructor
  · ext a
    rw [Finset.mem_union, mem_stock, mem_stock, List.mem_toFinset, Nat.testBit_or, testBit_mask]
    by_cases ha : a ∈ l <;> simp [ha]
  · rw [Finset.disjoint_left]
    intro a ha hs
    rw [List.mem_toFinset] at ha
    rw [mem_stock] at hs
    have e := congrArg (fun x => x.testBit (code a)) h
    rw [Nat.testBit_and, testBit_mask, decide_eq_true ha, hs, Nat.zero_testBit] at e
    exact absurd e (by decide)

/-- Run through the steps: every step finds the pieces it takes, leaves pieces that are not there yet, and waits below all
    that is still owed; at the end the stock is `e`. -/
def replay (e : ℕ) : List Op → ℕ → Bool
  | [], m => m == e
  | op :: ops, m =>
    (m &&& mask (pre op) == mask (pre op)) && ((m ^^^ mask (pre op)) &&& mask (post op) == 0)
      && decide (pre op).Nodup && decide (post op).Nodup
      && (match waitLevel op with | some b => above b ops | none => true)
      && replay e ops ((m ^^^ mask (pre op)) ||| mask (post op))

/-- The turns. -/
def turns : List (Fin 16) := [0, 1, 2, 3, 4, 5, 6, 7, 8, 9, 10, 11, 12, 13, 14, 15]

/-- The rounds of a leaving semaphore. -/
def rounds (p : Fin 2) : List (Fin 16) := if p = 0 then turns else turns.take 14

/-- What one ring needs at the start. -/
def start₁ (r : Fin 8) : List Atom :=
  turns.map (Atom.xc r) ++ turns.map (Atom.oAny r) ++ hops.map (Atom.nSlot r) ++ hops.map (Atom.rp r · 0) ++ [.sp r 0 0, .sp r 1 0]
    ++ (rounds 0).map (Atom.tS r 0) ++ (rounds 1).map (Atom.tS r 1) ++ hops.map (Atom.tR r · 0) ++ hops.map (Atom.tR r · 1)
    ++ hops.map (Atom.cR r · 0) ++ hops.map (Atom.cR r · 1)
/-- What stands at the start. -/
def start : List Atom := rings.flatMap start₁

/-- What is left of one ring at the end. -/
def finish₁ (r : Fin 8) : List Atom :=
  turns.map (Atom.xc r) ++ turns.map (Atom.oRes r) ++ hops.map (Atom.got r) ++ hops.map (Atom.rp r · 2) ++ [.sp r 0 16, .sp r 1 14]
/-- What is left at the end. -/
def finish : List Atom := rings.flatMap finish₁

/-- No piece is listed twice, or is in the stock `m`. -/
def distinct : List Atom → ℕ → Bool
  | [], _ => true
  | a :: l, m => !m.testBit (code a) && distinct l (m ||| 2 ^ code a)

/-- The check `distinct` answers as it says. -/
theorem nodup_of_distinct : ∀ (l : List Atom) (m : ℕ), distinct l m = true → l.Nodup ∧ ∀ a ∈ l, m.testBit (code a) = false
  | [], _, _ => ⟨List.nodup_nil, fun _ h => absurd h List.not_mem_nil⟩
  | a :: l, m, h => by
    rw [distinct, Bool.and_eq_true, Bool.not_eq_true'] at h
    obtain ⟨h1, h2⟩ := nodup_of_distinct l _ h.2
    have h3 : ∀ b ∈ l, m.testBit (code b) = false ∧ code a ≠ code b := fun b hb => by
      have e := h2 b hb
      rw [Nat.testBit_or, Nat.testBit_two_pow, Bool.or_eq_false_iff, decide_eq_false_iff_not] at e
      exact e
    refine ⟨List.nodup_cons.mpr ⟨fun ha => (h3 a ha).2 rfl, h1⟩, fun b hb => ?_⟩
    rcases List.mem_cons.mp hb with rfl | hb
    · exact h.1
    · exact (h3 b hb).1

set_option maxRecDepth 100000 in
/-- Every step finds what it uses, and the end is as it should be. -/
theorem replay_ops : replay (mask finish) ops (mask start) = true := by decide +kernel

/-! ## The pieces by kind -/

/-- The places of the chunks: ring and turn. -/
def chunks : List (Fin 8 × Fin 16) := rings.flatMap fun r => turns.map fun i => (r, i)
/-- The places of the landing slots: ring and hop. -/
def slots : List (Fin 8 × Fin 15) := rings.flatMap fun r => hops.map fun h => (r, h)
/-- The leaving semaphores: ring and parity. -/
def leaves : List (Fin 8 × Fin 2) := rings.flatMap fun r => [(r, 0), (r, 1)]

/-- The rings whose slots the barrier unit of payer `d` hands over: payer 0 is the right neighbour. -/
def ringsOf (d : Fin 2) : List (Fin 8) := if d = 0 then [0, 1, 2, 3] else [4, 5, 6, 7]
/-- The slots the barrier unit of payer `d` hands over. -/
def slotsOf (d : Fin 2) : List (Fin 8 × Fin 15) := (ringsOf d).flatMap fun r => hops.map fun h => (r, h)

/-- The rights to pay that a device starts with. -/
def rights : List Atom :=
  chunks.map (fun x => Atom.tS x.1 0 x.2) ++ (rings.flatMap fun r => (rounds 1).map (Atom.tS r 1))
    ++ slots.map (fun x => Atom.tR x.1 x.2 0) ++ slots.map (fun x => Atom.tR x.1 x.2 1)

/-- What stands at the start, by kind, but for the neighbours' slots. -/
def startOwn : List Atom :=
  chunks.map (fun x => Atom.xc x.1 x.2) ++ (chunks.map (fun x => Atom.oAny x.1 x.2) ++ (slots.map (fun x => Atom.rp x.1 x.2 0)
    ++ (leaves.map (fun x => Atom.sp x.1 x.2 0) ++ (rights ++ (slots.map (fun x => Atom.cR x.1 x.2 0) ++ slots.map (fun x => Atom.cR x.1 x.2 1))))))
/-- The neighbours' slots. -/
def startSlots (d : Fin 2) : List Atom := (slotsOf d).map fun x => Atom.nSlot x.1 x.2
/-- What is left at the end, by kind. -/
def finishOwn : List Atom :=
  chunks.map (fun x => Atom.xc x.1 x.2) ++ (chunks.map (fun x => Atom.oRes x.1 x.2) ++ (slots.map (fun x => Atom.got x.1 x.2)
    ++ (slots.map (fun x => Atom.rp x.1 x.2 2) ++ (rings.map (Atom.sp · 0 16) ++ rings.map (Atom.sp · 1 14)))))

set_option maxRecDepth 100000 in
/-- The pieces of the start, sorted by kind, are those of the start, none twice. -/
theorem start_kinds : mask start = mask (startOwn ++ (startSlots 0 ++ startSlots 1))
    ∧ distinct (startOwn ++ (startSlots 0 ++ startSlots 1)) 0 = true := by decide +kernel
set_option maxRecDepth 100000 in
/-- The pieces of the end, sorted by kind, are those of the end, none twice. -/
theorem finish_kinds : mask finish = mask finishOwn ∧ distinct finishOwn 0 = true := by decide +kernel

/-- The stock of the start, by kind. -/
theorem stock_start : stock (mask start) = (startOwn ++ (startSlots 0 ++ startSlots 1)).toFinset ∧ (startOwn ++ (startSlots 0 ++ startSlots 1)).Nodup :=
  ⟨by rw [start_kinds.1, stock_mask], (nodup_of_distinct _ _ start_kinds.2).1⟩
/-- The stock of the end, by kind. -/
theorem stock_finish : stock (mask finish) = finishOwn.toFinset ∧ finishOwn.Nodup :=
  ⟨by rw [finish_kinds.1, stock_mask], (nodup_of_distinct _ _ finish_kinds.2).1⟩

end Cert.Ring
-- ==== Proof.KernelIdeal.Code.lean ====
/-
  The kernel's body as a list of steps.

  The printed body is one straight run of about 1200 memory operations, cut into parts of sixty statements.
  Here the same run is written the way the source writes it: for every ring `r` and hop `h` a send, a wait for what
  arrives, an accumulation, a wait for what was sent; then the activation on the chunk the device owns; then the
  second round trip, which carries finished chunks. `body_eq` says the two are the same program.
-/
module

public import proofs.«01_k».proof.Proof.Steps
public import proofs.«01_k».proof.Proof.Gen.KernelIdeal.Skeleton
public import proofs.«01_k».proof.Proof.Gen.KernelIdeal.Launch
public import Idealize.ShloMosaic.Lib.Rounds
public import Idealize.ShloMosaic.Lib.Tactic

@[expose] public section

noncomputable section

namespace Cert.KernelIdeal.Ring

open Idealize.ShloMosaic Idealize.ShloMosaic.TcCoe Cert.KernelIdeal.Gen Cert.Ring
open Idealize.SL.Sem

variable {F : FTy → Type} [FloatOps F]

/-! ## Which chunk a step works on -/

/-- Added to a device's ring position (modulo 16): the chunk of ring `r` it sends at hop `h` of the first round trip. -/
def rsC (r : Fin 8) (h : Fin 15) : Fin 30 := if r.val < 4 then ⟨16 - h.val, by omega⟩ else ⟨h.val, by omega⟩
/-- Added to a device's ring position (modulo 16): the chunk of ring `r` that arrives at hop `h` of the first round trip. -/
def rsD (r : Fin 8) (h : Fin 15) : Fin 30 := if r.val < 4 then ⟨15 - h.val, by omega⟩ else ⟨h.val + 1, by omega⟩
/-- Added to a device's ring position (modulo 16): the chunk of ring `r` it sends at hop `g` of the second round trip. -/
def agC (r : Fin 8) (g : Fin 15) : Fin 30 := if r.val < 4 then ⟨17 - g.val, by omega⟩ else ⟨15 + g.val, by omega⟩

/-- The first row of the chunk `c` places on from ring position `p`, in the band of ring `r`. -/
def row (p : ℕ) (r : Fin 8) (c : ℕ) : ℕ := 256 * r.val + 16 * ((p + c) % 16)

set_option maxRecDepth 4000 in
/-- The kernel's row arithmetic, on the positions and steps that occur. -/
theorem off1_eq : ∀ (p : Fin 16) (r : Fin 8) (c : Fin 30),
    k0_off1 (BitVec.ofNat 32 p.val) (BitVec.ofNat 32 (256 * r.val)) (BitVec.ofNat 32 c.val) = ![row p.val r c.val, 0] := by
  decide +kernel

/-- The same arithmetic, as the loads and stores spell it. -/
theorem off2_eq (v a c : BitVec 32) : k0_off2 v a c = k0_off1 v a c := rfl

/-! ## The operands of a step -/

/-- Every chunk the steps name lies within the array. -/
def Inb (v0 : BitVec 32) : Prop :=
  ∀ (r : Fin 8) (c : Fin 30) (a : Fin 2),
    k0_off1 v0 (BitVec.ofNat 32 (256 * r.val)) (BitVec.ofNat 32 c.val) a + S16x1024.size a ≤ S2048x1024.size a

/-- A hop's slot of the landing buffer lies within it. -/
theorem slot_inb (r : Fin 8) (h : Fin 15) :
    ∀ a, (![r.val, h.val, 0, 0] : Fin 4 → Nat) a + S1x1x16x1024.size a ≤ S8x15x16x1024.size a := by
  revert r h; decide
/-- A landing semaphore lies within its table. -/
theorem recv_inb (r : Fin 8) (h : Fin 15) : ∀ a, (![r.val, h.val] : Fin 2 → Nat) a + S1x1.size a ≤ S8x15.size a := by
  revert r h; decide
/-- A leaving semaphore lies within its table. -/
theorem send_inb (r : Fin 8) (h : Fin 15) : ∀ a, (![r.val, h.val % 2] : Fin 2 → Nat) a + S1x1.size a ≤ S8x2.size a := by
  revert r h; decide

/-- The rectangle of a chunk. -/
abbrev chunkR (v0 : BitVec 32) (hv : Inb v0) (r : Fin 8) (c : Fin 30) : Rect S2048x1024 :=
  Rect.unit (s := S2048x1024) (k0_off1 v0 (BitVec.ofNat 32 (256 * r.val)) (BitVec.ofNat 32 c.val)) S16x1024.size (hv r c)
/-- The rectangle of a hop's landing slot. -/
abbrev slotR (r : Fin 8) (h : Fin 15) : Rect S8x15x16x1024 :=
  Rect.unit (s := S8x15x16x1024) ![r.val, h.val, 0, 0] S1x1x16x1024.size (slot_inb r h)

/-- One of the kernel's two large buffers cut to a chunk. -/
abbrev chunk (a : Memref sig .tc .vmem S2048x1024 .f32) (v0 : BitVec 32) (hv : Inb v0) (r : Fin 8) (c : Fin 30) :
    Memref sig .tc .vmem S16x1024 .f32 :=
  a.slice (chunkR v0 hv r c) (fun _ => rfl)
/-- The landing slot of a hop, as a plain 16 by 1024 block. -/
abbrev slot (a : Memref sig .tc .vmem S8x15x16x1024 .f32) (r : Fin 8) (h : Fin 15) : Memref sig .tc .vmem S16x1024 .f32 :=
  (a.slice (slotR r h) (fun _ => rfl)).squeeze S16x1024 squeezes_S1x1x16x1024_S16x1024

/-- The semaphore that counts what arrives at a hop. -/
abbrev recvOf (a : DmaSems sig S8x15) (r : Fin 8) (h : Fin 15) : DmaSem sig :=
  ((a.slice (Rect.unit (s := S8x15) ![r.val, h.val] S1x1.size (recv_inb r h))).squeeze S_ squeezes_S1x1_S_).sem
/-- The semaphore that counts what has left at a hop: one per parity of the hop. -/
abbrev sendOf (a : DmaSems sig S8x2) (r : Fin 8) (h : Fin 15) : DmaSem sig :=
  ((a.slice (Rect.unit (s := S8x2) ![r.val, h.val % 2] S1x1.size (send_inb r h))).squeeze S_ squeezes_S1x1_S_).sem

/-! ## The values the body computes -/

/-- The device's own chunk plus what has arrived. -/
def accum (x : Vec F S16x1024 .f32) (y : Vec F S1x1x16x1024 .f32) : Vec F S16x1024 .f32 :=
  addf (shapeCast S16x1024 x shapeCasts_S16x1024_S16x1024) (shapeCast S16x1024 y shapeCasts_S1x1x16x1024_S16x1024)

/-- The activation of a finished sum, elementwise: `tanh s * s * s + max(s, 0) ^ 3`. -/
def activate (s : FVec F S16x1024 .f32) : FVec F S16x1024 .f32 :=
  have z : FVec F S16x1024 .f32 := broadcast S16x1024 (Scalar.ofBits .f32 0x00000000#32)
  addf (mulf (mulf (tanh s) s) s) (mulf (mulf (maximumf s z) (maximumf s z)) (maximumf s z))

/-! ## The steps -/

section Steps

variable (x o : Memref sig .tc .vmem S2048x1024 .f32) (pt : Memref sig .tc .vmem S8x15x16x1024 .f32)
  (rs : DmaSems sig S8x15) (ss : DmaSems sig S8x2) (v0 : BitVec 32) (hv : Inb v0) (right left : Dev nD)

/-- Where ring `r` sends. -/
def dest (r : Fin 8) : Dev nD := if r.val < 4 then right else left

/-- What a hop of the first round trip sends: at hop 0 the device's own chunk of the input, later a partial sum. -/
abbrev srcOf (r : Fin 8) (h : Fin 15) : Memref sig .tc .vmem S16x1024 .f32 :=
  chunk (if h.val = 0 then x else o) v0 hv r (rsC r h)

/-- The program of one step, in front of the rest. -/
def step : Op → Prog (TpuEff nD τ sig (Elt F) Λ₀ .tc) PUnit → Prog (TpuEff nD τ sig (Elt F) Λ₀ .tc) PUnit
  | .send r h, k =>
    .op (.enqueueDma (srcOf x o v0 hv r h) (.remote (Dev.tc (dest right left r)) (slot pt r h) (.dma (sendOf ss r h)))
      (.dma (recvOf rs r h)) (View.wordExact_bits rfl) ((View.wordExact_bits rfl).reshape _ _) ⟨⟨rfl, Or.inl rfl⟩, trivial⟩) fun _ => k
  | .recv r h, k =>
    .op (.waitDma2 (recvOf rs r h) (srcOf x o v0 hv r h) (slot pt r h) (View.wordExact_bits rfl) ((View.wordExact_bits rfl).reshape _ _)) fun _ => k
  | .acc r h, k =>
    .op (.load x (chunkR v0 hv r (rsD r h)).toLoadRect (View.loadsAt_vmem h_S16x1024)) fun a =>
    .op (.load pt (slotR r h).toLoadRect (View.loadsAt_vmem h_S1x1x16x1024)) fun b =>
    .op (.load o (chunkR v0 hv r (rsD r h)).toLoadRect (View.loadsAt_vmem h_S16x1024)) fun _ =>
    .op (.store o (chunkR v0 hv r (rsD r h)) (accum (F := F) a b) Finset.univ (View.stores_vmem_bits_univ h_S16x1024 rfl) (.inl rfl)) fun _ => k
  | .fin r, k =>
    .op (.load x (chunkR v0 hv r (rsD r 14)).toLoadRect (View.loadsAt_vmem h_S16x1024)) fun a =>
    .op (.load pt (slotR r 14).toLoadRect (View.loadsAt_vmem h_S1x1x16x1024)) fun b =>
    .op (.load o (chunkR v0 hv r (rsD r 14)).toLoadRect (View.loadsAt_vmem h_S16x1024)) fun _ =>
    .op (.store o (chunkR v0 hv r (rsD r 14)) (activate (accum (F := F) a b)) Finset.univ (View.stores_vmem_bits_univ h_S16x1024 rfl) (.inl rfl)) fun _ => k
  | .sent r h, k =>
    .op (.waitDma2 (sendOf ss r h) (slot pt r h) (srcOf x o v0 hv r h) ((View.wordExact_bits rfl).reshape _ _) (View.wordExact_bits rfl)) fun _ => k
  | .send' r g, k =>
    .op (.enqueueDma (chunk o v0 hv r (agC r g)) (.remote (Dev.tc (dest right left r)) (chunk o v0 hv r (agC r g)) (.dma (sendOf ss r g)))
      (.dma (recvOf rs r g)) (View.wordExact_bits rfl) (View.wordExact_bits rfl) ⟨⟨rfl, Or.inl rfl⟩, trivial⟩) fun _ => k
  | .recv' r g, k =>
    .op (.waitDma2 (recvOf rs r g) (chunk o v0 hv r (agC r g)) (chunk o v0 hv r (agC r g)) (View.wordExact_bits rfl) (View.wordExact_bits rfl)) fun _ => k
  | .sent' r g, k =>
    .op (.waitDma2 (sendOf ss r g) (chunk o v0 hv r (agC r g)) (chunk o v0 hv r (agC r g)) (View.wordExact_bits rfl) (View.wordExact_bits rfl)) fun _ => k

/-- The program of a list of steps, in front of the rest. -/
def run (l : List Op) (k : Prog (TpuEff nD τ sig (Elt F) Λ₀ .tc) PUnit) : Prog (TpuEff nD τ sig (Elt F) Λ₀ .tc) PUnit :=
  l.foldr (step (F := F) x o pt rs ss v0 hv right left) k

end Steps

end Cert.KernelIdeal.Ring

end
-- ==== Proof.KernelIdeal.Values.lean ====
/-
  Where the chunks lie and what they hold.

  The devices stand on a ring of sixteen positions. A ring `r` of transfers works on the band of rows `256 r … 256 r + 255`,
  cut into sixteen chunks of sixteen rows. Seen from a device, the chunks of a ring are numbered by their turn: chunk `0` is
  the one it sends first, and what arrives at hop `h` belongs to its chunk `h + 1`.
-/
module

public import proofs.«01_k».proof.Proof.KernelIdeal.Code

@[expose] public section

noncomputable section

namespace Cert.KernelIdeal.Ring

open Idealize.ShloMosaic Idealize.ShloMosaic.TcCoe Cert.KernelIdeal.Gen Cert.Ring
open Idealize.SL.Sem

variable {F : FTy → Type} [FloatOps F]

/-! ## Positions on the ring -/

/-- The position of a device. -/
def pos (c : Dev nD) : Fin 16 := (![0, 1, 8, 9, 15, 2, 7, 10, 14, 3, 6, 11, 13, 4, 5, 12] : Fin 16 → Fin 16) c
/-- The device at a position. -/
def devAt (p : Fin 16) : Dev nD := (![0, 1, 5, 9, 13, 14, 10, 6, 2, 3, 7, 11, 15, 12, 8, 4] : Fin 16 → Fin 16) p

/-- The device at a device's position is that device. -/
theorem devAt_pos : ∀ c : Dev nD, devAt (pos c) = c := by decide
/-- The position of the device at a position is that position. -/
theorem pos_devAt : ∀ p : Fin 16, pos (devAt p) = p := by decide

/-- The neighbour one position on. -/
def right (c : Dev nD) : Dev nD := devAt (pos c + 1)
/-- The neighbour one position back. -/
def left (c : Dev nD) : Dev nD := devAt (pos c + 15)

/-- The neighbour ring `r` sends to. -/
def nxt (r : Fin 8) (c : Dev nD) : Dev nD := if r.val < 4 then right c else left c
/-- The neighbour ring `r` receives from. -/
def prv (r : Fin 8) (c : Dev nD) : Dev nD := if r.val < 4 then left c else right c
/-- The one before the next is the device itself. -/
theorem prv_nxt : ∀ (r : Fin 8) (c : Dev nD), prv r (nxt r c) = c := by decide +kernel
/-- The one after the previous is the device itself. -/
theorem nxt_prv : ∀ (r : Fin 8) (c : Dev nD), nxt r (prv r c) = c := by decide +kernel
/-- On the paired ring the next device is the previous one. -/
theorem nxt_pair : ∀ (r : Fin 8) (c : Dev nD), nxt (pair r) c = prv r c := by decide +kernel
/-- Pairing rings twice changes nothing. -/
theorem pair_pair : ∀ r : Fin 8, pair (pair r) = r := by decide
/-- Left of the right neighbour is the device itself. -/
theorem left_right : ∀ c : Dev nD, left (right c) = c := by decide
/-- Right of the left neighbour is the device itself. -/
theorem right_left : ∀ c : Dev nD, right (left c) = c := by decide

/-! ## The chunks of a ring by their turn -/

/-- The chunk whose turn at position `p` is `i`. -/
def loc (r : Fin 8) (p i : Fin 16) : Fin 16 := if r.val < 4 then p - i else p + i
/-- The turn at position `p` of a chunk. -/
def turn (r : Fin 8) (p k : Fin 16) : Fin 16 := if r.val < 4 then p - k else k - p

/-- The turn of the chunk at a turn is that turn. -/
theorem turn_loc : ∀ (r : Fin 8) (p i : Fin 16), turn r p (loc r p i) = i := by decide +kernel
/-- The chunk at a chunk's turn is that chunk. -/
theorem loc_turn : ∀ (r : Fin 8) (p k : Fin 16), loc r p (turn r p k) = k := by decide +kernel

/-- What a device sends is, at its neighbour, one turn later. -/
theorem loc_nxt : ∀ (r : Fin 8) (c : Dev nD) (i : Fin 16), loc r (pos (nxt r c)) (i + 1) = loc r (pos c) i := by decide +kernel

/-- The first row of chunk `k` of ring `r`. -/
def rw0 (r : Fin 8) (k : Fin 16) : ℕ := 256 * r.val + 16 * k.val

/-- The row a hop of the first round trip sends from. -/
theorem row_send : ∀ (p : Fin 16) (r : Fin 8) (h : Fin 15), row p.val r (rsC r h).val = rw0 r (loc r p (tn h)) := by decide +kernel
/-- The row a hop of the first round trip adds to. -/
theorem row_recv : ∀ (p : Fin 16) (r : Fin 8) (h : Fin 15), row p.val r (rsD r h).val = rw0 r (loc r p (tnS h)) := by decide +kernel
/-- The row a hop of the second round trip sends from. -/
theorem row_send' : ∀ (p : Fin 16) (r : Fin 8) (g : Fin 15), row p.val r (agC r g).val = rw0 r (loc r p (tnB g)) := by decide +kernel
/-- What a device sends in the second round trip lies where the next device awaits it. -/
theorem loc_send' : ∀ (r : Fin 8) (c : Dev nD) (g : Fin 15), loc r (pos (nxt r c)) (tn g) = loc r (pos c) (tnB g) := by decide +kernel

/-! ## The rectangles -/

/-- Every chunk lies within the array. -/
theorem ch_inb (r : Fin 8) (k : Fin 16) : ∀ a, (![rw0 r k, 0] : Fin 2 → ℕ) a + S16x1024.size a ≤ S2048x1024.size a := by
  revert r k; decide +kernel

/-- Chunk `k` of ring `r`. -/
abbrev chR (r : Fin 8) (k : Fin 16) : Rect S2048x1024 := Rect.unit (s := S2048x1024) ![rw0 r k, 0] S16x1024.size (ch_inb r k)

/-- An entry lies in a chunk exactly if its row does. -/
theorem mem_chR {r : Fin 8} {k : Fin 16} {i : S2048x1024.Idx} :
    i ∈ (chR r k).set ↔ (i 0).val / 256 = r.val ∧ (i 0).val / 16 % 16 = k.val := by
  rw [Rect.mem_set_unit]
  have h1 : (i 1).val < 1024 := (i 1).isLt
  have hr := r.isLt
  have hk := k.isLt
  constructor
  · intro h
    have h0 := h 0
    have e : (![rw0 r k, 0] : Fin 2 → ℕ) 0 = 256 * r.val + 16 * k.val := rfl
    have e' : S16x1024.size 0 = 16 := rfl
    rw [e, e'] at h0
    omega
  · rintro ⟨ha, hb⟩ a
    have e0 : (![rw0 r k, 0] : Fin 2 → ℕ) 0 = 256 * r.val + 16 * k.val := rfl
    have e1 : (![rw0 r k, 0] : Fin 2 → ℕ) 1 = 0 := rfl
    have f0 : S16x1024.size 0 = 16 := rfl
    have f1 : S16x1024.size 1 = 1024 := rfl
    match a with
    | 0 => rw [e0, f0]; omega
    | 1 => rw [e1, f1]; omega

/-- An entry lies in a landing slot exactly if its ring and hop are the slot's. -/
theorem mem_slotR {r : Fin 8} {h : Fin 15} {i : S8x15x16x1024.Idx} :
    i ∈ (slotR r h).set ↔ (i 0).val = r.val ∧ (i 1).val = h.val := by
  rw [Rect.mem_set_unit]
  have h2 : (i 2).val < 16 := (i 2).isLt
  have h3 : (i 3).val < 1024 := (i 3).isLt
  have e0 : (![r.val, h.val, 0, 0] : Fin 4 → ℕ) 0 = r.val := rfl
  have e1 : (![r.val, h.val, 0, 0] : Fin 4 → ℕ) 1 = h.val := rfl
  have e2 : (![r.val, h.val, 0, 0] : Fin 4 → ℕ) 2 = 0 := rfl
  have e3 : (![r.val, h.val, 0, 0] : Fin 4 → ℕ) 3 = 0 := rfl
  have f0 : S1x1x16x1024.size 0 = 1 := rfl
  have f1 : S1x1x16x1024.size 1 = 1 := rfl
  have f2 : S1x1x16x1024.size 2 = 16 := rfl
  have f3 : S1x1x16x1024.size 3 = 1024 := rfl
  constructor
  · intro hh
    have a0 := hh 0
    have a1 := hh 1
    rw [e0, f0] at a0
    rw [e1, f1] at a1
    omega
  · rintro ⟨ha, hb⟩ a
    match a with
    | 0 => rw [e0, f0]; omega
    | 1 => rw [e1, f1]; omega
    | 2 => rw [e2, f2]; omega
    | 3 => rw [e3, f3]; omega

/-! ## What the chunks hold -/

/-- The contents of a 2048 by 1024 array. -/
abbrev Big (F : FTy → Type) : Type := S2048x1024.Idx → Elt F .f32
/-- A chunk's contents. -/
abbrev Blk (F : FTy → Type) : Type := S16x1024.Idx → Elt F .f32

/-- Chunk `k` of ring `r` read off an array. -/
def rd (f : Big F) (r : Fin 8) (k : Fin 16) : Blk F := fun j => f ((chR r k).emb j)

/-- The ring an element's row belongs to. -/
def ringOf (i : S2048x1024.Idx) : Fin 8 := ⟨(i 0).val / 256, by have h : (i 0).val < 2048 := (i 0).isLt; omega⟩
/-- The chunk an element's row belongs to. -/
def chunkOf (i : S2048x1024.Idx) : Fin 16 := ⟨(i 0).val / 16 % 16, by omega⟩
/-- An element's place in its chunk. -/
def inChunk (i : S2048x1024.Idx) : S16x1024.Idx :=
  fun a => match a with
    | 0 => ⟨(i 0).val % 16, by show _ < 16; omega⟩
    | 1 => i 1

/-- An array put together from its chunks. -/
def asm (v : Fin 8 → Fin 16 → Blk F) : Big F := fun i => v (ringOf i) (chunkOf i) (inChunk i)

/-- The row of a chunk's entry. -/
theorem emb_val0 (r : Fin 8) (k : Fin 16) (j : S16x1024.Idx) : ((chR r k).emb j 0).val = rw0 r k + (j 0).val := by
  rw [Rect.emb_apply]; show rw0 r k + 1 * _ = _; rw [Nat.one_mul]
/-- The column of a chunk's entry. -/
theorem emb_val1 (r : Fin 8) (k : Fin 16) (j : S16x1024.Idx) : ((chR r k).emb j 1).val = (j 1).val := by
  rw [Rect.emb_apply]; show 0 + 1 * _ = _; rw [Nat.one_mul, Nat.zero_add]

omit [FloatOps F] in
/-- A chunk read from an array put together of chunks is that chunk. -/
theorem rd_asm (v : Fin 8 → Fin 16 → Blk F) (r : Fin 8) (k : Fin 16) : rd (asm v) r k = v r k := by
  funext j
  have h0 := emb_val0 r k j
  have h1 := emb_val1 r k j
  have hj : (j 0).val < 16 := (j 0).isLt
  have hr := r.isLt
  have hk := k.isLt
  unfold rw0 at h0
  have e1 : ringOf ((chR r k).emb j) = r := Fin.ext (by show ((chR r k).emb j 0).val / 256 = _; omega)
  have e2 : chunkOf ((chR r k).emb j) = k := Fin.ext (by show ((chR r k).emb j 0).val / 16 % 16 = _; omega)
  have e3 : inChunk ((chR r k).emb j) = j := by
    funext a
    match a with
    | 0 => exact Fin.ext (by show ((chR r k).emb j 0).val % 16 = (j 0).val; omega)
    | 1 => exact Fin.ext h1
  show v (ringOf _) (chunkOf _) (inChunk _) = _
  rw [e1, e2, e3]

section Contents

variable (X : Dev nD → Big F)

/-- A device's own chunk of turn `i`. -/
def own (c : Dev nD) (r : Fin 8) (i : Fin 16) : Blk F := rd (X c) r (loc r (pos c) i)

/-- The sum a device holds in its chunk of turn `i` after the first round trip has passed through it. -/
def part : ℕ → Dev nD → Fin 8 → Blk F
  | 0, c, r => own X c r 0
  | i + 1, c, r => addf (F := F) (φ := .f32) (own X c r (Fin.ofNat 16 (i + 1))) (part i (prv r c) r)

/-- The output array while the first round trip runs: every chunk it has passed at its partial sum. -/
def outs (c : Dev nD) : Big F := asm fun r k => part X (turn r (pos c) k).val c r

/-- The device that ends up with the complete sum of chunk `k`. -/
def owner (r : Fin 8) (k : Fin 16) : Dev nD := devAt (if r.val < 4 then k + 15 else k + 1)

/-- A chunk's owner has it at the last turn. -/
theorem loc_owner : ∀ (r : Fin 8) (k : Fin 16), loc r (pos (owner r k)) 15 = k := by decide +kernel
/-- A device owns the chunk it has at the last turn. -/
theorem owner_loc : ∀ (r : Fin 8) (c : Dev nD), owner r (loc r (pos c) 15) = c := by decide +kernel

/-- The finished array, the same on every device. -/
def res : Big F := asm fun r k => activate (part X 15 (owner r k) r)

/-- A slot's element's place in the slot. -/
def inSlot (i : S8x15x16x1024.Idx) : S1x1x16x1024.Idx :=
  fun a => match a with
    | 0 => ⟨0, Nat.one_pos⟩
    | 1 => ⟨0, Nat.one_pos⟩
    | 2 => i 2
    | 3 => i 3

/-- The landing buffer once everything has arrived: hop `h` of ring `r` brought the neighbour's partial sum of turn `h`. -/
def parts (c : Dev nD) : S8x15x16x1024.Idx → Elt F .f32 :=
  fun i => part X (i 1).val (prv (i 0) c) (i 0) ((Shape.reshapeEquiv shapeCasts_S1x1x16x1024_S16x1024).symm (inSlot i))

/-- Where an entry of a landing slot lies. -/
theorem emb_slot (r : Fin 8) (h : Fin 15) (x : S1x1x16x1024.Idx) :
    (slotR r h).emb x 0 = r ∧ (slotR r h).emb x 1 = h ∧ inSlot ((slotR r h).emb x) = x := by
  have x0 : (x 0).val = 0 := Nat.lt_one_iff.mp (x 0).isLt
  have x1 : (x 1).val = 0 := Nat.lt_one_iff.mp (x 1).isLt
  refine ⟨Fin.ext ?_, Fin.ext ?_, funext fun a => ?_⟩
  · rw [Rect.emb_apply, x0]; show r.val + 1 * 0 = _; omega
  · rw [Rect.emb_apply, x1]; show h.val + 1 * 0 = _; omega
  · match a with
    | 0 => exact Fin.ext x0.symm
    | 1 => exact Fin.ext x1.symm
    | 2 => exact Fin.ext (by show ((slotR r h).emb x 2).val = _; rw [Rect.emb_apply]; show 0 + 1 * _ = _; omega)
    | 3 => exact Fin.ext (by show ((slotR r h).emb x 3).val = _; rw [Rect.emb_apply]; show 0 + 1 * _ = _; omega)

/-- What a slot reads as a plain block. -/
theorem parts_slot (c : Dev nD) (r : Fin 8) (h : Fin 15) (j : S16x1024.Idx) :
    parts X c ((slotR r h).emb (Shape.reshapeEquiv shapeCasts_S1x1x16x1024_S16x1024 j)) = part X h.val (prv r c) r j := by
  obtain ⟨e0, e1, e2⟩ := emb_slot r h (Shape.reshapeEquiv shapeCasts_S1x1x16x1024_S16x1024 j)
  unfold parts
  rw [e0, e1, e2, Equiv.symm_apply_apply]

/-- The chunk of the partial sums that a device has at a turn. -/
theorem rd_outs (c : Dev nD) (r : Fin 8) (i : Fin 16) : rd (outs X c) r (loc r (pos c) i) = part X i.val c r := by
  unfold outs; rw [rd_asm, turn_loc]

/-- The chunk of the result that a device finishes. -/
theorem rd_res (c : Dev nD) (r : Fin 8) : rd (res X) r (loc r (pos c) 15) = activate (part X 15 c r) := by
  unfold res; rw [rd_asm, owner_loc]

/-- A partial sum is the own chunk plus what arrived. -/
theorem accum_eq (c : Dev nD) (r : Fin 8) (h : Fin 15) (y : Vec F S1x1x16x1024 .f32)
    (hy : ∀ j, y (Shape.reshapeEquiv shapeCasts_S1x1x16x1024_S16x1024 j) = part X h.val (prv r c) r j) :
    accum (rd (X c) r (loc r (pos c) (tnS h))) y = part X (h.val + 1) c r := by
  have e : (Fin.ofNat 16 (h.val + 1) : Fin 16) = tnS h := Fin.ext (by
    show (h.val + 1) % 16 = h.val + 1; have := h.isLt; omega)
  show _ = addf (F := F) (φ := .f32) (own X c r (Fin.ofNat 16 (h.val + 1))) (part X h.val (prv r c) r)
  rw [e]
  unfold accum own
  congr 1
  · funext j; unfold shapeCast; rw [Shape.reshapeEquiv_self]
  · funext j; exact hy j

end Contents

end Cert.KernelIdeal.Ring

end
-- ==== Proof.KernelIdeal.Protocol.lean ====
/-
  The protocol between the devices.

  Every semaphore of the kernel is a cell whose units come in rounds; a round names who pays it and what the owner of the
  cell receives with it. The barrier has one round, paid by the two neighbours: each hands over its landing slots. A landing
  semaphore has two rounds, one per round trip: the chunk that landed. A leaving semaphore has a round per transfer that
  uses it: the source comes back. Leave to write a finished chunk into a neighbour's output array travels with earlier
  transfers the other way round: the first two chunks with the last hop of the first round trip, the others with the first
  hop of the second.
-/
module

public import proofs.«01_k».proof.Proof.KernelIdeal.Values
public import Idealize.ShloMosaic.Lib.Pipeline.RegionTalk
public import Idealize.ShloMosaic.Lib.Pipeline.BigSepL

@[expose] public section

noncomputable section

namespace Cert.KernelIdeal.Ring

open Idealize.ShloMosaic Idealize.ShloMosaic.TcCoe Cert.KernelIdeal.Gen Cert.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own and the protocol's, whose cells have up to two payers in a round. -/
abbrev UU : Type := UR sig nD τ × URounds (GSem nD τ sig) (Fin 2)

local notation "𝕄" => MT nD τ sig (Fin 2) (Elt F) ℕ UU ℕ

/-- The pipeline's part of the ghost state. -/
abbrev EP : Emb (UR sig nD τ) (MT nD τ sig (Fin 2) (Elt F) ℕ UU ℕ) := embL
/-- The protocol's part of the ghost state. -/
abbrev ER : Emb (URounds (GSem nD τ sig) (Fin 2)) (MT nD τ sig (Fin 2) (Elt F) ℕ UU ℕ) := embR

/-! ## The buffers the body works on -/

/-- The staged input, whole. -/
abbrev xM : Memref sig .tc .vmem S2048x1024 .f32 := Memref.whole cc0_stg1_0
/-- The staged output, whole. -/
abbrev oM : Memref sig .tc .vmem S2048x1024 .f32 := Memref.whole cc0_stg2_0
/-- The landing slots, whole. -/
abbrev pM : Memref sig .tc .vmem S8x15x16x1024 .f32 := Memref.whole cc0_scratch0

/-- A chunk of a large buffer. -/
abbrev cut (a : Memref sig .tc .vmem S2048x1024 .f32) (r : Fin 8) (k : Fin 16) : Memref sig .tc .vmem S16x1024 .f32 :=
  a.slice (chR r k) (fun _ => rfl)

/-- A chunk of the input on device `c`, at contents `f`. -/
def xPt (c : Dev nD) (r : Fin 8) (k : Fin 16) (f : Big F) : sProp 𝕄 :=
  (cut xM r k).view.loc (c : Thread nD τ) ↦[(cut xM r k).view.set]{fullShare} f
/-- A chunk of the output on device `c`, at contents `f`. -/
def oPt (c : Dev nD) (r : Fin 8) (k : Fin 16) (f : Big F) : sProp 𝕄 :=
  (cut oM r k).view.loc (c : Thread nD τ) ↦[(cut oM r k).view.set]{fullShare} f
/-- A landing slot on device `c`, at contents `f`. -/
def pPt (c : Dev nD) (r : Fin 8) (h : Fin 15) (f : S8x15x16x1024.Idx → Elt F .f32) : sProp 𝕄 :=
  (slot pM r h).view.loc (c : Thread nD τ) ↦[(slot pM r h).view.set]{fullShare} f

/-- The units a transfer of a chunk counts. -/
def N : ℕ := (slot pM 0 0).view.dmaCredit
/-- A transfer of a chunk counts at least one unit. -/
theorem N_pos : 0 < N := View.dmaCredit_pos _ (by decide)

/-! ## The cells -/

/-- The barrier semaphore. -/
abbrev barS : Sem sig := ⟨0, by decide⟩
/-- The landing semaphore of hop `h` of ring `r`. -/
abbrev recvSem (r : Fin 8) (h : Fin 15) : DmaSem sig := recvOf cc0_scratch1 r h
/-- The leaving semaphore of ring `r` for hops of parity `p`. -/
def sendSem (r : Fin 8) (p : Fin 2) : DmaSem sig := ⟨123 + 2 * r.val + p.val, by
  have := r.isLt; have := p.isLt; show _ < 139; omega⟩
/-- The number of a landing semaphore. -/
theorem recvSem_val : ∀ (r : Fin 8) (h : Fin 15), (recvSem r h).val = 3 + 15 * r.val + h.val := by decide +kernel
/-- The leaving semaphore of a hop is that of its parity. -/
theorem sendOf_eq : ∀ (r : Fin 8) (h : Fin 15), sendOf cc0_scratch2 r h = sendSem r (par h) := by decide +kernel

/-- Device `c`'s barrier. -/
abbrev barCell (c : Dev nD) : GSem nD τ sig := ((c : Thread nD τ), .reg barS)
/-- Device `c`'s landing semaphore of hop `h` of ring `r`. -/
abbrev recvCell (c : Dev nD) (r : Fin 8) (h : Fin 15) : GSem nD τ sig := ((c : Thread nD τ), .dma (recvSem r h))
/-- Device `c`'s leaving semaphore of parity `p` of ring `r`. -/
abbrev sendCell (c : Dev nD) (r : Fin 8) (p : Fin 2) : GSem nD τ sig := ((c : Thread nD τ), .dma (sendSem r p))

/-- What a semaphore is for. -/
inductive Kind
  | bar
  | recv (r : Fin 8) (h : Fin 15)
  | send (r : Fin 8) (p : Fin 2)
  | none
  deriving DecidableEq

/-- The purpose of a semaphore, read off its number. -/
def kind : SemLoc sig → Kind
  | .reg _ => .bar
  | .dma s =>
    if h : 3 ≤ s.val ∧ s.val < 123 then .recv ⟨(s.val - 3) / 15, by omega⟩ ⟨(s.val - 3) % 15, by omega⟩
    else if h' : 123 ≤ s.val then .send ⟨(s.val - 123) / 2, by have h : s.val < 139 := s.isLt; omega⟩ ⟨(s.val - 123) % 2, by omega⟩
    else .none

/-- A barrier is told by its semaphore. -/
theorem kind_bar (s : Sem sig) : kind (.reg s) = .bar := rfl
/-- A landing cell's ring and hop are told by its semaphore. -/
theorem kind_recv (r : Fin 8) (h : Fin 15) : kind (.dma (recvSem r h)) = .recv r h := by
  have e := recvSem_val r h
  have hr := r.isLt
  have hh := h.isLt
  unfold kind
  dsimp only
  rw [dif_pos ⟨by omega, by omega⟩]
  congr 1
  · exact Fin.ext (by show _ = r.val; dsimp only; omega)
  · exact Fin.ext (by show _ = h.val; dsimp only; omega)
/-- A leaving cell's ring and parity are told by its semaphore. -/
theorem kind_send (r : Fin 8) (p : Fin 2) : kind (.dma (sendSem r p)) = .send r p := by
  have e : (sendSem r p).val = 123 + 2 * r.val + p.val := rfl
  have hr := r.isLt
  have hp := p.isLt
  unfold kind
  dsimp only
  rw [dif_neg (by omega), dif_pos (by omega)]
  congr 1
  · exact Fin.ext (by show _ = r.val; dsimp only; omega)
  · exact Fin.ext (by show _ = p.val; dsimp only; omega)

/-! ## What the rounds hand over -/

section Payloads

variable (X : Dev nD → Big F)

/-- The neighbour's landing slot that hop `h` of ring `r` writes, and that its semaphore is ready. -/
def slotLeave (c : Dev nD) (r : Fin 8) (h : Fin 15) : sProp 𝕄 :=
  iprop((∃ f, pPt (nxt r c) r h f) ∗ reached ER (recvCell (nxt r c) r h) 0)
/-- The neighbour's chunk that hop `g` of the second round trip writes, and that its semaphore is ready. -/
def chunkLeave (c : Dev nD) (r : Fin 8) (g : Fin 15) : sProp 𝕄 :=
  iprop((∃ f, oPt (nxt r c) r (loc r (pos (nxt r c)) (tn g)) f) ∗ reached ER (recvCell (nxt r c) r g) 1)

/-- What the barrier unit of payer `d` hands over. -/
def barPay (c : Dev nD) (d : Fin 2) : sProp 𝕄 := bigSepL (slotsOf d) fun x => slotLeave c x.1 x.2

/-- What hop `h` of the first round trip sends from. -/
def srcPt (c : Dev nD) (r : Fin 8) (h : Fin 15) : sProp 𝕄 :=
  if h.val = 0 then xPt c r (loc r (pos c) (tn h)) (X c) else oPt c r (loc r (pos c) (tn h)) (outs X c)

/-- What the owner receives with a landing of the first round trip: the partial sum, and with the last hop leave to write two chunks of the paired ring. -/
def recvPay (c : Dev nD) (r : Fin 8) (h : Fin 15) : sProp 𝕄 :=
  iprop(pPt c r h (parts X c) ∗ (if h.val = 14 then iprop(chunkLeave c (pair r) 0 ∗ chunkLeave c (pair r) 1) else iprop(emp)))
/-- What the owner receives with a landing of the second round trip: the finished chunk, and with the first hop leave to write the other chunks of the paired ring. -/
def recvPay' (c : Dev nD) (r : Fin 8) (g : Fin 15) : sProp 𝕄 :=
  iprop(oPt c r (loc r (pos c) (tn g)) (res X) ∗ (if g.val = 0 then bigSepL later (fun g' => chunkLeave c (pair r) g') else iprop(emp)))

/-- What comes back in round `n` of a leaving cell: the source of the transfer of that round. -/
def sendPay (c : Dev nD) (r : Fin 8) (p : Fin 2) (n : ℕ) : sProp 𝕄 :=
  if n < 8 - p.val then srcPt X c r (Fin.ofNat 15 (2 * n + p.val))
  else oPt c r (loc r (pos c) (tnB (Fin.ofNat 15 (2 * (n - (8 - p.val)) + p.val)))) (res X)

/-- The protocol. -/
def sched : Rounds.Schedule (GSem nD τ sig) (Fin 2) 𝕄 where
  duties g n :=
    if g.1.2 = .tc then
      match kind g.2 with
      | .bar => if n = 0 then {0, 1} else ∅
      | .recv _ _ => if n < 2 then {0} else ∅
      | .send _ p => if n < 16 - 2 * p.val then {0} else ∅
      | .none => ∅
    else ∅
  unitless _ := False
  amount g _ _ := if kind g.2 = .bar then 1 else N
  payload g n d :=
    match kind g.2 with
    | .bar => barPay g.1.1 d
    | .recv r h => if n = 0 then recvPay X g.1.1 r h else recvPay' X g.1.1 r h
    | .send r p => sendPay X g.1.1 r p n
    | .none => iprop(emp)
  amount_pos g _ _ _ := by
    by_cases h : kind g.2 = .bar
    · rw [if_pos h]; exact Nat.one_pos
    · rw [if_neg h]; exact N_pos

omit [FloatOps F] in
/-- A list of pieces may be kept in an invariant if each may. -/
theorem storable_bigSepL {I : Type} (l : List I) (Φ : I → sProp 𝕄) [∀ i, BI.Storable (upEmb : UEmb _ 𝕄) (Φ i)] :
    BI.Storable (upEmb : UEmb _ 𝕄) (bigSepL l Φ) := by
  induction l with
  | nil => rw [bigSepL_nil]; exact (inferInstance : BI.Storable (upEmb : UEmb _ 𝕄) iprop(emp))
  | cons i l ih => rw [bigSepL_cons']; infer_instance

omit [FloatOps F] in
/-- Leave to write a slot may be kept in an invariant. -/
instance slotLeave_storable (c : Dev nD) (r : Fin 8) (h : Fin 15) : BI.Storable (upEmb : UEmb _ 𝕄) (slotLeave (F := F) c r h) := by
  unfold slotLeave pPt; infer_instance
omit [FloatOps F] in
/-- Leave to write a chunk may be kept in an invariant. -/
instance chunkLeave_storable (c : Dev nD) (r : Fin 8) (h : Fin 15) : BI.Storable (upEmb : UEmb _ 𝕄) (chunkLeave (F := F) c r h) := by
  unfold chunkLeave oPt; infer_instance
omit [FloatOps F] in
/-- What a barrier unit hands over may be kept in an invariant. -/
instance barPay_storable (c : Dev nD) (d : Fin 2) : BI.Storable (upEmb : UEmb _ 𝕄) (barPay (F := F) c d) := by
  unfold barPay; exact storable_bigSepL _ _
/-- A source of the first round trip may be kept in an invariant. -/
instance srcPt_storable (c : Dev nD) (r : Fin 8) (h : Fin 15) : BI.Storable (upEmb : UEmb _ 𝕄) (srcPt X c r h) := by
  unfold srcPt xPt oPt; split <;> infer_instance
/-- A first landing may be kept in an invariant. -/
instance recvPay_storable (c : Dev nD) (r : Fin 8) (h : Fin 15) : BI.Storable (upEmb : UEmb _ 𝕄) (recvPay X c r h) := by
  unfold recvPay pPt; split <;> infer_instance
/-- A second landing may be kept in an invariant. -/
instance recvPay'_storable (c : Dev nD) (r : Fin 8) (g : Fin 15) : BI.Storable (upEmb : UEmb _ 𝕄) (recvPay' X c r g) := by
  have := storable_bigSepL later (fun g' => chunkLeave (F := F) c (pair r) g')
  unfold recvPay' oPt; split <;> infer_instance
/-- A returning source may be kept in an invariant. -/
instance sendPay_storable (c : Dev nD) (r : Fin 8) (p : Fin 2) (n : ℕ) : BI.Storable (upEmb : UEmb _ 𝕄) (sendPay X c r p n) := by
  unfold sendPay oPt; split <;> infer_instance

/-- Whatever the protocol hands over may be kept in an invariant. -/
instance sched_storable (g : GSem nD τ sig) (n : ℕ) (d : Fin 2) : BI.Storable (upEmb : UEmb _ 𝕄) ((sched X).payload g n d) := by
  dsimp only [sched]
  split
  · infer_instance
  · split <;> infer_instance
  · infer_instance
  · infer_instance

end Payloads

/-! ## The protocol at each kind of cell -/

section Cells

variable (X : Dev nD → Big F) (c : Dev nD) (r : Fin 8)

/-- The barrier is paid by both neighbours. -/
theorem duties_bar : (sched X).duties (barCell c) 0 = {0, 1} := rfl
/-- A landing cell has one payer in each of its two rounds. -/
theorem duties_recv (h : Fin 15) (n : ℕ) (hn : n < 2) : (sched X).duties (recvCell c r h) n = {0} := by
  dsimp only [sched]; rw [if_pos rfl, kind_recv]; exact if_pos hn
/-- A leaving cell has one payer in each of its rounds. -/
theorem duties_send (p : Fin 2) (n : ℕ) (hn : n < 16 - 2 * p.val) : (sched X).duties (sendCell c r p) n = {0} := by
  dsimp only [sched]; rw [if_pos rfl, kind_send]; exact if_pos hn

/-- The barrier has no round after the first. -/
theorem later_bar : ∀ n, 1 ≤ n → (sched X).duties (barCell c) n = ∅ := fun n hn => by
  dsimp only [sched]; rw [if_pos rfl, kind_bar]; exact if_neg (by omega)
/-- A landing cell has no round after the second. -/
theorem later_recv (h : Fin 15) : ∀ n, 2 ≤ n → (sched X).duties (recvCell c r h) n = ∅ := fun n hn => by
  dsimp only [sched]; rw [if_pos rfl, kind_recv]; exact if_neg (by omega)
/-- A leaving cell has no round after its last transfer. -/
theorem later_send (p : Fin 2) : ∀ n, 16 - 2 * p.val ≤ n → (sched X).duties (sendCell c r p) n = ∅ := fun n hn => by
  dsimp only [sched]; rw [if_pos rfl, kind_send]; exact if_neg (by omega)

/-- A neighbour pays one unit to the barrier. -/
theorem amount_bar (n : ℕ) (d : Fin 2) : (sched X).amount (barCell c) n d = 1 := rfl
/-- A landing pays a chunk's units. -/
theorem amount_recv (h : Fin 15) (n : ℕ) (d : Fin 2) : (sched X).amount (recvCell c r h) n d = N := by
  dsimp only [sched]; rw [kind_recv]; exact if_neg (fun h => nomatch h)
/-- A leaving transfer pays a chunk's units. -/
theorem amount_send (p : Fin 2) (n : ℕ) (d : Fin 2) : (sched X).amount (sendCell c r p) n d = N := by
  dsimp only [sched]; rw [kind_send]; exact if_neg (fun h => nomatch h)

/-- The barrier expects two units. -/
theorem expect_bar : (sched X).expect (barCell c) 0 = 2 := by
  unfold Schedule.expect Schedule.amountOf; rw [duties_bar]; rfl
/-- A round of a landing cell expects a chunk's units. -/
theorem expect_recv (h : Fin 15) (n : ℕ) (hn : n < 2) : (sched X).expect (recvCell c r h) n = N := by
  unfold Schedule.expect Schedule.amountOf; rw [duties_recv X c r h n hn, Finset.sum_singleton, amount_recv]
/-- A round of a leaving cell expects a chunk's units. -/
theorem expect_send (p : Fin 2) (n : ℕ) (hn : n < 16 - 2 * p.val) : (sched X).expect (sendCell c r p) n = N := by
  unfold Schedule.expect Schedule.amountOf; rw [duties_send X c r p n hn, Finset.sum_singleton, amount_send]

/-- What the barrier hands over. -/
theorem payload_bar (n : ℕ) (d : Fin 2) : (sched X).payload (barCell c) n d = barPay c d := rfl
/-- What a landing of the first round trip hands over. -/
theorem payload_recv0 (h : Fin 15) (d : Fin 2) : (sched X).payload (recvCell c r h) 0 d = recvPay X c r h := by
  dsimp only [sched]; rw [kind_recv]; rfl
/-- What a landing of the second round trip hands over. -/
theorem payload_recv1 (h : Fin 15) (d : Fin 2) : (sched X).payload (recvCell c r h) 1 d = recvPay' X c r h := by
  dsimp only [sched]; rw [kind_recv]; rfl
/-- What a leaving cell hands over. -/
theorem payload_send (p : Fin 2) (n : ℕ) (d : Fin 2) : (sched X).payload (sendCell c r p) n d = sendPay X c r p n := by
  dsimp only [sched]; rw [kind_send]

/-- A hop of the first round trip gets its own source back. -/
theorem sendPay_rs (h : Fin 15) : sendPay X c r (par h) (rnd h) = srcPt X c r h := by
  have hh := h.isLt
  unfold sendPay
  rw [if_pos (by show h.val / 2 < 8 - h.val % 2; omega)]
  congr 1
  exact Fin.ext (by show (2 * (h.val / 2) + h.val % 2) % 15 = h.val; omega)
/-- A hop of the second round trip gets its own source back. -/
theorem sendPay_ag (g : Fin 15) : sendPay X c r (par g) (rnd' g) = oPt c r (loc r (pos c) (tnB g)) (res X) := by
  have hg := g.isLt
  unfold sendPay
  rw [if_neg (by show ¬(8 - g.val % 2 + g.val / 2 < 8 - g.val % 2); omega)]
  congr 3
  exact Fin.ext (by show (2 * (8 - g.val % 2 + g.val / 2 - (8 - g.val % 2)) + g.val % 2) % 15 = g.val; omega)

/-- A hop of the first round trip uses a round that its leaving cell has. -/
theorem rnd_lt (h : Fin 15) : rnd h < 16 - 2 * (par h).val := by
  have hh := h.isLt; show h.val / 2 < 16 - 2 * (h.val % 2); omega
/-- A hop of the second round trip uses a round that its leaving cell has. -/
theorem rnd'_lt (h : Fin 15) : rnd' h < 16 - 2 * (par h).val := by
  have hh := h.isLt; show 8 - h.val % 2 + h.val / 2 < 16 - 2 * (h.val % 2); omega

/-- All that the barrier's round hands over. -/
theorem rest_bar : bigSep ((sched X).duties (barCell c) 0 \ ∅) (fun d => (sched X).payload (barCell c) 0 d) = iprop(barPay c 0 ∗ barPay c 1) := by
  rw [Finset.sdiff_empty, duties_bar, bigSep_eq_bigSepL_of_eq [0, 1] (by decide) (by decide)]; rfl
/-- All that a landing cell's first round hands over. -/
theorem rest_recv0 (h : Fin 15) : bigSep ((sched X).duties (recvCell c r h) 0 \ ∅) (fun d => (sched X).payload (recvCell c r h) 0 d) = recvPay X c r h := by
  rw [Finset.sdiff_empty, duties_recv X c r h 0 (by decide), bigSep_singleton, payload_recv0]
/-- All that a landing cell's second round hands over. -/
theorem rest_recv1 (h : Fin 15) : bigSep ((sched X).duties (recvCell c r h) 1 \ ∅) (fun d => (sched X).payload (recvCell c r h) 1 d) = recvPay' X c r h := by
  rw [Finset.sdiff_empty, duties_recv X c r h 1 (by decide), bigSep_singleton, payload_recv1]
/-- All that a round of a leaving cell hands over. -/
theorem rest_send (p : Fin 2) (n : ℕ) (hn : n < 16 - 2 * p.val) :
    bigSep ((sched X).duties (sendCell c r p) n \ ∅) (fun d => (sched X).payload (sendCell c r p) n d) = sendPay X c r p n := by
  rw [Finset.sdiff_empty, duties_send X c r p n hn, bigSep_singleton, payload_send]

end Cells

/-! ## Order: what a device owes while it waits -/

/-- The level of a cell's units: the barrier first, then the hops of the first round trip, then those of the second. -/
def lv (g : GSem nD τ sig) (ix : Fin 2) : ℕ :=
  match kind g.2 with
  | .bar => 1
  | .recv _ h => if ix = 0 then 2 + h.val else 17 + h.val
  | _ => 0

/-- The two headings under which a cell's units are owed, one per round trip: both on a device's compute unit, none elsewhere. -/
def L (g : GSem nD τ sig) : Finset (Fin 2) := if g.1.2 = .tc then Finset.univ else ∅

/-- There is no heading off the compute units. -/
theorem L_of_ne (g : GSem nD τ sig) (h : g.1.2 ≠ .tc) : L g = ∅ := if_neg h
/-- There are both on them. -/
theorem L_tc (c : Dev nD) (sm : SemLoc sig) : L ((c : Thread nD τ), sm) = Finset.univ := if_pos rfl

/-- A landing cell's level rises with the hop, and the second round trip lies above the first. -/
theorem lv_recv (c : Dev nD) (r : Fin 8) (h : Fin 15) (ix : Fin 2) : lv (recvCell c r h) ix = if ix = 0 then 2 + h.val else 17 + h.val := by
  unfold lv; dsimp only; rw [kind_recv]
/-- A leaving cell lies at the lowest level. -/
theorem lv_send (c : Dev nD) (r : Fin 8) (p : Fin 2) (ix : Fin 2) : lv (sendCell c r p) ix = 0 := by
  unfold lv; dsimp only; rw [kind_send]

/-- What a device owes when the steps `l` lie ahead: the arrivals they send. -/
def due (c : Dev nD) : List Op → CellTallies nD τ sig (Fin 2)
  | [] => 0
  | op :: l => match pays op with
    | some (r, h, ix) => due c l + tallyAt (recvCell (nxt r c) r h) ix N
    | none => due c l

omit [FloatOps F] in
/-- Whatever the steps ahead owe lies above `b`, if the check says so. -/
theorem due_above (c : Dev nD) (b : ℕ) : ∀ (l : List Op), above b l = true → ∀ (g : GSem nD τ sig) (ix : Fin 2),
    0 < due c l g ix → g.1.2 = .tc ∧ b < lv g ix
  | [], _, g, ix, h => absurd h (Nat.lt_irrefl 0)
  | op :: l, hl, g, ix, h => by
    unfold above at hl
    rw [List.all_cons, Bool.and_eq_true] at hl
    obtain ⟨h1, h2⟩ := hl
    have ih := due_above c b l h2 g ix
    unfold due at h
    unfold payLevel at h1
    cases hp : pays op with
    | none => rw [hp] at h; exact ih h
    | some x =>
      obtain ⟨r, hh, jx⟩ := x
      rw [hp] at h h1
      have h' : 0 < due c l g ix + tallyAt (recvCell (nxt r c) r hh) jx N g ix := h
      rw [tallyAt_apply] at h'
      by_cases hg : g = recvCell (nxt r c) r hh ∧ ix = jx
      · obtain ⟨rfl, rfl⟩ := hg
        refine ⟨rfl, ?_⟩
        rw [lv_recv]
        exact of_decide_eq_true h1
      · rw [if_neg hg, Nat.add_zero] at h'
        exact ih h'

/-- A wait below everything still owed is allowed. -/
theorem mayWait_due (c : Dev nD) (sm : SemLoc sig) (ix : Fin 2) (b : ℕ) (l : List Op) (hb : lv ((c : Thread nD τ), sm) ix ≤ b)
    (hl : above b l = true) : (levAts L lv : sProp 𝕄) ⊢ MayWait (c : Thread nD τ) sm ix (due c l) :=
  MayOwe.of_cut (L := L) (lev := lv) b (fun p hp => by rw [Finset.mem_singleton.mp hp, L_tc]; exact Finset.mem_univ _)
    (fun g u hg => by
      rw [show L g = Finset.univ from if_pos (due_above c b l hl g u hg).1]; exact Finset.mem_univ _)
    (fun p hp => by rw [Finset.mem_singleton.mp hp]; exact hb)
    (fun g u hg => (due_above c b l hl g u hg).2)

/-! ## The pieces a device holds -/

/-- What a piece is. -/
def hold (X : Dev nD → Big F) (c : Dev nD) : Atom → sProp 𝕄
  | .xc r i => xPt c r (loc r (pos c) i) (X c)
  | .oAny r i => iprop(∃ f, oPt c r (loc r (pos c) i) f)
  | .oPart r i => oPt c r (loc r (pos c) i) (outs X c)
  | .oRes r i => oPt c r (loc r (pos c) i) (res X)
  | .nSlot r h => slotLeave c r h
  | .got r h => pPt c r h (parts X c)
  | .nOut r g => chunkLeave c r g
  | .rp r h n => iprop(atPos ER (recvCell c r h) n.val ∅ 0 ∗ reached ER (recvCell c r h) n.val)
  | .sp r p n => iprop(atPos ER (sendCell c r p) n.val ∅ 0 ∗ reached ER (sendCell c r p) n.val)
  | .tS r p n => dutyTok ER (sendCell c r p) n.val 0
  | .tR r h n => dutyTok ER (recvCell (nxt r c) r h) n.val 0
  | .cR r h n => cred (tallyAt (recvCell c r h) n N)
  | .cS r p => cred (tallyAt (sendCell c r p) 0 N)

end Cert.KernelIdeal.Ring

end
-- ==== Proof.KernelIdeal.Wp.lean ====
/-
  What each step of the body takes and leaves.

  Every lemma here is about one memory operation, or the few of one step, at operands that are chunks and slots of the
  device's buffers: the pieces the step takes, in exchange for the pieces it leaves.
-/
module

public import proofs.«01_k».proof.Proof.KernelIdeal.Protocol

@[expose] public section

noncomputable section

namespace Cert.KernelIdeal.Ring

open Idealize.ShloMosaic Idealize.ShloMosaic.TcCoe Cert.KernelIdeal.Gen Cert.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

/-- The kernel has no loop that needs a variant. -/
abbrev 𝒱₀ : Variants := Variants.none

/-! ## Chunks and slots as memory -/

/-- A view's elements just written are those of any contents that read as what was written. -/
theorem pointsTo_write {sp : Space} {s : Shape} {e : EltTy} (v : View sig .tc sp s e) (c : Dev nD) (f g : v.ty.Contents (Elt F)) (w : s.Idx → Elt F e)
    (h : v.read (Elt F) g = w) :
    (v.loc (c : Thread nD τ) ↦[v.set]{fullShare} (v.write (Elt F) f w Finset.univ) : sProp 𝕄) = (v.loc (c : Thread nD τ) ↦[v.set]{fullShare} g) := by
  refine pointsTo_congr fun i hi => ?_
  obtain ⟨x, -, rfl⟩ := Finset.mem_map.mp hi
  subst h
  refine (View.write_emb_of_mem f _ (Finset.mem_univ x)).trans ?_
  rw [View.read_apply]
  generalize_proofs h1 h2
  exact cast_cast ..

omit [FloatOps F] in
/-- Reading a chunk of the input. -/
theorem read_x (f : Big F) (r : Fin 8) (k : Fin 16) : (cut xM r k).view.read (Elt F) f = rd f r k := rfl
omit [FloatOps F] in
/-- Reading a chunk of the output. -/
theorem read_o (f : Big F) (r : Fin 8) (k : Fin 16) : (cut oM r k).view.read (Elt F) f = rd f r k := rfl
/-- Reading a landing slot that holds its partial sum. -/
theorem read_slot (X : Dev nD → Big F) (c : Dev nD) (r : Fin 8) (h : Fin 15) :
    (slot pM r h).view.read (Elt F) (parts X c) = part X h.val (prv r c) r := by
  funext j
  exact parts_slot X c r h j

/-- A transfer into a landing slot counts a chunk's units. -/
theorem amount_slot (r : Fin 8) (h : Fin 15) : (slot pM r h).view.dmaCredit = N := rfl
/-- So does one from the input. -/
theorem amount_x (r : Fin 8) (k : Fin 16) : (cut xM r k).view.dmaCredit = N := rfl
/-- So does one from the output. -/
theorem amount_o (r : Fin 8) (k : Fin 16) : (cut oM r k).view.dmaCredit = N := rfl

/-- A chunk the kernel names by its position and a step is the chunk with those rows. -/
theorem chunk_eq (a : Memref sig .tc .vmem S2048x1024 .f32) (p : Fin 16) (hv : Inb (BitVec.ofNat 32 p.val)) (r : Fin 8) (k : Fin 16) (d : Fin 30)
    (h : row p.val r d.val = rw0 r k) : chunk a (BitVec.ofNat 32 p.val) hv r d = cut a r k := by
  have e : k0_off1 (BitVec.ofNat 32 p.val) (BitVec.ofNat 32 (256 * r.val)) (BitVec.ofNat 32 d.val) = ![rw0 r k, 0] := by rw [off1_eq, h]
  have key : ∀ (off : Fin 2 → ℕ) (hoff : ∀ a, off a + S16x1024.size a ≤ S2048x1024.size a), off = ![rw0 r k, 0] →
      a.slice (Rect.unit (s := S2048x1024) off S16x1024.size hoff) (fun _ => rfl) = cut a r k := by
    rintro _ hoff rfl; rfl
  exact key _ (hv r d) e

/-! ## The invariants -/

/-- The kernel's own transfer semaphores. -/
abbrev ownSem (i : Fin 136) : DmaSem sig := ⟨3 + i.val, by have := i.isLt; show _ < 139; omega⟩
/-- A device's transfer cells. -/
abbrev ownCell (c : Dev nD) (i : Fin 136) : GSem nD τ sig := ((c : Thread nD τ), .dma (ownSem i))

/-- Every barrier cell. -/
@[irreducible] def barCells : Finset (GSem nD τ sig) := Finset.univ.image barCell
/-- Every transfer cell. -/
@[irreducible] def ownCells : Finset (GSem nD τ sig) := Finset.univ.image fun x : Dev nD × Fin 136 => ownCell x.1 x.2

/-- A barrier is a cell of the protocol. -/
theorem mem_bar (c : Dev nD) : barCell c ∈ barCells ∪ ownCells :=
  Finset.mem_union_left _ (by unfold barCells; exact Finset.mem_image_of_mem _ (Finset.mem_univ c))
/-- So is every transfer semaphore after the staging ones. -/
theorem mem_own (c : Dev nD) (s : DmaSem sig) (h : 3 ≤ s.val) : (((c : Thread nD τ), .dma s) : GSem nD τ sig) ∈ barCells ∪ ownCells := by
  refine Finset.mem_union_right _ ?_
  unfold ownCells
  refine (Finset.mem_image.mpr ⟨(c, ⟨s.val - 3, by have hs : s.val < 139 := s.isLt; omega⟩), Finset.mem_univ _, ?_⟩)
  show ((c : Thread nD τ), SemLoc.dma (ownSem _)) = _
  congr 2
  exact Fin.ext (by show 3 + (s.val - 3) = s.val; omega)
/-- So is a landing cell. -/
theorem mem_recv (c : Dev nD) (r : Fin 8) (h : Fin 15) : recvCell c r h ∈ barCells ∪ ownCells :=
  mem_own c _ (by rw [recvSem_val]; omega)
/-- So is a leaving cell. -/
theorem mem_send (c : Dev nD) (r : Fin 8) (p : Fin 2) : sendCell c r p ∈ barCells ∪ ownCells :=
  mem_own c _ (by show 3 ≤ 123 + 2 * r.val + p.val; omega)

section Ops

variable (X : Dev nD → Big F) (K : GSem nD τ sig → ℕ)

/-- What all devices share: every cell follows the protocol, and the levels are as given. -/
def ctx : sProp 𝕄 := iprop(bigSep (barCells ∪ ownCells) (fun g => cellInv ER (sched X) (K g) g) ∗ levAts L lv)

/-- What every step consults may be consulted again and again. -/
instance ctx_persistent : BI.Persistent (ctx X K) := by unfold ctx; infer_instance

/-- It has the invariant of every cell. -/
theorem ctx_inv (g : GSem nD τ sig) (hg : g ∈ barCells ∪ ownCells) : ctx X K ⊢ cellInv ER (sched X) (K g) g := by
  unfold ctx
  refine BIBase.Entails.trans ?_ (BI.bigSep_elim (Φ := fun g => cellInv ER (sched X) (K g) g) hg)
  iintro ⟨H, -⟩
  iexact H
/-- It has the levels. -/
theorem ctx_lev : ctx X K ⊢ levAts L lv := by
  unfold ctx
  iintro ⟨-, H⟩
  iexact H

variable (c : Dev nD)

/-- What the device still owes, at some record of the waits it has made. -/
def debt (l : List Op) : sProp 𝕄 := iprop(∃ W, owes (c : Thread nD τ) (due c l) W)

/-- A wait for a transfer: the round's units buy what the round hands over. -/
theorem wp_await {Q : PUnit → sProp 𝕄} {sp sp' : Space} {s s' : Shape} {e e' : EltTy} (sem sem' : DmaSem sig) (hsem : sem' = sem)
    (src : Memref sig .tc sp' s' e') (dst : Memref sig .tc sp s e) {hsrc : src.view.WordExact} {hdst : dst.view.WordExact}
    (k : Prog (TpuEff nD τ sig (Elt F) Λ₀ .tc) PUnit) (hN : dst.view.dmaCredit = N) (hs : 3 ≤ sem.val) (ix : Fin 2) (n : ℕ) (P : sProp 𝕄)
    (hexp : (sched X).expect ((c : Thread nD τ), .dma sem) n = N)
    (hP : bigSep ((sched X).duties ((c : Thread nD τ), .dma sem) n \ ∅) (fun d => (sched X).payload ((c : Thread nD τ), .dma sem) n d) = P)
    (b : ℕ) (l : List Op) (hb : lv ((c : Thread nD τ), .dma sem) ix ≤ b) (hl : above b l = true) :
    iprop(ctx X K ∗ cred (tallyAt ((c : Thread nD τ), .dma sem) ix N) ∗ debt c l ∗ atPos ER ((c : Thread nD τ), .dma sem) n ∅ 0)
      ⊢ iprop(((debt c l ∗ atPos ER ((c : Thread nD τ), .dma sem) (n + 1) ∅ 0 ∗ reached ER ((c : Thread nD τ), .dma sem) (n + 1) ∗ P)
            -∗ wp frame (wpE (defs₀ (F := F)) 𝒱₀ c none) Set.univ k Q)
          -∗ wp frame (wpE (defs₀ (F := F)) 𝒱₀ c none) Set.univ (.op (.waitDma2 sem' src dst hsrc hdst) fun _ => k) Q) := by
  subst hP
  subst sem'
  have hmay : ctx X K ⊢ MayWait (c : Thread nD τ) (.dma sem) ix (due c l) :=
    BIBase.Entails.trans (@ctx_lev F _ X K) (mayWait_due (F := F) c _ ix b l hb hl)
  unfold debt
  iintro ⟨#Hctx, Hc, ⟨%W, HO⟩, Hat⟩ Hk
  iapply (Rounds.wp_wait_rest_token 𝒱₀ ER (sched X) (c : Thread nD τ) none (κ := K ((c : Thread nD τ), .dma sem))
      (wpE_waitDma2_eq (src := src) (dst := dst) 𝒱₀ (c : Thread nD τ) none Set.univ) (Set.mem_univ _) ix (O := due c l) (W := W) (R := n) (m := 0) (T := ∅)
      ((Nat.zero_add _).trans (hN.trans hexp.symm))) $$ [Hc HO Hat]
  · isplitr; · iapply (@ctx_inv F _ X K _ (mem_own c sem hs)); iexact Hctx
    isplitl [Hc]; · rw [hN]; iexact Hc
    isplitl [HO]; · iexact HO
    isplitr; · iapply hmay; iexact Hctx
    iexact Hat
  iintro ⟨HO, Hat, Hr, Hp⟩
  iapply Hk
  isplitl [HO]; · iexists _; iexact HO
  isplitl [Hat]; · iexact Hat
  isplitl [Hr]; · iexact Hr
  iexact Hp

/-- A transfer to the neighbour: it pays a round of the device's own leaving semaphore with the source, and a round of the
    neighbour's landing semaphore with what has been written there and whatever else that round hands over. -/
theorem wp_post {Q : PUnit → sProp 𝕄} {sp sp' : Space} {s : Shape} {e : EltTy} (r : Fin 8) (h : Fin 15) (ix : Fin 2)
    (src src' : Memref sig .tc sp s e) (hsrc' : src' = src) (dst dst' : Memref sig .tc sp' s e) (hdst' : dst' = dst)
    (c' : Dev nD) (hc' : c' = nxt r c) (sem : DmaSem sig) (hsem' : sem = sendSem r (par h))
    {hsc : dst'.view.ref.isScScratch = false} {hsrc : src'.view.WordExact} {hdst : dst'.view.WordExact}
    {hsem : DmaTarget.Typed sp (.dma (recvSem r h)) (.remote (Dev.tc c') dst' (.dma sem) hsc)}
    (k : Prog (TpuEff nD τ sig (Elt F) Λ₀ .tc) PUnit) (n₁ n₂ : ℕ) (hn₁ : n₁ < 16 - 2 * (par h).val) (hn₂ : n₂ < 2)
    (fs : src.view.ty.Contents (Elt F)) (fd : dst.view.ty.Contents (Elt F)) (E : sProp 𝕄) (hN : dst.view.dmaCredit = N)
    (hpay₁ : (src.view.loc (c : Thread nD τ) ↦[src.view.set]{fullShare} fs : sProp 𝕄) = sendPay X c r (par h) n₁)
    (hpay₂ : iprop((dst.view.loc (nxt r c : Thread nD τ) ↦[dst.view.set]{fullShare} (dst.view.write (Elt F) fd (src.view.read (Elt F) fs) Finset.univ)) ∗ E)
      ⊢ (sched X).payload (recvCell (nxt r c) r h) n₂ 0) (l l' : List Op)
    (hdue : due c l' = due c l + tallyAt (recvCell (nxt r c) r h) ix N) :
    iprop(ctx X K ∗ (src.view.loc (c : Thread nD τ) ↦[src.view.set]{fullShare} fs) ∗ (dst.view.loc (nxt r c : Thread nD τ) ↦[dst.view.set]{fullShare} fd) ∗ E
        ∗ debt c l' ∗ dutyTok ER (sendCell c r (par h)) n₁ 0 ∗ reached ER (sendCell c r (par h)) n₁
        ∗ dutyTok ER (recvCell (nxt r c) r h) n₂ 0 ∗ reached ER (recvCell (nxt r c) r h) n₂)
      ⊢ iprop(((cred (tallyAt (sendCell c r (par h)) 0 N) ∗ debt c l) -∗ wp frame (wpE (defs₀ (F := F)) 𝒱₀ c none) Set.univ k Q)
          -∗ wp frame (wpE (defs₀ (F := F)) 𝒱₀ c none) Set.univ
            (.op (.enqueueDma src' (.remote (Dev.tc c') dst' (.dma sem) hsc) (.dma (recvSem r h)) hsrc hdst hsem) fun _ => k) Q) := by
  subst src' dst' c' sem
  unfold debt
  iintro ⟨#Hctx, Hs, Hd, HE, ⟨%W, HO⟩, Ht1, Hr1, Ht2, Hr2⟩ Hk
  iapply (Rounds.wp_send_pointsTo_with 𝒱₀ ER (sched X) (c : Thread nD τ) none (c' := (nxt r c : Thread nD τ)) (src := src) (dst := dst)
      (sS := .dma (sendSem r (par h))) (sem := .dma (recvSem r h)) (q := fullShare) (fs := fs) (fd := fd) (F := E)
      (κ₁ := K (sendCell c r (par h))) (κ₂ := K (recvCell (nxt r c) r h)) (r₁ := n₁) (r₂ := n₂) (d₁ := 0) (d₂ := 0)
      (by rw [duties_send X c r _ _ hn₁]; exact Finset.mem_singleton_self _) (by rw [duties_recv X _ r h _ hn₂]; exact Finset.mem_singleton_self _)
      ix 0 N hN (amount_send X c r _ _ _) (amount_recv X _ r h _ _) (due c l) hdue (W := W)
      (by rw [payload_send]; exact Entails.of_eq hpay₁) hpay₂) $$ [Hs Hd HE HO Ht1 Hr1 Ht2 Hr2]
  · isplitr; · iapply (@ctx_inv F _ X K _ (mem_send c r (par h))); iexact Hctx
    isplitr; · iapply (@ctx_inv F _ X K _ (mem_recv (nxt r c) r h)); iexact Hctx
    isplitl [Hs]; · iexact Hs
    isplitl [Hd HE]
    · isplitl [Hd]; · iexact Hd
      iexact HE
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists _; iexact HO

/-- An accumulation: the device's own chunk and what has arrived make the output's chunk. -/
theorem wp_accum {Q : PUnit → sProp 𝕄} (r : Fin 8) (h : Fin 15) (j : Fin 16) (off : Fin 2 → ℕ)
    (hoff : ∀ a, off a + S16x1024.size a ≤ S2048x1024.size a) (e : off = ![rw0 r j, 0])
    (G : Vec F S16x1024 .f32 → Vec F S1x1x16x1024 .f32 → Vec F S16x1024 .f32) (fx fo g : Big F) (fp : S8x15x16x1024.Idx → Elt F .f32)
    (hg : rd g r j = G (rd fx r j) ((pM.access (slotR r h)).read (Elt F) fp))
    {h1 h2 h3 h4 h5} (k : Prog (TpuEff nD τ sig (Elt F) Λ₀ .tc) PUnit) :
    iprop(xPt c r j fx ∗ pPt c r h fp ∗ oPt c r j fo)
      ⊢ iprop(((xPt c r j fx ∗ pPt c r h fp ∗ oPt c r j g) -∗ wp frame (wpE (defs₀ (F := F)) 𝒱₀ c none) Set.univ k Q)
          -∗ wp frame (wpE (defs₀ (F := F)) 𝒱₀ c none) Set.univ
            (.op (.load xM (Rect.unit (s := S2048x1024) off S16x1024.size hoff).toLoadRect h1) fun a =>
              .op (.load pM (slotR r h).toLoadRect h2) fun b =>
              .op (.load oM (Rect.unit (s := S2048x1024) off S16x1024.size hoff).toLoadRect h3) fun _ =>
              .op (.store oM (Rect.unit (s := S2048x1024) off S16x1024.size hoff) (G a b) Finset.univ h4 h5) fun _ => k) Q) := by
  subst e
  unfold xPt oPt pPt
  iintro ⟨Hx, Hp, Ho⟩ Hk
  iapply (wp_load_rect 𝒱₀ (c : Thread nD τ) none Set.univ (m := xM) (r := chR r j) (Finset.Subset.refl _)) $$ Hx
  iintro Hx
  iapply (wp_load_rect 𝒱₀ (c : Thread nD τ) none Set.univ (m := pM) (r := slotR r h) (by rw [View.set_reshape])) $$ Hp
  iintro Hp
  iapply (wp_load_rect 𝒱₀ (c : Thread nD τ) none Set.univ (m := oM) (r := chR r j) (Finset.Subset.refl _)) $$ Ho
  iintro Ho
  iapply (wp_store 𝒱₀ (c : Thread nD τ) none Set.univ (m := oM) (r := chR r j) (Mk := Finset.univ) (S := (cut oM r j).view.set) (f := fo) (Finset.Subset.refl _)) $$ Ho
  iintro Ho
  iapply Hk
  isplitl [Hx]; · iexact Hx
  isplitl [Hp]; · iexact Hp
  have e := pointsTo_write (F := F) (cut oM r j).view c fo g _ hg
  iapply (Entails.of_eq e)
  iexact Ho

/-! ## The steps -/

/-- A step that sends nothing leaves the debt as it is. -/
theorem debt_cons (op : Op) (l : List Op) (h : pays op = none) : (debt c (op :: l) : sProp 𝕄) = debt c l := by
  unfold debt; rw [due, h]

end Ops

end Cert.KernelIdeal.Ring

end
-- ==== Proof.KernelIdeal.Ops.lean ====
/-
  Every step of the body takes the pieces `pre` lists and leaves those `post` lists.
-/
module

public import proofs.«01_k».proof.Proof.KernelIdeal.Wp

@[expose] public section

noncomputable section

namespace Cert.KernelIdeal.Ring

open Idealize.ShloMosaic Idealize.ShloMosaic.TcCoe Cert.KernelIdeal.Gen Cert.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

variable (X : Dev nD → Big F) (K : GSem nD τ sig → ℕ) (c : Dev nD)

/-- The device's position as a word. -/
abbrev posW (c : Dev nD) : BitVec 32 := BitVec.ofNat 32 (pos c).val

/-- The program of a step on device `c`, in front of `k`. -/
abbrev stepOn (hv : Inb (posW c)) (op : Op) (k : Prog (TpuEff nD τ sig (Elt F) Λ₀ .tc) PUnit) : Prog (TpuEff nD τ sig (Elt F) Λ₀ .tc) PUnit :=
  step (F := F) xM oM pM cc0_scratch1 cc0_scratch2 (posW c) hv (right c) (left c) op k

/-- Where the kernel computes that a chunk lies is where it lies. -/
theorem off_eq (p : Fin 16) (r : Fin 8) (k : Fin 16) (d : Fin 30) (h : row p.val r d.val = rw0 r k) :
    k0_off1 (BitVec.ofNat 32 p.val) (BitVec.ofNat 32 (256 * r.val)) (BitVec.ofNat 32 d.val) = ![rw0 r k, 0] := by rw [off1_eq, h]

/-- The semaphore's round that follows a round. -/
theorem nS_succ (h : Fin 15) : (nS h).succ.val = rnd h + 1 ∧ (nS h).castSucc.val = rnd h ∧ (nS h).val = rnd h := by
  have := h.isLt
  have e : (nS h).val = rnd h := Nat.mod_eq_of_lt (by show h.val / 2 < 16; omega)
  exact ⟨by rw [Fin.val_succ, e], e, e⟩
/-- The rounds before and after a hop of the second round trip, as numbers. -/
theorem nS'_succ (h : Fin 15) : (nS' h).succ.val = rnd' h + 1 ∧ (nS' h).castSucc.val = rnd' h ∧ (nS' h).val = rnd' h := by
  have := h.isLt
  have e : (nS' h).val = rnd' h := Nat.mod_eq_of_lt (by show 8 - h.val % 2 + h.val / 2 < 16; omega)
  exact ⟨by rw [Fin.val_succ, e], e, e⟩

/-- The first round trip's wait for what arrives. -/
theorem op_recv {Q : PUnit → sProp 𝕄} (hv : Inb (posW c)) (r : Fin 8) (h : Fin 15) (l : List Op) (hl : above (2 + h.val) l = true)
    (k : Prog (TpuEff nD τ sig (Elt F) Λ₀ .tc) PUnit) :
    iprop(ctx X K ∗ bigSepL (pre (.recv r h)) (hold X c) ∗ debt c (.recv r h :: l))
      ⊢ iprop(((bigSepL (post (.recv r h)) (hold X c) ∗ debt c l) -∗ wp frame (wpE (defs₀ (F := F)) 𝒱₀ c none) Set.univ k Q)
          -∗ wp frame (wpE (defs₀ (F := F)) 𝒱₀ c none) Set.univ (stepOn (F := F) c hv (.recv r h) k) Q) := by
  rw [debt_cons c (.recv r h) l rfl, Cert.Ring.pre, Cert.Ring.post, bigSepL_append]
  simp only [bigSepL_cons', bigSepL_nil, hold, step]
  have hE : (if h.val = 14 then iprop(chunkLeave c (pair r) 0 ∗ chunkLeave c (pair r) 1) else iprop(emp))
      ⊢ bigSepL (if h.val = 14 then [Atom.nOut (pair r) 0, Atom.nOut (pair r) 1] else []) (hold X c) := by
    by_cases h14 : h.val = 14
    · rw [if_pos h14, if_pos h14]; exact .rfl
    · rw [if_neg h14, if_neg h14]; exact .rfl
  iintro ⟨#Hctx, ⟨Hc, ⟨Hat, Hr⟩, -⟩, HO⟩ Hk
  iapply (wp_await X K c _ _ rfl (srcOf xM oM (posW c) hv r h) (slot pM r h) k (amount_slot r h) (by rw [recvSem_val]; omega) 0 0 (recvPay X c r h)
    (expect_recv X c r h 0 (by decide)) (rest_recv0 X c r h) (2 + h.val) l (by rw [lv_recv, if_pos rfl]) hl) $$ [Hc HO Hat]
  · isplitr; · iexact Hctx
    isplitl [Hc]; · iexact Hc
    isplitl [HO]; · iexact HO
    iexact Hat
  iintro ⟨HO, Hat, Hr', Hp⟩
  iapply Hk
  unfold recvPay
  icases Hp with ⟨Hp, HE⟩
  isplitr [HO]
  · isplitr [HE]
    · isplitl [Hp]; · iexact Hp
      isplitl [Hat Hr']
      · isplitl [Hat]; · iexact Hat
        iexact Hr'
      iempintro
    · iapply hE; iexact HE
  · iexact HO

/-- The second round trip's wait for what arrives. -/
theorem op_recv' {Q : PUnit → sProp 𝕄} (hv : Inb (posW c)) (r : Fin 8) (h : Fin 15) (l : List Op) (hl : above (17 + h.val) l = true)
    (k : Prog (TpuEff nD τ sig (Elt F) Λ₀ .tc) PUnit) :
    iprop(ctx X K ∗ bigSepL (pre (.recv' r h)) (hold X c) ∗ debt c (.recv' r h :: l))
      ⊢ iprop(((bigSepL (post (.recv' r h)) (hold X c) ∗ debt c l) -∗ wp frame (wpE (defs₀ (F := F)) 𝒱₀ c none) Set.univ k Q)
          -∗ wp frame (wpE (defs₀ (F := F)) 𝒱₀ c none) Set.univ (stepOn (F := F) c hv (.recv' r h) k) Q) := by
  rw [debt_cons c (.recv' r h) l rfl, Cert.Ring.pre, Cert.Ring.post, bigSepL_append]
  simp only [bigSepL_cons', bigSepL_nil, hold, step]
  have hE : (if h.val = 0 then bigSepL later (fun g' => chunkLeave c (pair r) g') else iprop(emp))
      ⊢ bigSepL (if h.val = 0 then later.map fun g' => Atom.nOut (pair r) g' else []) (hold X c) := by
    by_cases h0 : h.val = 0
    · rw [if_pos h0, if_pos h0, bigSepL_map]; exact .rfl
    · rw [if_neg h0, if_neg h0]; exact .rfl
  iintro ⟨#Hctx, ⟨Hc, ⟨Hat, Hr⟩, -⟩, HO⟩ Hk
  iapply (wp_await X K c _ _ rfl (chunk oM (posW c) hv r (agC r h)) (chunk oM (posW c) hv r (agC r h)) k rfl (by rw [recvSem_val]; omega) 1 1 (recvPay' X c r h)
    (expect_recv X c r h 1 (by decide)) (rest_recv1 X c r h) (17 + h.val) l (by rw [lv_recv, if_neg (by decide)]) hl) $$ [Hc HO Hat]
  · isplitr; · iexact Hctx
    isplitl [Hc]; · iexact Hc
    isplitl [HO]; · iexact HO
    iexact Hat
  iintro ⟨HO, Hat, Hr', Hp⟩
  iapply Hk
  unfold recvPay'
  icases Hp with ⟨Hp, HE⟩
  isplitr [HO]
  · isplitr [HE]
    · isplitl [Hp]; · iexact Hp
      isplitl [Hat Hr']
      · isplitl [Hat]; · iexact Hat
        iexact Hr'
      iempintro
    · iapply hE; iexact HE
  · iexact HO

/-- The wait for a chunk of the first round trip to have left. -/
theorem op_sent {Q : PUnit → sProp 𝕄} (hv : Inb (posW c)) (r : Fin 8) (h : Fin 15) (l : List Op) (hl : above 0 l = true)
    (k : Prog (TpuEff nD τ sig (Elt F) Λ₀ .tc) PUnit) :
    iprop(ctx X K ∗ bigSepL (pre (.sent r h)) (hold X c) ∗ debt c (.sent r h :: l))
      ⊢ iprop(((bigSepL (post (.sent r h)) (hold X c) ∗ debt c l) -∗ wp frame (wpE (defs₀ (F := F)) 𝒱₀ c none) Set.univ k Q)
          -∗ wp frame (wpE (defs₀ (F := F)) 𝒱₀ c none) Set.univ (stepOn (F := F) c hv (.sent r h) k) Q) := by
  rw [debt_cons c (.sent r h) l rfl, Cert.Ring.pre, Cert.Ring.post]
  rw [bigSepL_cons', bigSepL_cons', bigSepL_nil, bigSepL_cons', bigSepL_cons', bigSepL_nil]
  simp only [step]
  have e1 : hold X c (.sp r (par h) (nS h).succ) = iprop(atPos ER (sendCell c r (par h)) (rnd h + 1) ∅ 0 ∗ reached ER (sendCell c r (par h)) (rnd h + 1)) := by
    rw [hold, (nS_succ h).1]
  have e0 : hold X c (.sp r (par h) (nS h).castSucc) = iprop(atPos ER (sendCell c r (par h)) (rnd h) ∅ 0 ∗ reached ER (sendCell c r (par h)) (rnd h)) := by
    rw [hold, (nS_succ h).2.1]
  rw [e0, e1, show hold X c (.cS r (par h)) = cred (tallyAt (sendCell c r (par h)) 0 N) from rfl]
  have hN : (srcOf xM oM (posW c) hv r h).view.dmaCredit = N := by
    by_cases h0 : h.val = 0
    · unfold srcOf; rw [if_pos h0]; rfl
    · unfold srcOf; rw [if_neg h0]; rfl
  have hS : srcPt X c r h ⊢ hold X c (if h.val = 0 then .xc r (tn h) else .oPart r (tn h)) := by
    unfold srcPt
    by_cases h0 : h.val = 0
    · rw [if_pos h0, if_pos h0]; exact .rfl
    · rw [if_neg h0, if_neg h0]; exact .rfl
  iintro ⟨#Hctx, ⟨Hc, ⟨Hat, Hr⟩, -⟩, HO⟩ Hk
  iapply (wp_await X K c (sendSem r (par h)) _ (sendOf_eq r h) (slot pM r h) (srcOf xM oM (posW c) hv r h) k hN (by show 3 ≤ 123 + 2 * r.val + (par h).val; omega) 0 (rnd h) (srcPt X c r h)
    (expect_send X c r (par h) _ (rnd_lt h)) ((rest_send X c r (par h) _ (rnd_lt h)).trans (sendPay_rs X c r h)) 0 l (by rw [lv_send]) hl) $$ [Hc HO Hat]
  · isplitr; · iexact Hctx
    isplitl [Hc]; · iexact Hc
    isplitl [HO]; · iexact HO
    iexact Hat
  iintro ⟨HO, Hat, Hr', Hp⟩
  iapply Hk
  isplitr [HO]
  · isplitl [Hat Hr']
    · isplitl [Hat]; · iexact Hat
      iexact Hr'
    isplitl [Hp]
    · iapply hS; iexact Hp
    iempintro
  · iexact HO

/-- The wait for a chunk of the second round trip to have left. -/
theorem op_sent' {Q : PUnit → sProp 𝕄} (hv : Inb (posW c)) (r : Fin 8) (h : Fin 15) (l : List Op) (hl : above 0 l = true)
    (k : Prog (TpuEff nD τ sig (Elt F) Λ₀ .tc) PUnit) :
    iprop(ctx X K ∗ bigSepL (pre (.sent' r h)) (hold X c) ∗ debt c (.sent' r h :: l))
      ⊢ iprop(((bigSepL (post (.sent' r h)) (hold X c) ∗ debt c l) -∗ wp frame (wpE (defs₀ (F := F)) 𝒱₀ c none) Set.univ k Q)
          -∗ wp frame (wpE (defs₀ (F := F)) 𝒱₀ c none) Set.univ (stepOn (F := F) c hv (.sent' r h) k) Q) := by
  rw [debt_cons c (.sent' r h) l rfl, Cert.Ring.pre, Cert.Ring.post]
  simp only [bigSepL_cons', bigSepL_nil, hold, step]
  rw [(nS'_succ h).1, (nS'_succ h).2.1]
  iintro ⟨#Hctx, ⟨Hc, ⟨Hat, Hr⟩, -⟩, HO⟩ Hk
  iapply (wp_await X K c (sendSem r (par h)) _ (sendOf_eq r h) (chunk oM (posW c) hv r (agC r h)) (chunk oM (posW c) hv r (agC r h)) k rfl (by show 3 ≤ 123 + 2 * r.val + (par h).val; omega) 0 (rnd' h)
    (oPt c r (loc r (pos c) (tnB h)) (res X))
    (expect_send X c r (par h) _ (rnd'_lt h)) ((rest_send X c r (par h) _ (rnd'_lt h)).trans (sendPay_ag X c r h)) 0 l (by rw [lv_send]) hl) $$ [Hc HO Hat]
  · isplitr; · iexact Hctx
    isplitl [Hc]; · iexact Hc
    isplitl [HO]; · iexact HO
    iexact Hat
  iintro ⟨HO, Hat, Hr', Hp⟩
  iapply Hk
  isplitr [HO]
  · isplitl [Hat Hr']
    · isplitl [Hat]; · iexact Hat
      iexact Hr'
    isplitl [Hp]; · iexact Hp
    iempintro
  · iexact HO

/-- The accumulation of hop `h`. -/
theorem op_acc {Q : PUnit → sProp 𝕄} (hv : Inb (posW c)) (r : Fin 8) (h : Fin 15) (l : List Op)
    (k : Prog (TpuEff nD τ sig (Elt F) Λ₀ .tc) PUnit) :
    iprop(ctx X K ∗ bigSepL (pre (.acc r h)) (hold X c) ∗ debt c (.acc r h :: l))
      ⊢ iprop(((bigSepL (post (.acc r h)) (hold X c) ∗ debt c l) -∗ wp frame (wpE (defs₀ (F := F)) 𝒱₀ c none) Set.univ k Q)
          -∗ wp frame (wpE (defs₀ (F := F)) 𝒱₀ c none) Set.univ (stepOn (F := F) c hv (.acc r h) k) Q) := by
  rw [debt_cons c (.acc r h) l rfl, Cert.Ring.pre, Cert.Ring.post]
  simp only [bigSepL_cons', bigSepL_nil, hold, step]
  iintro ⟨-, ⟨Hx, ⟨%fo, Ho⟩, Hg, -⟩, HO⟩ Hk
  iapply (wp_accum c r h (loc r (pos c) (tnS h)) _ (hv r (rsD r h)) (off_eq _ _ _ _ (row_recv _ r h)) (accum (F := F)) (X c) fo (outs X c) (parts X c)
    ((rd_outs X c r (tnS h)).trans (accum_eq X c r h _ fun j => parts_slot X c r h j).symm) k) $$ [Hx Ho Hg]
  · isplitl [Hx]; · iexact Hx
    isplitl [Hg]; · iexact Hg
    iexact Ho
  iintro ⟨Hx, Hg, Ho⟩
  iapply Hk
  isplitr [HO]
  · isplitl [Hg]; · iexact Hg
    isplitl [Hx]; · iexact Hx
    isplitl [Ho]; · iexact Ho
    iempintro
  · iexact HO

/-- The last accumulation and the activation. -/
theorem op_fin {Q : PUnit → sProp 𝕄} (hv : Inb (posW c)) (r : Fin 8) (l : List Op)
    (k : Prog (TpuEff nD τ sig (Elt F) Λ₀ .tc) PUnit) :
    iprop(ctx X K ∗ bigSepL (pre (.fin r)) (hold X c) ∗ debt c (.fin r :: l))
      ⊢ iprop(((bigSepL (post (.fin r)) (hold X c) ∗ debt c l) -∗ wp frame (wpE (defs₀ (F := F)) 𝒱₀ c none) Set.univ k Q)
          -∗ wp frame (wpE (defs₀ (F := F)) 𝒱₀ c none) Set.univ (stepOn (F := F) c hv (.fin r) k) Q) := by
  rw [debt_cons c (.fin r) l rfl, Cert.Ring.pre, Cert.Ring.post]
  simp only [bigSepL_cons', bigSepL_nil, hold, step]
  iintro ⟨-, ⟨Hx, ⟨%fo, Ho⟩, Hg, -⟩, HO⟩ Hk
  iapply (wp_accum c r 14 (loc r (pos c) 15) _ (hv r (rsD r 14)) (off_eq _ _ _ _ (row_recv _ r 14)) (fun a b => activate (accum (F := F) a b)) (X c) fo (res X) (parts X c)
    ((rd_res X c r).trans (congrArg activate (accum_eq X c r 14 _ fun j => parts_slot X c r 14 j).symm)) k) $$ [Hx Ho Hg]
  · isplitl [Hx]; · iexact Hx
    isplitl [Hg]; · iexact Hg
    iexact Ho
  iintro ⟨Hx, Hg, Ho⟩
  iapply Hk
  isplitr [HO]
  · isplitl [Hg]; · iexact Hg
    isplitl [Hx]; · iexact Hx
    isplitl [Ho]; · iexact Ho
    iempintro
  · iexact HO

omit [FloatOps F] in
/-- What a device hands over is its own chunk and that its own semaphore is ready. -/
theorem leave_eq (r : Fin 8) (g : Fin 15) : (chunkLeave (F := F) (nxt r c) (pair r) g : sProp 𝕄)
    = iprop((∃ f, oPt c (pair r) (loc (pair r) (pos c) (tn g)) f) ∗ reached ER (recvCell c (pair r) g) 1) := by
  unfold chunkLeave; rw [nxt_pair, prv_nxt]

/-- The leave that goes with the last hop of the first round trip. -/
theorem leave_last (r : Fin 8) (h : Fin 15) :
    bigSepL (if h.val = 14 then [Atom.oAny (pair r) 0, .oPart (pair r) 1, .rp (pair r) 0 1, .rp (pair r) 1 1] else []) (hold X c)
      ⊢ iprop((if h.val = 14 then iprop(chunkLeave (nxt r c) (pair r) 0 ∗ chunkLeave (nxt r c) (pair r) 1) else iprop(emp))
        ∗ bigSepL (if h.val = 14 then [Atom.rp (pair r) 0 1, .rp (pair r) 1 1] else []) (hold X c)) := by
  by_cases h14 : h.val = 14
  · rw [if_pos h14, if_pos h14, if_pos h14, leave_eq, leave_eq]
    simp only [bigSepL_cons', bigSepL_nil, hold]
    iintro ⟨⟨%f0, H0⟩, H1, ⟨Ha0, #Hr0⟩, ⟨Ha1, #Hr1⟩, -⟩
    isplitl [H0 H1]
    · isplitl [H0]
      · isplitl [H0]; · iexists f0; iexact H0
        iexact Hr0
      · isplitl [H1]; · iexists _; iexact H1
        iexact Hr1
    · isplitl [Ha0]
      · isplitl [Ha0]; · iexact Ha0
        iexact Hr0
      isplitl [Ha1]
      · isplitl [Ha1]; · iexact Ha1
        iexact Hr1
      iempintro
  · rw [if_neg h14, if_neg h14, if_neg h14, bigSepL_nil]
    iintro H
    isplitl [H]; · iexact H
    iempintro

/-- Pair by pair, keeping the second of each. -/
theorem bigSepL_trade {I : Type} (A B C : I → sProp 𝕄) (h : ∀ i, iprop(A i ∗ B i) ⊢ iprop(C i ∗ B i)) :
    ∀ l : List I, iprop(bigSepL l A ∗ bigSepL l B) ⊢ iprop(bigSepL l C ∗ bigSepL l B)
  | [] => .rfl
  | i :: l => by
    have ih := bigSepL_trade A B C h l
    rw [bigSepL_cons', bigSepL_cons', bigSepL_cons']
    iintro ⟨⟨HA, HAl⟩, HB, HBl⟩
    ihave H := (h i) $$ [HA HB]
    · isplitl [HA]; · iexact HA
      iexact HB
    ihave Hl := ih $$ [HAl HBl]
    · isplitl [HAl]; · iexact HAl
      iexact HBl
    icases H with ⟨HC, HB⟩
    icases Hl with ⟨HCl, HBl⟩
    isplitl [HC HCl]
    · isplitl [HC]; · iexact HC
      iexact HCl
    · isplitl [HB]; · iexact HB
      iexact HBl

/-- The leave that goes with the first hop of the second round trip. -/
theorem leave_first (r : Fin 8) (g : Fin 15) :
    bigSepL (if g.val = 0 then (later.map fun g' => Atom.oPart (pair r) (tn g')) ++ (later.map fun g' => Atom.rp (pair r) g' 1) else []) (hold X c)
      ⊢ iprop((if g.val = 0 then bigSepL later (fun g' => chunkLeave (nxt r c) (pair r) g') else iprop(emp))
        ∗ bigSepL (if g.val = 0 then later.map fun g' => Atom.rp (pair r) g' 1 else []) (hold X c)) := by
  by_cases h0 : g.val = 0
  · rw [if_pos h0, if_pos h0, if_pos h0, bigSepL_append, bigSepL_map, bigSepL_map]
    refine bigSepL_trade _ _ _ (fun g' => ?_) later
    rw [leave_eq]
    simp only [hold]
    iintro ⟨H, Ha, #Hr⟩
    isplitl [H]
    · isplitl [H]; · iexists _; iexact H
      iexact Hr
    · isplitl [Ha]; · iexact Ha
      iexact Hr
  · rw [if_neg h0, if_neg h0, if_neg h0, bigSepL_nil]
    iintro H
    isplitl [H]; · iexact H
    iempintro

/-- A send of the first round trip, from the buffer `a` that holds the source. -/
theorem op_send_from {Q : PUnit → sProp 𝕄} (hv : Inb (posW c)) (r : Fin 8) (h : Fin 15) (l : List Op)
    (k : Prog (TpuEff nD τ sig (Elt F) Λ₀ .tc) PUnit) (a : Memref sig .tc .vmem S2048x1024 .f32)
    (fs : (cut a r (loc r (pos c) (tn h))).view.ty.Contents (Elt F)) (ha : (if h.val = 0 then xM else oM) = a)
    (hfs : (cut a r (loc r (pos c) (tn h))).view.read (Elt F) fs = part X h.val c r)
    (hsrc : ((cut a r (loc r (pos c) (tn h))).view.loc (c : Thread nD τ) ↦[(cut a r (loc r (pos c) (tn h))).view.set]{fullShare} fs : sProp 𝕄) = srcPt X c r h)
    (hpre : bigSepL (if h.val = 0 then [Atom.xc r 0] else [.oPart r (tn h)]) (hold X c) ⊢ srcPt X c r h) :
    iprop(ctx X K ∗ bigSepL (pre (.send r h)) (hold X c) ∗ debt c (.send r h :: l))
      ⊢ iprop(((bigSepL (post (.send r h)) (hold X c) ∗ debt c l) -∗ wp frame (wpE (defs₀ (F := F)) 𝒱₀ c none) Set.univ k Q)
          -∗ wp frame (wpE (defs₀ (F := F)) 𝒱₀ c none) Set.univ (stepOn (F := F) c hv (.send r h) k) Q) := by
  rw [Cert.Ring.pre, Cert.Ring.post, bigSepL_append, bigSepL_append, bigSepL_append]
  rw [bigSepL_cons', bigSepL_cons', bigSepL_cons', bigSepL_cons', bigSepL_nil, bigSepL_cons', bigSepL_cons', bigSepL_nil]
  have e0 : hold X c (.sp r (par h) (nS h).castSucc) = iprop(atPos ER (sendCell c r (par h)) (rnd h) ∅ 0 ∗ reached ER (sendCell c r (par h)) (rnd h)) := by
    rw [hold, (nS_succ h).2.1]
  have e1 : hold X c (.tS r (par h) (nS h)) = dutyTok ER (sendCell c r (par h)) (rnd h) 0 := by rw [hold, (nS_succ h).2.2]
  rw [e0, e1, show hold X c (.cS r (par h)) = cred (tallyAt (sendCell c r (par h)) 0 N) from rfl,
    show hold X c (.tR r h 0) = dutyTok ER (recvCell (nxt r c) r h) 0 0 from rfl,
    show hold X c (.nSlot r h) = iprop((∃ f, pPt (nxt r c) r h f) ∗ reached ER (recvCell (nxt r c) r h) 0) from rfl]
  simp only [step]
  have hL := leave_last X c r h
  have hpay₂ : ∀ fd, iprop(((slot pM r h).view.loc (nxt r c : Thread nD τ) ↦[(slot pM r h).view.set]{fullShare} ((slot pM r h).view.write (Elt F) fd ((cut a r (loc r (pos c) (tn h))).view.read (Elt F) fs) Finset.univ))
        ∗ (if h.val = 14 then iprop(chunkLeave (nxt r c) (pair r) 0 ∗ chunkLeave (nxt r c) (pair r) 1) else iprop(emp)))
      ⊢ (sched X).payload (recvCell (nxt r c) r h) 0 0 := fun fd => by
    rw [payload_recv0]
    unfold recvPay pPt
    rw [hfs, pointsTo_write (slot pM r h).view (nxt r c) fd (parts X (nxt r c)) (part X h.val c r) ((read_slot X (nxt r c) r h).trans (by rw [prv_nxt]))]
  unfold pPt
  iintro ⟨#Hctx, ⟨⟨Ht1, Ht2, ⟨⟨%fd, Hd⟩, Hr2⟩, ⟨Hat, #Hr1⟩, -⟩, Hs, HL⟩, HO⟩ Hk
  ihave Hs := hpre $$ Hs
  ihave HL := hL $$ HL
  icases HL with ⟨HE, HR⟩
  iapply (wp_post X K c r h 0 (cut a r (loc r (pos c) (tn h))) _ ((congrArg (fun b => chunk b (posW c) hv r (rsC r h)) ha).trans (chunk_eq a (pos c) hv r _ _ (row_send _ r h)))
    (slot pM r h) _ rfl _ rfl _ (sendOf_eq r h) k (rnd h) 0 (rnd_lt h) (by decide) fs fd _ (amount_slot r h)
    (hsrc.trans (sendPay_rs X c r h).symm) (hpay₂ fd) l (.send r h :: l) rfl) $$ [Ht1 Ht2 Hd Hr2 Hs HE HO]
  · isplitr; · iexact Hctx
    isplitl [Hs]; · iapply (Entails.of_eq hsrc.symm); iexact Hs
    isplitl [Hd]; · iexact Hd
    isplitl [HE]; · iexact HE
    isplitl [HO]; · iexact HO
    isplitl [Ht1]; · iexact Ht1
    isplitr; · iexact Hr1
    isplitl [Ht2]; · iexact Ht2
    iexact Hr2
  iintro ⟨Hc, HO⟩
  iapply Hk
  isplitr [HO]
  · isplitr [HR]
    · isplitl [Hc]; · iexact Hc
      isplitl [Hat]
      · isplitl [Hat]; · iexact Hat
        iexact Hr1
      iempintro
    · iexact HR
  · iexact HO

/-- A send of the first round trip. -/
theorem op_send {Q : PUnit → sProp 𝕄} (hv : Inb (posW c)) (r : Fin 8) (h : Fin 15) (l : List Op)
    (k : Prog (TpuEff nD τ sig (Elt F) Λ₀ .tc) PUnit) :
    iprop(ctx X K ∗ bigSepL (pre (.send r h)) (hold X c) ∗ debt c (.send r h :: l))
      ⊢ iprop(((bigSepL (post (.send r h)) (hold X c) ∗ debt c l) -∗ wp frame (wpE (defs₀ (F := F)) 𝒱₀ c none) Set.univ k Q)
          -∗ wp frame (wpE (defs₀ (F := F)) 𝒱₀ c none) Set.univ (stepOn (F := F) c hv (.send r h) k) Q) := by
  by_cases h0 : h.val = 0
  · obtain rfl : h = 0 := Fin.ext h0
    exact op_send_from X K c hv r 0 l k xM (X c) rfl rfl rfl .rfl
  · exact op_send_from X K c hv r h l k oM (outs X c) (if_neg h0) (rd_outs X c r (tn h))
      (by unfold srcPt; rw [if_neg h0]; rfl) (by unfold srcPt; rw [if_neg h0, if_neg h0]; exact .rfl)

/-- A send of the second round trip. -/
theorem op_send' {Q : PUnit → sProp 𝕄} (hv : Inb (posW c)) (r : Fin 8) (h : Fin 15) (l : List Op)
    (k : Prog (TpuEff nD τ sig (Elt F) Λ₀ .tc) PUnit) :
    iprop(ctx X K ∗ bigSepL (pre (.send' r h)) (hold X c) ∗ debt c (.send' r h :: l))
      ⊢ iprop(((bigSepL (post (.send' r h)) (hold X c) ∗ debt c l) -∗ wp frame (wpE (defs₀ (F := F)) 𝒱₀ c none) Set.univ k Q)
          -∗ wp frame (wpE (defs₀ (F := F)) 𝒱₀ c none) Set.univ (stepOn (F := F) c hv (.send' r h) k) Q) := by
  rw [Cert.Ring.pre, Cert.Ring.post, bigSepL_append, bigSepL_append]
  rw [bigSepL_cons', bigSepL_cons', bigSepL_cons', bigSepL_cons', bigSepL_cons', bigSepL_nil, bigSepL_cons', bigSepL_cons', bigSepL_nil]
  have e0 : hold X c (.sp r (par h) (nS' h).castSucc) = iprop(atPos ER (sendCell c r (par h)) (rnd' h) ∅ 0 ∗ reached ER (sendCell c r (par h)) (rnd' h)) := by
    rw [hold, (nS'_succ h).2.1]
  have e1 : hold X c (.tS r (par h) (nS' h)) = dutyTok ER (sendCell c r (par h)) (rnd' h) 0 := by rw [hold, (nS'_succ h).2.2]
  have e2 : hold X c (.nOut r h) = iprop((∃ f, oPt (nxt r c) r (loc r (pos c) (tnB h)) f) ∗ reached ER (recvCell (nxt r c) r h) 1) := by
    rw [hold, chunkLeave, loc_send']
  rw [e0, e1, e2, show hold X c (.cS r (par h)) = cred (tallyAt (sendCell c r (par h)) 0 N) from rfl,
    show hold X c (.tR r h 1) = dutyTok ER (recvCell (nxt r c) r h) 1 0 from rfl,
    show hold X c (.oRes r (tnB h)) = oPt c r (loc r (pos c) (tnB h)) (res X) from rfl]
  simp only [step]
  have hL := leave_first X c r h
  have hpay₂ : ∀ fd, iprop(((cut oM r (loc r (pos c) (tnB h))).view.loc (nxt r c : Thread nD τ) ↦[(cut oM r (loc r (pos c) (tnB h))).view.set]{fullShare} ((cut oM r (loc r (pos c) (tnB h))).view.write (Elt F) fd ((cut oM r (loc r (pos c) (tnB h))).view.read (Elt F) (res X)) Finset.univ))
        ∗ (if h.val = 0 then bigSepL later (fun g' => chunkLeave (nxt r c) (pair r) g') else iprop(emp)))
      ⊢ (sched X).payload (recvCell (nxt r c) r h) 1 0 := fun fd => by
    rw [payload_recv1]
    unfold recvPay' oPt
    rw [pointsTo_write (cut oM r (loc r (pos c) (tnB h))).view (nxt r c) fd (res X) _ rfl, loc_send']
  unfold oPt
  iintro ⟨#Hctx, ⟨⟨Ht1, Ht2, ⟨⟨%fd, Hd⟩, Hr2⟩, ⟨Hat, #Hr1⟩, Hs, -⟩, HL⟩, HO⟩ Hk
  ihave HL := hL $$ HL
  icases HL with ⟨HE, HR⟩
  iapply (wp_post X K c r h 1 (cut oM r (loc r (pos c) (tnB h))) _ (chunk_eq oM (pos c) hv r _ _ (row_send' _ r h))
    (cut oM r (loc r (pos c) (tnB h))) _ (chunk_eq oM (pos c) hv r _ _ (row_send' _ r h)) _ rfl _ (sendOf_eq r h) k (rnd' h) 1 (rnd'_lt h) (by decide) (res X) fd _ (amount_o r _)
    (sendPay_ag X c r h).symm (hpay₂ fd) l (.send' r h :: l) rfl) $$ [Ht1 Ht2 Hd Hr2 Hs HE HO]
  · isplitr; · iexact Hctx
    isplitl [Hs]; · iexact Hs
    isplitl [Hd]; · iexact Hd
    isplitl [HE]; · iexact HE
    isplitl [HO]; · iexact HO
    isplitl [Ht1]; · iexact Ht1
    isplitr; · iexact Hr1
    isplitl [Ht2]; · iexact Ht2
    iexact Hr2
  iintro ⟨Hc, HO⟩
  iapply Hk
  isplitr [HO]
  · isplitr [HR]
    · isplitl [Hc]; · iexact Hc
      isplitl [Hat]
      · isplitl [Hat]; · iexact Hat
        iexact Hr1
      iempintro
    · iexact HR
  · iexact HO

/-- Every step takes what `pre` lists and leaves what `post` lists. -/
theorem wp_op {Q : PUnit → sProp 𝕄} (hv : Inb (posW c)) (op : Op) (l : List Op) (hl : ∀ b, waitLevel op = some b → above b l = true)
    (k : Prog (TpuEff nD τ sig (Elt F) Λ₀ .tc) PUnit) :
    iprop(ctx X K ∗ bigSepL (pre op) (hold X c) ∗ debt c (op :: l))
      ⊢ iprop(((bigSepL (post op) (hold X c) ∗ debt c l) -∗ wp frame (wpE (defs₀ (F := F)) 𝒱₀ c none) Set.univ k Q)
          -∗ wp frame (wpE (defs₀ (F := F)) 𝒱₀ c none) Set.univ (stepOn (F := F) c hv op k) Q) := by
  cases op with
  | send r h => exact op_send X K c hv r h l k
  | recv r h => exact op_recv X K c hv r h l (hl _ rfl) k
  | acc r h => exact op_acc X K c hv r h l k
  | fin r => exact op_fin X K c hv r l k
  | sent r h => exact op_sent X K c hv r h l (hl _ rfl) k
  | send' r h => exact op_send' X K c hv r h l k
  | recv' r h => exact op_recv' X K c hv r h l (hl _ rfl) k
  | sent' r h => exact op_sent' X K c hv r h l (hl _ rfl) k

/-! ## The run of all steps -/

/-- What a stock of pieces is. -/
def stockOf (m : ℕ) : sProp 𝕄 := bigSep (stock m) (hold X c)

/-- The steps one after the other. -/
theorem wp_run {Q : PUnit → sProp 𝕄} (hv : Inb (posW c)) (e : ℕ) (k : Prog (TpuEff nD τ sig (Elt F) Λ₀ .tc) PUnit) :
    ∀ (l : List Op) (m : ℕ), replay e l m = true →
      iprop(ctx X K ∗ stockOf X c m ∗ debt c l)
        ⊢ iprop(((stockOf X c e ∗ debt c []) -∗ wp frame (wpE (defs₀ (F := F)) 𝒱₀ c none) Set.univ k Q)
            -∗ wp frame (wpE (defs₀ (F := F)) 𝒱₀ c none) Set.univ
              (run (F := F) xM oM pM cc0_scratch1 cc0_scratch2 (posW c) hv (right c) (left c) l k) Q)
  | [], m, hm => by
    obtain rfl : m = e := by rw [replay] at hm; exact of_decide_eq_true hm
    iintro ⟨-, Hs, HO⟩ Hk
    iapply Hk
    isplitl [Hs]; · iexact Hs
    iexact HO
  | op :: l, m, hm => by
    rw [replay, Bool.and_eq_true, Bool.and_eq_true, Bool.and_eq_true, Bool.and_eq_true, Bool.and_eq_true] at hm
    obtain ⟨⟨⟨⟨⟨h1, h2⟩, h3⟩, h4⟩, h5⟩, h6⟩ := hm
    have ih := wp_run (Q := Q) hv e k l _ h6
    obtain ⟨t1, t2⟩ := stock_take m (pre op) (of_decide_eq_true h1)
    obtain ⟨p1, p2⟩ := stock_put (m ^^^ mask (pre op)) (post op) (of_decide_eq_true h2)
    have hl : ∀ b, waitLevel op = some b → above b l = true := fun b hb => by rw [hb] at h5; exact h5
    have hop := wp_op X K c (Q := Q) hv op l hl (run (F := F) xM oM pM cc0_scratch1 cc0_scratch2 (posW c) hv (right c) (left c) l k)
    have et : stockOf X c m = iprop(bigSepL (pre op) (hold X c) ∗ stockOf X c (m ^^^ mask (pre op))) := by
      unfold stockOf
      rw [t1, bigSep_union t2, bigSep_eq_bigSepL _ (of_decide_eq_true h3)]; rfl
    have ep : stockOf X c ((m ^^^ mask (pre op)) ||| mask (post op)) = iprop(bigSepL (post op) (hold X c) ∗ stockOf X c (m ^^^ mask (pre op))) := by
      unfold stockOf
      rw [p1, bigSep_union p2, bigSep_eq_bigSepL _ (of_decide_eq_true h4)]; rfl
    rw [et]
    rw [ep] at ih
    iintro ⟨#Hctx, ⟨Hp, Hs⟩, HO⟩ Hk
    iapply hop $$ [Hp HO]
    · isplitr; · iexact Hctx
      isplitl [Hp]; · iexact Hp
      iexact HO
    iintro ⟨Hp, HO⟩
    iapply ih $$ [Hp Hs HO]
    · isplitr; · iexact Hctx
      isplitl [Hp Hs]
      · isplitl [Hp]; · iexact Hp
        iexact Hs
      iexact HO
    iexact Hk

end Cert.KernelIdeal.Ring

end
-- ==== Proof.KernelIdeal.Body.lean ====
/-
  The kernel's body is the list of steps: every chunk lies within the array whatever the position read, and the program is
  the steps one after another.
-/
module

public import proofs.«01_k».proof.Proof.KernelIdeal.Code

@[expose] public section

noncomputable section

namespace Cert.KernelIdeal.Ring

open Idealize.ShloMosaic Idealize.ShloMosaic.TcCoe Cert.KernelIdeal.Gen Cert.Ring
open Idealize.SL.Sem

variable {F : FTy → Type} [FloatOps F]

/-! ## The chunks lie within the array, whatever the position read -/

/-- The remainder the kernel takes modulo 16, made nonnegative. -/
def wrap (r : BitVec 32) : BitVec 32 :=
  Scalar.select (Scalar.andi (Scalar.xori (Scalar.cmpi .slt r 0#32) (Scalar.cmpi .slt 16#32 0#32)) (Scalar.cmpi .ne r 0#32))
    (Scalar.addi r 16#32) r

/-- The remainder of a word by 16 is one of 31 words. -/
theorem srem_cases (x : BitVec 32) : ∃ n : Fin 16, x.srem 16#32 = BitVec.ofNat 32 n.val ∨ x.srem 16#32 = -BitVec.ofNat 32 n.val := by
  have key : ∀ y : BitVec 32, y % 16#32 = BitVec.ofNat 32 (⟨y.toNat % 16, Nat.mod_lt _ (by decide)⟩ : Fin 16).val := fun y => by
    apply BitVec.eq_of_toNat_eq
    rw [BitVec.toNat_umod, BitVec.toNat_ofNat, BitVec.toNat_ofNat]
    show y.toNat % 16 = y.toNat % 16 % 2 ^ 32
    omega
  rw [BitVec.srem_eq, show (16#32).msb = false from by decide]
  cases x.msb
  · exact ⟨_, .inl (key x)⟩
  · exact ⟨_, .inr (congrArg Neg.neg (key (-x)))⟩

/-- The remainder made nonnegative is below 16. -/
theorem wrap_small : ∀ n : Fin 16, (wrap (BitVec.ofNat 32 n.val)).toNat < 16 ∧ (wrap (-BitVec.ofNat 32 n.val)).toNat < 16 := by
  decide +kernel

/-- The kernel's row of a chunk, through `wrap`. -/
theorem off1_wrap (v a c : BitVec 32) :
    k0_off1 v a c = ![(Scalar.addi a (Scalar.muli (wrap (Scalar.remsi (Scalar.addi v c) 16#32)) 16#32)).toNat, 0] := rfl

/-- Whatever word is read as the position, every chunk lies within the array. -/
theorem inb_all (v : BitVec 32) : Inb v := by
  intro r c a
  have hsmall : ∀ x : BitVec 32, (wrap (Scalar.remsi x 16#32)).toNat < 16 := fun x => by
    have hc : ¬ IntOp.SDivCorner x 16#32 := by
      rintro (h | ⟨-, h⟩) <;> exact absurd h (by decide)
    rw [Scalar.remsi, IntOp.remsi, if_neg hc]
    obtain ⟨n, h | h⟩ := srem_cases x
    · rw [h]; exact (wrap_small n).1
    · rw [h]; exact (wrap_small n).2
  rw [off1_wrap]
  have hm := hsmall (Scalar.addi v (BitVec.ofNat 32 c.val))
  generalize wrap (Scalar.remsi (Scalar.addi v (BitVec.ofNat 32 c.val)) 16#32) = m at hm
  have h8 := r.isLt
  match a with
  | 0 =>
    show (Scalar.addi (BitVec.ofNat 32 (256 * r.val)) (Scalar.muli m 16#32)).toNat + 16 ≤ 2048
    rw [Scalar.addi, IntOp.addi, Scalar.muli, IntOp.muli, BitVec.toNat_add, BitVec.toNat_mul, BitVec.toNat_ofNat, BitVec.toNat_ofNat]
    omega
  | 1 => show 0 + 1024 ≤ 1024; omega

/-! ## The body as its steps -/

section
variable (arg0 : Memref sig .tc .smem S3 .i32) (harg0 : arg0.IsWhole) (arg1 : Memref sig .tc .vmem S2048x1024 .f32) (harg1 : arg1.IsWhole) (arg2 : Memref sig .tc .vmem S2048x1024 .f32) (harg2 : arg2.IsWhole) (arg3 : Memref sig .tc .vmem S8x15x16x1024 .f32) (harg3 : arg3.IsWhole) (arg4 : DmaSems sig S8x15) (arg5 : DmaSems sig S8x2)
  (v0 : BitVec 32) (hw3 : k0_chk3 v0) (hv : Inb v0) (v1 : BitVec 32) (hw2 : k0_chk2 v1) (v2 : BitVec 32) (hw1 : k0_chk1 v2)
  (k : Prog (TpuEff nD τ sig (Elt F) Λ₀ .tc) PUnit)

/-- The device the kernel sends to on its right. -/
abbrev rightOf (v1 : BitVec 32) (hw2 : k0_chk2 v1) : Dev nD := ⟨k0_dev2 v1, k0_dev2_lt v1 hw2⟩
/-- The device the kernel sends to on its left. -/
abbrev leftOf (v2 : BitVec 32) (hw1 : k0_chk1 v2) : Dev nD := ⟨k0_dev1 v2, k0_dev1_lt v2 hw1⟩

set_option maxRecDepth 100000 in
set_option maxHeartbeats 0 in
/-- The printed body is the entry handshake (its first part) followed by the listed steps. -/
theorem body_eq :
    cc0_body (F := F) arg0 harg0 arg1 harg1 arg2 harg2 arg3 harg3 arg4 arg5 =
      (k0_part1 arg0 harg0 arg1 harg1 arg2 harg2 arg3 harg3 arg4 arg5).bind fun w =>
        run arg1 arg2 arg3 arg4 arg5 w.1 (inb_all w.1) (rightOf w.2.2.1 w.2.2.2.1) (leftOf w.2.2.2.2.1 w.2.2.2.2.2) ops (.ret ⟨⟩) := rfl
end
end Cert.KernelIdeal.Ring
end
-- ==== Proof.KernelIdeal.Handshake.lean ====
/-
  The whole body on one device: the entry handshake, then the listed steps.

  The handshake reads the device's position and its two neighbours from the small table, tells each neighbour that its
  landing slots may be written, and waits for both neighbours to say the same.
-/
module

public import proofs.«01_k».proof.Proof.KernelIdeal.Ops
public import proofs.«01_k».proof.Proof.KernelIdeal.Body

@[expose] public section

noncomputable section

namespace Cert.KernelIdeal.Ring

open Idealize.ShloMosaic Idealize.ShloMosaic.TcCoe Cert.KernelIdeal.Gen Cert.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

/-! ## The table -/

/-- The table's buffer, whole. -/
abbrev tM : Memref sig .tc .smem S3 .i32 := Memref.whole cc0_stg0_0

/-- A device's number as a word. -/
abbrev devW (d : Dev nD) : BitVec 32 := BitVec.ofNat 32 d.val

/-- The table on device `c`: its position, its right neighbour, its left neighbour. -/
def tab (c : Dev nD) : S3.Idx → BitVec 32 := fun i => (![posW c, devW (right c), devW (left c)] : Fin 3 → BitVec 32) (i 0)

/-- The table in the device's memory. -/
def tPt (c : Dev nD) : sProp 𝕄 := tM.view.loc (c : Thread nD τ) ↦{fullShare} (tab c : S3.Idx → Elt F .i32)

/-- The kernel's check of its position holds on every device. -/
theorem chk_pos : ∀ c : Dev nD, k0_chk3 (posW c) := by decide +kernel
/-- The kernel's check of its right neighbour holds for every device's number. -/
theorem chk_right : ∀ d : Dev nD, k0_chk2 (devW d) := by decide +kernel
/-- The kernel's check of its left neighbour holds for every device's number. -/
theorem chk_left : ∀ d : Dev nD, k0_chk1 (devW d) := by decide +kernel
/-- The right neighbour read from a device's number is that device. -/
theorem rightOf_eq (d : Dev nD) (h : k0_chk2 (devW d)) : rightOf (devW d) h = d := by
  have e : ∀ d : Dev nD, k0_dev2 (devW d) = d.val := by decide +kernel
  exact Fin.ext (e d)
/-- The left neighbour read from a device's number is that device. -/
theorem leftOf_eq (d : Dev nD) (h : k0_chk1 (devW d)) : leftOf (devW d) h = d := by
  have e : ∀ d : Dev nD, k0_dev1 (devW d) = d.val := by decide +kernel
  exact Fin.ext (e d)

/-! ## The handshake's program -/

section
variable (arg0 : Memref sig .tc .smem S3 .i32) (harg0 : arg0.IsWhole) (arg1 : Memref sig .tc .vmem S2048x1024 .f32) (harg1 : arg1.IsWhole) (arg2 : Memref sig .tc .vmem S2048x1024 .f32) (harg2 : arg2.IsWhole) (arg3 : Memref sig .tc .vmem S8x15x16x1024 .f32) (harg3 : arg3.IsWhole) (arg4 : DmaSems sig S8x15) (arg5 : DmaSems sig S8x2)

/-- The end of the handshake: signal both neighbours, wait for both. -/
def greet (right left : Dev nD) (k : Prog (TpuEff nD τ sig (Elt F) Λ₀ .tc) PUnit) : Prog (TpuEff nD τ sig (Elt F) Λ₀ .tc) PUnit :=
  .op (.semSignal ((left, .tc) : Thread nD τ) barS (1 : ℕ)) fun _ =>
    .op (.semSignal ((right, .tc) : Thread nD τ) barS (1 : ℕ)) fun _ =>
    .op (.semWait barS (2 : ℕ)) fun _ => k

/-- Three reads of the table, each checked, then the handshake, then `f`. -/
def opening (f : (Σ' (v0 : Elt F .i32) (k0_hw3 : k0_chk3 v0) (v1 : Elt F .i32) (k0_hw2 : k0_chk2 v1) (v2 : Elt F .i32), k0_chk1 v2) → Prog (TpuEff nD τ sig (Elt F) Λ₀ .tc) PUnit) : Prog (TpuEff nD τ sig (Elt F) Λ₀ .tc) PUnit :=
  (smemLoad arg0 (Rect.unit (s := S3) ![0] S1.size inb_S3_S1_0) numel1_S1 rfl).bind fun (v0 : BitVec 32) =>
  .op (.assume (k0_chk3 v0) (k0_chk3.dec v0)) fun h3 =>
  (smemLoad arg0 (Rect.unit (s := S3) ![1] S1.size inb_S3_S1_1) numel1_S1 rfl).bind fun (v1 : BitVec 32) =>
  .op (.assume (k0_chk2 v1) (k0_chk2.dec v1)) fun h2 =>
  (smemLoad arg0 (Rect.unit (s := S3) ![2] S1.size inb_S3_S1_2) numel1_S1 rfl).bind fun (v2 : BitVec 32) =>
  .op (.assume (k0_chk1 v2) (k0_chk1.dec v2)) fun h1 =>
  greet (rightOf v1 h2.down) (leftOf v2 h1.down) (f ⟨v0, h3.down, v1, h2.down, v2, h1.down⟩)

set_option maxRecDepth 100000 in
set_option maxHeartbeats 0 in
/-- The first part of the body, followed by anything. -/
theorem part_prog (f : (Σ' (v0 : Elt F .i32) (k0_hw3 : k0_chk3 v0) (v1 : Elt F .i32) (k0_hw2 : k0_chk2 v1) (v2 : Elt F .i32), k0_chk1 v2) → Prog (TpuEff nD τ sig (Elt F) Λ₀ .tc) PUnit) :
    (k0_part1 (F := F) arg0 harg0 arg1 harg1 arg2 harg2 arg3 harg3 arg4 arg5).bind f = opening arg0 f := by
  rw [k0_part1_eq_skeleton]; rfl

/-- The body: three reads of the table, each checked, the handshake, the steps. -/
theorem body_prog :
    cc0_body (F := F) arg0 harg0 arg1 harg1 arg2 harg2 arg3 harg3 arg4 arg5 = opening arg0 fun w =>
      run arg1 arg2 arg3 arg4 arg5 w.1 (inb_all w.1) (rightOf w.2.2.1 w.2.2.2.1) (leftOf w.2.2.2.2.1 w.2.2.2.2.2) ops (.ret ⟨⟩) :=
  (body_eq (F := F) arg0 harg0 arg1 harg1 arg2 harg2 arg3 harg3 arg4 arg5).trans
    (part_prog arg0 harg0 arg1 harg1 arg2 harg2 arg3 harg3 arg4 arg5 _)
end

/-! ## The handshake's proof -/

section
variable (X : Dev nD → Big F) (K : GSem nD τ sig → ℕ) (c : Dev nD)

/-- A device's own landing slot before the handshake: any contents, its semaphore ready. -/
def ownSlot (c : Dev nD) (x : Fin 8 × Fin 15) : sProp 𝕄 :=
  iprop((∃ f, pPt c x.1 x.2 f) ∗ reached ER (recvCell c x.1 x.2) 0)

/-- What a device owes at the start: all its arrivals, and a unit at either neighbour's barrier. -/
def O₀ (c : Dev nD) : CellTallies nD τ sig (Fin 2) := due c ops + tallyAt (barCell (right c)) 0 1 + tallyAt (barCell (left c)) 0 1

/-- The barrier's share of what a device starts with. -/
def barShare (c : Dev nD) : sProp 𝕄 :=
  iprop(dutyTok ER (barCell (left c)) 0 0 ∗ dutyTok ER (barCell (right c)) 0 1 ∗ reached ER (barCell (left c)) 0 ∗ reached ER (barCell (right c)) 0
    ∗ atPos ER (barCell c) 0 ∅ 0 ∗ cred (tallyAt (barCell c) 0 2))

/-- The own slots of the right-going rings are what the left neighbour is told. -/
theorem give_left : (bigSepL (slotsOf 0) (ownSlot c) : sProp 𝕄) = barPay (left c) 0 := by
  have h : ∀ x ∈ slotsOf 0, nxt x.1 (left c) = c := by
    revert c; decide +kernel
  unfold barPay slotLeave ownSlot
  refine Entails.antisymm (bigSepL_mono fun x hx => ?_) (bigSepL_mono fun x hx => ?_) <;> rw [h x hx] <;> exact .rfl
/-- The own slots of the left-going rings are what the right neighbour is told. -/
theorem give_right : (bigSepL (slotsOf 1) (ownSlot c) : sProp 𝕄) = barPay (right c) 1 := by
  have h : ∀ x ∈ slotsOf 1, nxt x.1 (right c) = c := by
    revert c; decide +kernel
  unfold barPay slotLeave ownSlot
  refine Entails.antisymm (bigSepL_mono fun x hx => ?_) (bigSepL_mono fun x hx => ?_) <;> rw [h x hx] <;> exact .rfl

/-- What a neighbour tells is the leave to write its slots. -/
theorem barPay_eq (d : Fin 2) : (barPay c d : sProp 𝕄) = bigSepL (startSlots d) (hold X c) := by
  unfold startSlots barPay
  rw [bigSepL_map]; rfl

set_option maxRecDepth 100000 in
/-- Every arrival the steps send lies above the barrier. -/
theorem above_ops : above 1 ops = true := by decide +kernel

/-- The two signals and the wait: the own slots go to the neighbours, theirs come back. -/
theorem wp_greet {Q : PUnit → sProp 𝕄} (W : Waits sig (Fin 2)) (k : Prog (TpuEff nD τ sig (Elt F) Λ₀ .tc) PUnit) :
    iprop(ctx X K ∗ barShare c ∗ bigSepL (slotsOf 0) (ownSlot c) ∗ bigSepL (slotsOf 1) (ownSlot c) ∗ owes (c : Thread nD τ) (O₀ c) W)
      ⊢ iprop(((atPos ER (barCell c) 1 ∅ 0 ∗ bigSepL (startSlots 0) (hold X c) ∗ bigSepL (startSlots 1) (hold X c) ∗ debt c ops)
            -∗ wp frame (wpE (defs₀ (F := F)) 𝒱₀ c none) Set.univ k Q)
          -∗ wp frame (wpE (defs₀ (F := F)) 𝒱₀ c none) Set.univ (greet (right c) (left c) k) Q) := by
  have hmay : ctx X K ⊢ MayWait (c : Thread nD τ) (.reg barS) 0 (due c ops) :=
    BIBase.Entails.trans (@ctx_lev F _ X K) (mayWait_due (F := F) c _ 0 1 ops (le_refl _) above_ops)
  have e0 := payload_bar X (left c) 0 0
  have e1 := payload_bar X (right c) 0 1
  have hrest := rest_bar X c
  rw [give_left, give_right, ← barPay_eq, ← barPay_eq]
  rw [← e0, ← e1]
  unfold barShare debt greet
  iintro ⟨#Hctx, ⟨Ht0, Ht1, #Hr0, #Hr1, Hat, Hc⟩, Hl, Hr, HO⟩ Hk
  iapply (Rounds.wp_signal 𝒱₀ ER (sched X) (c : Thread nD τ) none (dst := ((left c, .tc) : Thread nD τ)) (sem := barS) (r := 0) (d := 0)
      (κ := K (barCell (left c))) (by rw [duties_bar]; decide) (amount_bar X (left c) 0 0) 0 (due c ops + tallyAt (barCell (right c)) 0 1) rfl) $$ [Ht0 Hl HO]
  · isplitr; · iapply (@ctx_inv F _ X K _ (mem_bar (left c))); iexact Hctx
    isplitl [HO]; · iexact HO
    isplitl [Ht0]; · iexact Ht0
    isplitl [Hl]; · iexact Hl
    iexact Hr0
  iintro HO
  iapply (Rounds.wp_signal 𝒱₀ ER (sched X) (c : Thread nD τ) none (dst := ((right c, .tc) : Thread nD τ)) (sem := barS) (r := 0) (d := 1)
      (κ := K (barCell (right c))) (by rw [duties_bar]; decide) (amount_bar X (right c) 0 1) 0 (due c ops) rfl) $$ [Ht1 Hr HO]
  · isplitr; · iapply (@ctx_inv F _ X K _ (mem_bar (right c))); iexact Hctx
    isplitl [HO]; · iexact HO
    isplitl [Ht1]; · iexact Ht1
    isplitl [Hr]; · iexact Hr
    iexact Hr1
  iintro HO
  iapply (Rounds.wp_wait_rest_token 𝒱₀ ER (sched X) (c : Thread nD τ) none (κ := K (barCell c))
      (wpE_semWait_eq 𝒱₀ (c : Thread nD τ) none Set.univ) (Set.mem_univ _) 0 (O := due c ops) (R := 0) (m := 0) (T := ∅)
      ((Nat.zero_add 2).trans (expect_bar X c).symm)) $$ [Hc HO Hat]
  · isplitr; · iapply (@ctx_inv F _ X K _ (mem_bar c)); iexact Hctx
    isplitl [Hc]; · iexact Hc
    isplitl [HO]; · iexact HO
    isplitr; · iapply hmay; iexact Hctx
    iexact Hat
  iintro ⟨HO, Hat, -, Hp⟩
  ihave Hp := (Entails.of_eq hrest) $$ Hp
  icases Hp with ⟨H0, H1⟩
  iapply Hk
  isplitl [Hat]; · iexact Hat
  isplitl [H0]; · iexact H0
  isplitl [H1]; · iexact H1
  iexists _; iexact HO

/-- What is held at the start, by kind. -/
theorem stockOf_start : (stockOf X c (mask start) : sProp 𝕄)
    = iprop(bigSepL startOwn (hold X c) ∗ bigSepL (startSlots 0) (hold X c) ∗ bigSepL (startSlots 1) (hold X c)) := by
  unfold stockOf
  rw [bigSep_eq_bigSepL_of_eq _ stock_start.1 stock_start.2, bigSepL_append, bigSepL_append]
/-- What is held at the end, by kind. -/
theorem stockOf_finish : (stockOf X c (mask finish) : sProp 𝕄) = bigSepL finishOwn (hold X c) := by
  unfold stockOf
  rw [bigSep_eq_bigSepL_of_eq _ stock_finish.1 stock_finish.2]

/-- A read of the table finds the word that stands there. -/
theorem wp_word {Q : PUnit → sProp 𝕄} (n : Fin 3) (h : ∀ a, (![n.val] : Fin 1 → ℕ) a + S1.size a ≤ S3.size a)
    (w : BitVec 32) (hw : (![posW c, devW (right c), devW (left c)] : Fin 3 → BitVec 32) n = w)
    (f : BitVec 32 → Prog (TpuEff nD τ sig (Elt F) Λ₀ .tc) PUnit) :
    (tPt c : sProp 𝕄) ⊢ iprop((tPt c -∗ wp frame (wpE (defs₀ (F := F)) 𝒱₀ c none) Set.univ (f w) Q)
      -∗ wp frame (wpE (defs₀ (F := F)) 𝒱₀ c none) Set.univ
          ((smemLoad tM (Rect.unit (s := S3) ![n.val] S1.size h) numel1_S1 rfl).bind f) Q) := by
  have e : ∀ x, (tM.access (Rect.unit (s := S3) ![n.val] S1.size h)).read (Elt F) (tab c : S3.Idx → Elt F .i32) x
      = (![posW c, devW (right c), devW (left c)] : Fin 3 → BitVec 32) n := fun x => by
    show (![posW c, devW (right c), devW (left c)] : Fin 3 → BitVec 32) _ = _
    congr 1
    refine Fin.ext ?_
    have hx : (x 0).val = 0 := Nat.lt_one_iff.mp (x 0).isLt
    show n.val + _ = n.val
    rw [hx, Nat.mul_zero, Nat.add_zero]
  obtain rfl := (e (Shape.Idx.first (numel1_S1.symm ▸ Nat.one_pos))).trans hw
  unfold tPt
  exact wp_smemLoadElt 𝒱₀ (c : Thread nD τ) none Set.univ (m := tM) (r := Rect.unit (s := S3) ![n.val] S1.size h)
    (hw := View.loads_smem_one rfl numel1_S1) (Val := Elt F) (k := f) (S := Finset.univ) (Finset.subset_univ _)

/-- The whole body on one device. -/
theorem wp_body {Q : PUnit → sProp 𝕄} (W : Waits sig (Fin 2)) {h0 h1 h2 h3} :
    iprop(ctx X K ∗ tPt c ∗ barShare c ∗ (bigSepL (slotsOf 0) (ownSlot c) ∗ bigSepL (slotsOf 1) (ownSlot c)) ∗ bigSepL startOwn (hold X c)
        ∗ owes (c : Thread nD τ) (O₀ c) W)
      ⊢ iprop(((tPt c ∗ atPos ER (barCell c) 1 ∅ 0 ∗ bigSepL finishOwn (hold X c) ∗ debt c []) -∗
            wp frame (wpE (defs₀ (F := F)) 𝒱₀ c none) Set.univ (.ret ⟨⟩) Q)
          -∗ wp frame (wpE (defs₀ (F := F)) 𝒱₀ c none) Set.univ (cc0_body (F := F) tM h0 xM h1 oM h2 pM h3 cc0_scratch1 cc0_scratch2) Q) := by
  have hr := wp_run X K c (Q := Q) (inb_all (posW c)) (mask finish) (.ret ⟨⟩) ops (mask start) replay_ops
  rw [stockOf_start, stockOf_finish] at hr
  have hg := wp_greet X K c (Q := Q) W (run (F := F) xM oM pM cc0_scratch1 cc0_scratch2 (posW c) (inb_all (posW c)) (right c) (left c) ops (.ret ⟨⟩))
  have e1 : ∀ h, rightOf (devW (right c)) h = right c := rightOf_eq (right c)
  have e2 : ∀ h, leftOf (devW (left c)) h = left c := leftOf_eq (left c)
  have key : ∀ h2 h1, wp frame (wpE (defs₀ (F := F)) 𝒱₀ c none) Set.univ
        (greet (right c) (left c) (run (F := F) xM oM pM cc0_scratch1 cc0_scratch2 (posW c) (inb_all (posW c)) (right c) (left c) ops (.ret ⟨⟩))) Q
      ⊢ wp frame (wpE (defs₀ (F := F)) 𝒱₀ c none) Set.univ
        (greet (rightOf (devW (right c)) h2) (leftOf (devW (left c)) h1)
          (run (F := F) xM oM pM cc0_scratch1 cc0_scratch2 (posW c) (inb_all (posW c)) (rightOf (devW (right c)) h2) (leftOf (devW (left c)) h1) ops (.ret ⟨⟩))) Q :=
    fun h2 h1 => by rw [e1, e2]
  rw [body_prog, opening]
  iintro ⟨#Hctx, HT, Hbar, ⟨Hl, Hr⟩, Hs, HO⟩ Hk
  iapply (wp_word (F := F) c 0 inb_S3_S1_0 (posW c) rfl) $$ HT
  iintro HT
  iapply (wp_assume 𝒱₀ (c : Thread nD τ) none Set.univ (chk_pos c))
  iapply (wp_word (F := F) c 1 inb_S3_S1_1 (devW (right c)) rfl) $$ HT
  iintro HT
  iapply (wp_assume 𝒱₀ (c : Thread nD τ) none Set.univ (chk_right (right c)))
  iapply (wp_word (F := F) c 2 inb_S3_S1_2 (devW (left c)) rfl) $$ HT
  iintro HT
  iapply (wp_assume 𝒱₀ (c : Thread nD τ) none Set.univ (chk_left (left c)))
  iapply (key (chk_right (right c)) (chk_left (left c)))
  iapply hg $$ [Hbar Hl Hr HO]
  · isplitr; · iexact Hctx
    isplitl [Hbar]; · iexact Hbar
    isplitl [Hl]; · iexact Hl
    isplitl [Hr]; · iexact Hr
    iexact HO
  iintro ⟨Hat, H0, H1, HO⟩
  iapply hr $$ [Hs H0 H1 HO]
  · isplitr; · iexact Hctx
    isplitl [Hs H0 H1]
    · isplitl [Hs]; · iexact Hs
      isplitl [H0]; · iexact H0
      iexact H1
    iexact HO
  iintro ⟨Hs, HO⟩
  iapply Hk
  isplitl [HT]; · iexact HT
  isplitl [Hat]; · iexact Hat
  isplitl [Hs]; · iexact Hs
  iexact HO

end

end Cert.KernelIdeal.Ring

end
-- ==== Proof.KernelIdeal.Split.lean ====
/-
  A device's buffers cut into the pieces of the protocol, and put together again.
-/
module

public import proofs.«01_k».proof.Proof.KernelIdeal.Handshake
public import Idealize.ShloMosaic.Lib.Pipeline.Kit

@[expose] public section

noncomputable section

namespace Cert.KernelIdeal.Ring

open Idealize.ShloMosaic Idealize.ShloMosaic.TcCoe Cert.KernelIdeal.Gen Cert.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

/-- No chunk is listed twice, and every ring and turn is listed. -/
theorem chunks_list : chunks.Nodup ∧ ∀ x : Fin 8 × Fin 16, x ∈ chunks := by decide +kernel
/-- No slot is listed twice, and every ring and hop is listed. -/
theorem slots_list : slots.Nodup ∧ ∀ x : Fin 8 × Fin 15, x ∈ slots := by decide +kernel
/-- The slots are those of the first four rings and those of the last four. -/
theorem slots_parts : slots = slotsOf 0 ++ slotsOf 1 := by decide +kernel

variable (c : Dev nD)

/-- The chunks on a device are disjoint and cover the whole. -/
theorem chunks_cover : (chunks.toFinset.biUnion fun x => (chR x.1 (loc x.1 (pos c) x.2)).set) = Finset.univ
    ∧ ∀ x ∈ chunks.toFinset, ∀ y ∈ chunks.toFinset, x ≠ y → Disjoint (chR x.1 (loc x.1 (pos c) x.2)).set (chR y.1 (loc y.1 (pos c) y.2)).set := by
  constructor
  · refine Finset.eq_univ_iff_forall.mpr fun i => Finset.mem_biUnion.mpr ?_
    refine ⟨(ringOf i, turn (ringOf i) (pos c) (chunkOf i)), List.mem_toFinset.mpr (chunks_list.2 _), ?_⟩
    rw [mem_chR, loc_turn]
    exact ⟨rfl, rfl⟩
  · intro x _ y _ hxy
    rw [Finset.disjoint_left]
    intro i hx hy
    rw [mem_chR] at hx hy
    refine hxy (Prod.ext (Fin.ext (hx.1.symm.trans hy.1)) ?_)
    have e : x.1 = y.1 := Fin.ext (hx.1.symm.trans hy.1)
    have e' : loc x.1 (pos c) x.2 = loc y.1 (pos c) y.2 := Fin.ext (hx.2.symm.trans hy.2)
    rw [← turn_loc x.1 (pos c) x.2, e', e, turn_loc]

/-- The slots are disjoint and cover the whole. -/
theorem slots_cover : (slots.toFinset.biUnion fun x => (slotR x.1 x.2).set) = Finset.univ
    ∧ ∀ x ∈ slots.toFinset, ∀ y ∈ slots.toFinset, x ≠ y → Disjoint (slotR x.1 x.2).set (slotR y.1 y.2).set := by
  constructor
  · refine Finset.eq_univ_iff_forall.mpr fun i => Finset.mem_biUnion.mpr ?_
    refine ⟨(⟨(i 0).val, (i 0).isLt⟩, ⟨(i 1).val, (i 1).isLt⟩), List.mem_toFinset.mpr (slots_list.2 _), ?_⟩
    rw [mem_slotR]
    exact ⟨rfl, rfl⟩
  · intro x _ y _ hxy
    rw [Finset.disjoint_left]
    intro i hx hy
    rw [mem_slotR] at hx hy
    exact hxy (Prod.ext (Fin.ext (hx.1.symm.trans hy.1)) (Fin.ext (hx.2.symm.trans hy.2)))

/-- A buffer, whole, is its listed parts. -/
theorem split_list {A : Type} [DecidableEq A] (b : Ref sig .tc) (l : List A) (K : A → Finset (Idx ((c : Thread nD τ).loc b))) (hn : l.Nodup)
    (hc : l.toFinset.biUnion K = Finset.univ) (hd : ∀ x ∈ l.toFinset, ∀ y ∈ l.toFinset, x ≠ y → Disjoint (K x) (K y))
    (f : Buf (Elt F) ((c : Thread nD τ).loc b)) :
    ((c : Thread nD τ).loc b ↦{fullShare} f : sProp 𝕄) = bigSepL l fun x => (c : Thread nD τ).loc b ↦[K x]{fullShare} f := by
  rw [← bigSep_eq_bigSepL l hn, ← pointsTo_biUnion _ _ hd, hc]

/-- A chunk of the input by its rectangle. -/
theorem xPt_eq (r : Fin 8) (k : Fin 16) (f : Big F) : (xPt c r k f : sProp 𝕄) = (c : Thread nD τ).loc cc0_stg1_0 ↦[(chR r k).set]{fullShare} f := by
  unfold xPt
  exact congrArg (fun S : Finset S2048x1024.Idx => ((c : Thread nD τ).loc cc0_stg1_0 ↦[S]{fullShare} f : sProp 𝕄)) (View.set_slice_whole cc0_stg1_0 (chR r k))
/-- A chunk of the output by its rectangle. -/
theorem oPt_eq (r : Fin 8) (k : Fin 16) (f : Big F) : (oPt c r k f : sProp 𝕄) = (c : Thread nD τ).loc cc0_stg2_0 ↦[(chR r k).set]{fullShare} f := by
  unfold oPt
  exact congrArg (fun S : Finset S2048x1024.Idx => ((c : Thread nD τ).loc cc0_stg2_0 ↦[S]{fullShare} f : sProp 𝕄)) (View.set_slice_whole cc0_stg2_0 (chR r k))
/-- A landing slot by its rectangle. -/
theorem pPt_eq (r : Fin 8) (h : Fin 15) (f : S8x15x16x1024.Idx → Elt F .f32) :
    (pPt c r h f : sProp 𝕄) = (c : Thread nD τ).loc cc0_scratch0 ↦[(slotR r h).set]{fullShare} f := by
  unfold pPt
  exact congrArg (fun S : Finset S8x15x16x1024.Idx => ((c : Thread nD τ).loc cc0_scratch0 ↦[S]{fullShare} f : sProp 𝕄))
    ((View.set_reshape _ _).trans (View.set_slice_whole cc0_scratch0 (slotR r h)))

/-- The input, whole, is its chunks. -/
theorem split_x (f : Big F) : ((c : Thread nD τ).loc cc0_stg1_0 ↦{fullShare} f : sProp 𝕄) = bigSepL chunks fun x => xPt c x.1 (loc x.1 (pos c) x.2) f := by
  rw [split_list c cc0_stg1_0 chunks (fun x => (chR x.1 (loc x.1 (pos c) x.2)).set) chunks_list.1 (chunks_cover c).1 (chunks_cover c).2 f]
  exact congrArg (bigSepL chunks) (funext fun x => (xPt_eq c _ _ f).symm)

/-- The output, whole, is its chunks. -/
theorem split_o (f : Big F) : ((c : Thread nD τ).loc cc0_stg2_0 ↦{fullShare} f : sProp 𝕄) = bigSepL chunks fun x => oPt c x.1 (loc x.1 (pos c) x.2) f := by
  rw [split_list c cc0_stg2_0 chunks (fun x => (chR x.1 (loc x.1 (pos c) x.2)).set) chunks_list.1 (chunks_cover c).1 (chunks_cover c).2 f]
  exact congrArg (bigSepL chunks) (funext fun x => (oPt_eq c _ _ f).symm)

/-- The landing buffer, whole, is its slots. -/
theorem split_p (f : S8x15x16x1024.Idx → Elt F .f32) : ((c : Thread nD τ).loc cc0_scratch0 ↦{fullShare} f : sProp 𝕄) = bigSepL slots fun x => pPt c x.1 x.2 f := by
  rw [split_list c cc0_scratch0 slots (fun x => (slotR x.1 x.2).set) slots_list.1 slots_cover.1 slots_cover.2 f]
  exact congrArg (bigSepL slots) (funext fun x => (pPt_eq c _ _ f).symm)

/-- The output at anything gives its chunks at anything. -/
theorem any_o (f : Big F) : ((c : Thread nD τ).loc cc0_stg2_0 ↦{fullShare} f : sProp 𝕄) ⊢ bigSepL chunks fun x => iprop(∃ f, oPt c x.1 (loc x.1 (pos c) x.2) f) := by
  rw [split_o]
  exact bigSepL_mono fun x _ => by iintro H; iexists f; iexact H

/-- The landing buffer at anything gives its slots at anything. -/
theorem any_p (f : S8x15x16x1024.Idx → Elt F .f32) : ((c : Thread nD τ).loc cc0_scratch0 ↦{fullShare} f : sProp 𝕄) ⊢ bigSepL slots fun x => iprop(∃ f, pPt c x.1 x.2 f) := by
  rw [split_p]
  exact bigSepL_mono fun x _ => by iintro H; iexists f; iexact H

end Cert.KernelIdeal.Ring
-- ==== Proof.KernelIdeal.Whole.lean ====
/-
  The body from whole buffers to whole buffers: the semaphores taken in at the start and given back at zero at the end.
-/
module

public import proofs.«01_k».proof.Proof.KernelIdeal.Split

@[expose] public section

noncomputable section

namespace Cert.KernelIdeal.Ring

open Idealize.ShloMosaic Idealize.ShloMosaic.TcCoe Cert.KernelIdeal.Gen Cert.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

/-! ## Lists of resources -/

section Lists

variable {I : Type}

/-- Two lists of resources over the same places are one list of pairs. -/
theorem bigSepL_zip (l : List I) (A B : I → sProp 𝕄) : (bigSepL l fun i => iprop(A i ∗ B i)) = iprop(bigSepL l A ∗ bigSepL l B) := by
  induction l with
  | nil => rw [bigSepL_nil, bigSepL_nil, bigSepL_nil]; exact (equiv_iff.mp emp_sep).symm
  | cons i l ih =>
    rw [bigSepL_cons', bigSepL_cons', bigSepL_cons', ih]
    have hl : (iprop((A i ∗ B i) ∗ bigSepL l A ∗ bigSepL l B) : sProp 𝕄) ⊢ iprop((A i ∗ bigSepL l A) ∗ B i ∗ bigSepL l B) := by
      iintro ⟨⟨H1, H2⟩, H3, H4⟩
      isplitl [H1 H3]; · isplitl [H1] <;> iassumption
      isplitl [H2] <;> iassumption
    have hr : (iprop((A i ∗ bigSepL l A) ∗ B i ∗ bigSepL l B) : sProp 𝕄) ⊢ iprop((A i ∗ B i) ∗ bigSepL l A ∗ bigSepL l B) := by
      iintro ⟨⟨H1, H2⟩, H3, H4⟩
      isplitl [H1 H3]; · isplitl [H1] <;> iassumption
      isplitl [H2] <;> iassumption
    exact BI.Entails.antisymm hl hr

/-- A change allowed at every place is allowed for the list. -/
theorem bigSepL_change (P : sProp 𝕄) [BI.Persistent P] (l : List I) (A B : I → sProp 𝕄) (h : ∀ i ∈ l, iprop(P ∗ A i) ⊢ (|={Set.univ}=> B i : sProp 𝕄)) :
    iprop(P ∗ bigSepL l A) ⊢ (|={Set.univ}=> bigSepL l B : sProp 𝕄) := by
  induction l with
  | nil =>
    rw [bigSepL_nil, bigSepL_nil]
    iintro ⟨-, H⟩
    imodintro
    iexact H
  | cons i l ih =>
    rw [bigSepL_cons', bigSepL_cons']
    have h1 := h i List.mem_cons_self
    have h2 := ih fun k hk => h k (List.mem_cons_of_mem _ hk)
    iintro ⟨#HP, H1, H2⟩
    imod h1 $$ [H1] with H1
    · isplitr; · iexact HP
      iexact H1
    imod h2 $$ [H2] with H2
    · isplitr; · iexact HP
      iexact H2
    imodintro
    isplitl [H1] <;> iassumption

end Lists

/-! ## The transfer semaphores by ring and hop -/

/-- The number of a receive semaphore among the kernel's own. -/
def recvIx (x : Fin 8 × Fin 15) : Fin 136 := ⟨15 * x.1.val + x.2.val, by have := x.1.isLt; have := x.2.isLt; omega⟩
/-- The number of a send semaphore among the kernel's own. -/
def sendIx (x : Fin 8 × Fin 2) : Fin 136 := ⟨120 + 2 * x.1.val + x.2.val, by have := x.1.isLt; have := x.2.isLt; omega⟩

/-- The send semaphores, those of the even hops first. -/
def ends : List (Fin 8 × Fin 2) := rings.map (fun r => (r, 0)) ++ rings.map (fun r => (r, 1))

/-- Every own semaphore is listed once. -/
theorem own_listed : Finset.univ = (slots.map recvIx ++ leaves.map sendIx).toFinset ∧ (slots.map recvIx ++ leaves.map sendIx).Nodup := by
  decide +kernel
/-- The transfer cells' numbers are those of the landing and the leaving cells, none twice. -/
theorem own_listed' : Finset.univ = (slots.map recvIx ++ ends.map sendIx).toFinset ∧ (slots.map recvIx ++ ends.map sendIx).Nodup := by
  decide +kernel

variable (c : Dev nD)

/-- The landing cell with a given number. -/
theorem cell_recv (x : Fin 8 × Fin 15) : ownCell c (recvIx x) = recvCell c x.1 x.2 := by
  refine congrArg (fun s : DmaSem sig => (((c : Thread nD τ), SemLoc.dma s) : GSem nD τ sig)) (Fin.ext ?_)
  rw [recvSem_val]
  show 3 + (15 * x.1.val + x.2.val) = _
  omega
/-- The leaving cell with a given number. -/
theorem cell_send (x : Fin 8 × Fin 2) : ownCell c (sendIx x) = sendCell c x.1 x.2 := by
  refine congrArg (fun s : DmaSem sig => (((c : Thread nD τ), SemLoc.dma s) : GSem nD τ sig)) (Fin.ext ?_)
  show 3 + (120 + 2 * x.1.val + x.2.val) = 123 + 2 * x.1.val + x.2.val
  omega

/-- Something of every own semaphore, by ring and hop. -/
theorem own_list (Ψ : GSem nD τ sig → sProp 𝕄) : bigSep Finset.univ (fun i => Ψ (ownCell c i))
    = iprop((bigSepL slots fun x => Ψ (recvCell c x.1 x.2)) ∗ bigSepL leaves fun x => Ψ (sendCell c x.1 x.2)) := by
  rw [bigSep_univ_eq_bigSepL _ own_listed.1 own_listed.2, bigSepL_append, bigSepL_map, bigSepL_map]
  simp only [cell_recv, cell_send]
/-- A family over the transfer cells is one over the landing and one over the leaving cells. -/
theorem own_list' (Ψ : GSem nD τ sig → sProp 𝕄) : bigSep Finset.univ (fun i => Ψ (ownCell c i))
    = iprop((bigSepL slots fun x => Ψ (recvCell c x.1 x.2)) ∗ bigSepL rings (fun r => Ψ (sendCell c r 0)) ∗ bigSepL rings (fun r => Ψ (sendCell c r 1))) := by
  rw [bigSep_univ_eq_bigSepL _ own_listed'.1 own_listed'.2, bigSepL_append, bigSepL_map, bigSepL_map]
  unfold ends
  rw [bigSepL_append, bigSepL_map, bigSepL_map]
  simp only [cell_recv, cell_send]

variable (X : Dev nD → Big F) (K : GSem nD τ sig → ℕ)

/-- The kernel's own semaphores. -/
abbrev osem (i : Fin 136) : SemLoc sig := .dma (ownSem i)

/-- A device's own semaphores at zero. -/
theorem ownSems_eq : (Pipeline.ownSems0 osem c : sProp 𝕄) = bigSep Finset.univ fun i => semVal (ownCell c i) 0 := rfl

/-- What the protocol starts with beside the chunks and slots. -/
def mid : List Atom := slots.map (fun x => Atom.rp x.1 x.2 0) ++ (leaves.map (fun x => Atom.sp x.1 x.2 0)
  ++ (rights ++ (slots.map (fun x => Atom.cR x.1 x.2 0) ++ slots.map (fun x => Atom.cR x.1 x.2 1))))

/-- The start is the input's chunks, the output's chunks and the rest. -/
theorem startOwn_eq : startOwn = chunks.map (fun x => Atom.xc x.1 x.2) ++ (chunks.map (fun x => Atom.oAny x.1 x.2) ++ mid) := rfl

/-- What a device has of the protocol before its semaphores are taken in. -/
def Tk : sProp 𝕄 :=
  iprop(∃ K : GSem nD τ sig → ℕ, bigSep (barCells ∪ ownCells) (fun g => cellInv ER (sched X) (K g) g) ∗ barShare c ∗ bigSep Finset.univ (fun i => openTok ER (ownCell c i))
    ∗ bigSepL rights (hold X c) ∗ bigSepL (slots.map (fun x => Atom.cR x.1 x.2 0) ++ slots.map (fun x => Atom.cR x.1 x.2 1)) (hold X c))
/-- What it has after. -/
def Xk : sProp 𝕄 :=
  iprop(∃ K : GSem nD τ sig → ℕ, ctx X K ∗ barShare c ∗ (bigSepL slots fun x => reached ER (recvCell c x.1 x.2) 0) ∗ bigSepL mid (hold X c))

/-- A cell's semaphore at zero opens it. -/
theorem open_own (s : DmaSem sig) (hs : 3 ≤ s.val) :
    iprop(ctx X K ∗ (openTok ER ((c : Thread nD τ), .dma s) ∗ semVal ((c : Thread nD τ), .dma s) 0))
      ⊢ (|={Set.univ}=> ((atPos ER ((c : Thread nD τ), .dma s) 0 ∅ 0 ∗ reached ER ((c : Thread nD τ), .dma s) 0) ∗ reached ER ((c : Thread nD τ), .dma s) 0) : sProp 𝕄) := by
  iintro ⟨#Hctx, Ho, Hv⟩
  imod (Rounds.cell_open ER (sched X) (g := ((c : Thread nD τ), .dma s)) (Set.mem_univ (K ((c : Thread nD τ), .dma s)))) $$ [Ho Hv] with ⟨Hat, #Hr⟩
  · isplitr; · iapply (@ctx_inv F _ X K _ (mem_own c s hs)); iexact Hctx
    isplitl [Ho] <;> iassumption
  imodintro
  isplitl [Hat]
  · isplitl [Hat]; · iexact Hat
    iexact Hr
  iexact Hr

/-- At the end of its rounds a cell gives its semaphore back at zero. -/
theorem close_own (g : GSem nD τ sig) (hg : g ∈ barCells ∪ ownCells) (R : ℕ) (hR : ∀ r, R ≤ r → (sched X).duties g r = ∅) :
    iprop(ctx X K ∗ atPos ER g R ∅ 0) ⊢ (|={Set.univ}=> semVal g 0 : sProp 𝕄) := by
  iintro ⟨#Hctx, Hat⟩
  iapply (Rounds.cell_close ER (sched X) (g := g) (Set.mem_univ (K g)) (fun h => h) hR)
  isplitr; · iapply (@ctx_inv F _ X K _ hg); iexact Hctx
  iexact Hat

/-- The landing semaphores come after the staging ones. -/
theorem recv_ge (r : Fin 8) (h : Fin 15) : 3 ≤ (recvSem r h).val := by rw [recvSem_val]; omega
/-- The leaving semaphores come after the staging ones. -/
theorem send_ge (r : Fin 8) (p : Fin 2) : 3 ≤ (sendSem r p).val := by show 3 ≤ 123 + 2 * r.val + p.val; omega

/-- The semaphores at zero are taken in. -/
theorem take_in : iprop(Tk c X ∗ Pipeline.ownSems0 osem c ∗ levAts L lv) ⊢ (|={Set.univ}=> Xk c X : sProp 𝕄) := by
  have hr : ∀ K, iprop(ctx X K ∗ bigSepL slots fun x => iprop(openTok ER (recvCell c x.1 x.2) ∗ semVal (recvCell c x.1 x.2) 0))
      ⊢ (|={Set.univ}=> bigSepL slots fun x => iprop(hold X c (.rp x.1 x.2 0) ∗ reached ER (recvCell c x.1 x.2) 0) : sProp 𝕄) := fun K =>
    bigSepL_change (ctx X K) slots _ _ fun x _ => open_own c X K (recvSem x.1 x.2) (recv_ge _ _)
  have hs : ∀ K, iprop(ctx X K ∗ bigSepL leaves fun x => iprop(openTok ER (sendCell c x.1 x.2) ∗ semVal (sendCell c x.1 x.2) 0))
      ⊢ (|={Set.univ}=> bigSepL leaves fun x => iprop(hold X c (.sp x.1 x.2 0) ∗ reached ER (sendCell c x.1 x.2) 0) : sProp 𝕄) := fun K =>
    bigSepL_change (ctx X K) leaves _ _ fun x _ => open_own c X K (sendSem x.1 x.2) (send_ge _ _)
  simp only [bigSepL_zip] at hr hs
  unfold Tk Xk mid
  rw [ownSems_eq, own_list c (fun g => semVal g 0), own_list c (fun g => openTok ER g)]
  simp only [bigSepL_append, bigSepL_map]
  iintro ⟨⟨%K, #Hinv, Hbar, ⟨Hor, Hos⟩, Hri, Hcr⟩, ⟨Hvr, Hvs⟩, #Hlev⟩
  ihave #Hctx := (show iprop(bigSep (barCells ∪ ownCells) (fun g => cellInv ER (sched X) (K g) g) ∗ levAts L lv) ⊢ ctx X K from Entails.of_eq rfl) $$ []
  · isplitr; · iexact Hinv
    iexact Hlev
  imod (hr K) $$ [Hor Hvr] with ⟨Hpr, Hrr⟩
  · isplitr; · iexact Hctx
    isplitl [Hor] <;> iassumption
  imod (hs K) $$ [Hos Hvs] with ⟨Hps, -⟩
  · isplitr; · iexact Hctx
    isplitl [Hos] <;> iassumption
  imodintro
  iexists K
  isplitr; · iexact Hctx
  isplitl [Hbar]; · iexact Hbar
  isplitl [Hrr]; · iexact Hrr
  isplitl [Hpr]; · iexact Hpr
  isplitl [Hps]; · iexact Hps
  isplitl [Hri] <;> iassumption

/-- The landing buffer at anything. -/
def slotAny : sProp 𝕄 := iprop(∃ f : Buf (Elt F) ((c : Thread nD τ).loc cc0_scratch0), ((c : Thread nD τ).loc cc0_scratch0) ↦{fullShare} f)

/-- The pieces at the end: buffers whole again, semaphores at their last rounds. -/
theorem finish_eq : (bigSepL finishOwn (hold X c) : sProp 𝕄)
    = iprop(((c : Thread nD τ).loc cc0_stg1_0 ↦{fullShare} X c) ∗ ((c : Thread nD τ).loc cc0_stg2_0 ↦{fullShare} res X)
        ∗ ((c : Thread nD τ).loc cc0_scratch0 ↦{fullShare} parts X c) ∗ (bigSepL slots fun x => hold X c (.rp x.1 x.2 2))
        ∗ bigSepL rings (fun r => hold X c (.sp r 0 16)) ∗ bigSepL rings (fun r => hold X c (.sp r 1 14))) := by
  unfold finishOwn
  rw [bigSepL_append, bigSepL_append, bigSepL_append, bigSepL_append, bigSepL_append]
  simp only [bigSepL_map]
  rw [split_x, split_o, split_p]
  rfl

/-- The semaphores are given back at zero. -/
theorem give_back : iprop(ctx X K ∗ atPos ER (barCell c) 1 ∅ 0 ∗ (bigSepL slots fun x => hold X c (.rp x.1 x.2 2))
      ∗ bigSepL rings (fun r => hold X c (.sp r 0 16)) ∗ bigSepL rings (fun r => hold X c (.sp r 1 14)))
    ⊢ (|={Set.univ}=> (semVal (barCell c) 0 ∗ Pipeline.ownSems0 osem c) : sProp 𝕄) := by
  have hb := close_own X K (barCell c) (mem_bar c) 1 (later_bar X c)
  have hr := bigSepL_change (ctx X K) slots (fun x => hold X c (.rp x.1 x.2 2)) (fun x => semVal (recvCell c x.1 x.2) 0) fun x _ => by
    refine BIBase.Entails.trans ?_ (close_own X K (recvCell c x.1 x.2) (mem_recv c _ _) 2 (later_recv X c x.1 x.2))
    show iprop(ctx X K ∗ (atPos ER (recvCell c x.1 x.2) 2 ∅ 0 ∗ reached ER (recvCell c x.1 x.2) 2)) ⊢ _
    iintro ⟨H, Hat, -⟩
    isplitl [H] <;> iassumption
  have hs : ∀ (p : Fin 2) (n : Fin 17), n.val = 16 - 2 * p.val → iprop(ctx X K ∗ bigSepL rings fun r => hold X c (.sp r p n))
      ⊢ (|={Set.univ}=> bigSepL rings fun r => semVal (sendCell c r p) 0 : sProp 𝕄) := fun p n hn =>
    bigSepL_change (ctx X K) rings _ _ fun r _ => by
      refine BIBase.Entails.trans ?_ (close_own X K (sendCell c r p) (mem_send c _ _) n.val (hn ▸ later_send X c r p))
      show iprop(ctx X K ∗ (atPos ER (sendCell c r p) n.val ∅ 0 ∗ reached ER (sendCell c r p) n.val)) ⊢ _
      iintro ⟨H, Hat, -⟩
      isplitl [H] <;> iassumption
  have hs0 := hs 0 16 rfl
  have hs1 := hs 1 14 rfl
  rw [ownSems_eq, own_list' c (fun g => semVal g 0)]
  iintro ⟨#Hctx, Hb, Hr, H0, H1⟩
  imod hb $$ [Hb] with Hb
  · isplitr; · iexact Hctx
    iexact Hb
  imod hr $$ [Hr] with Hr
  · isplitr; · iexact Hctx
    iexact Hr
  imod hs0 $$ [H0] with H0
  · isplitr; · iexact Hctx
    iexact H0
  imod hs1 $$ [H1] with H1
  · isplitr; · iexact Hctx
    iexact H1
  imodintro
  isplitl [Hb]; · iexact Hb
  isplitl [Hr]; · iexact Hr
  isplitl [H0] <;> iassumption

/-- The body on one device: from its input, any output and any landing buffer, to the output holding the result. -/
theorem wp_whole {Q : PUnit → sProp 𝕄} (W : Waits sig (Fin 2)) (f : Big F) {h0 h1 h2 h3} :
    iprop(Xk c X ∗ slotAny c ∗ tPt c ∗ ((c : Thread nD τ).loc cc0_stg1_0 ↦{fullShare} X c) ∗ ((c : Thread nD τ).loc cc0_stg2_0 ↦{fullShare} f)
        ∗ owes (c : Thread nD τ) (O₀ c) W)
      ⊢ iprop(((semVal (barCell c) 0 ∗ Pipeline.ownSems0 osem c ∗ slotAny c ∗ tPt c ∗ ((c : Thread nD τ).loc cc0_stg1_0 ↦{fullShare} X c)
            ∗ ((c : Thread nD τ).loc cc0_stg2_0 ↦{fullShare} res X) ∗ ∃ W', owes (c : Thread nD τ) (0 : CellTallies nD τ sig (Fin 2)) W') -∗ Q ⟨⟩)
          -∗ wp frame (wpE (defs₀ (F := F)) 𝒱₀ c none) Set.univ (cc0_body (F := F) tM h0 xM h1 oM h2 pM h3 cc0_scratch1 cc0_scratch2) Q) := by
  have hsl : ∀ g : S8x15x16x1024.Idx → Elt F .f32,
      iprop(((c : Thread nD τ).loc cc0_scratch0 ↦{fullShare} g) ∗ bigSepL slots fun x => reached ER (recvCell c x.1 x.2) 0)
        ⊢ (iprop(bigSepL (slotsOf 0) (ownSlot c) ∗ bigSepL (slotsOf 1) (ownSlot c)) : sProp 𝕄) := fun g => by
    rw [← bigSepL_append, ← slots_parts]
    show _ ⊢ bigSepL slots fun x => iprop((∃ f, pPt c x.1 x.2 f) ∗ reached ER (recvCell c x.1 x.2) 0)
    rw [bigSepL_zip]
    exact sep_mono (any_p c g) .rfl
  have hst : iprop(((c : Thread nD τ).loc cc0_stg1_0 ↦{fullShare} X c) ∗ ((c : Thread nD τ).loc cc0_stg2_0 ↦{fullShare} f) ∗ bigSepL mid (hold X c))
      ⊢ (bigSepL startOwn (hold X c) : sProp 𝕄) := by
    rw [startOwn_eq, bigSepL_append, bigSepL_append, bigSepL_map, bigSepL_map, split_x]
    exact sep_mono .rfl (sep_mono (any_o c f) .rfl)
  unfold Xk slotAny
  iintro ⟨⟨%K, #Hctx, Hbar, Hre, Hmid⟩, ⟨%g, Hp⟩, HT, Hx, Ho, HO⟩ Hk
  iapply (wp_body X K c (Q := Q) W) $$ [Hbar Hre Hmid Hp HT Hx Ho HO]
  · isplitr; · iexact Hctx
    isplitl [HT]; · iexact HT
    isplitl [Hbar]; · iexact Hbar
    isplitl [Hp Hre]
    · iapply (hsl g)
      isplitl [Hp] <;> iassumption
    isplitl [Hx Ho Hmid]
    · iapply hst
      isplitl [Hx]; · iexact Hx
      isplitl [Ho] <;> iassumption
    iexact HO
  iintro ⟨HT, Hb, Hf, Hd⟩
  ihave Hf' := (Entails.of_eq (finish_eq c X)) $$ Hf
  icases Hf' with ⟨Hx, Ho, Hp, Hr, H0, H1⟩
  ihave Hd' := (show debt c [] ⊢ (iprop(∃ W', owes (c : Thread nD τ) (0 : CellTallies nD τ sig (Fin 2)) W') : sProp 𝕄) from Entails.of_eq rfl) $$ Hd
  iapply (show (|={Set.univ}=> Q ⟨⟩ : sProp 𝕄) ⊢ wp frame (wpE (defs₀ (F := F)) 𝒱₀ c none) Set.univ (.ret ⟨⟩) Q from by rw [wp_ret])
  imod (give_back c X K) $$ [Hb Hr H0 H1] with ⟨Hb, Hs⟩
  · isplitr; · iexact Hctx
    isplitl [Hb]; · iexact Hb
    isplitl [Hr]; · iexact Hr
    isplitl [H0] <;> iassumption
  imodintro
  iapply Hk
  isplitl [Hb]; · iexact Hb
  isplitl [Hs]; · iexact Hs
  isplitl [Hp]; · iexists _; iexact Hp
  isplitl [HT]; · iexact HT
  isplitl [Hx]; · iexact Hx
  isplitl [Ho]; · iexact Ho
  iexact Hd'

end Cert.KernelIdeal.Ring
-- ==== Proof.KernelIdeal.Table.lean ====
/-
  The table that the host makes for each device: its position on the ring, its right and its left neighbour.
-/
module

public import proofs.«01_k».proof.Proof.KernelIdeal.Handshake
public import proofs.«01_k».proof.Proof.Gen.KernelIdeal.Regions
public import Idealize.ShloMosaic.Lib.StableHlo.RunRead
import Idealize.ShloMosaic.Lib.Pointwise.ShapeOpsCore

@[expose] public section

noncomputable section

namespace Cert.KernelIdeal.Ring

open Idealize.ShloMosaic Idealize.ShloMosaic.TcCoe Cert.KernelIdeal.Gen Cert.Ring

variable {F : FTy → Type} [FloatOps F]
variable (m : (ℓ : Loc nD τ sig) → Buf (Elt F) ℓ)

/-- An index of a vector of sixteen. -/
def at16 (p : Fin 16) : S16.Idx := fun a => ⟨p.val, by obtain rfl : a = 0 := Subsingleton.elim _ _; exact p.isLt⟩
/-- An index of a vector of three. -/
def at3 (n : Fin 3) : S3.Idx := fun a => ⟨n.val, by obtain rfl : a = 0 := Subsingleton.elim _ _; exact n.isLt⟩
/-- Every index of a vector of three is given by its number. -/
theorem eq_at3 (i : S3.Idx) : i = at3 (i 0) := funext fun a => by obtain rfl : a = 0 := Subsingleton.elim _ _; rfl

/-- A table of sixteen words read at an index below sixteen. -/
theorem slice_word (t : S16.Idx → BitVec 32) (u : Fin 1 → ℤ) (p : Fin 16) (hu : u 0 = p.val) (i : S_.Idx) :
    shapeCast S_ (Host.dynamicSlice (α := BitVec 32) S1 t u sliceFits_S16_S1) shapeCasts_S1_S_ i = t (at16 p) := by
  unfold shapeCast
  rw [Host.dynamicSlice_apply]
  refine congrArg t (funext fun a => ?_)
  obtain rfl : a = 0 := Subsingleton.elim _ _
  refine Fin.ext ?_
  have hp := p.isLt
  rw [Shape.Idx.norm]
  show Host.clampedStart S16 S1 _ u 0 + _ = _
  have hc : Host.clampedStart S16 S1 sliceFits_S16_S1.1 u 0 = p.val := Host.clampedStart_of_le (s := S16) (t := S1) sliceFits_S16_S1.1 u 0 p.val hu (by show p.val + 1 ≤ 16; omega)
  rw [hc]
  generalize Shape.reshapeEquiv shapeCasts_S1_S_ i = j
  show p.val + _ = p.val
  have hj : (j (Fin.cast sliceFits_S16_S1.1.symm 0)).val < 1 := (j (Fin.cast sliceFits_S16_S1.1.symm 0)).isLt
  omega

/-- The one index of a scalar. -/
abbrev pt : S_.Idx := fun a => a.elim0
/-- A scalar has one index. -/
theorem eq_pt (i : S_.Idx) : i = pt := funext fun a => a.elim0

/-- An index with a negative one counted from the end of sixteen. -/
def fromEnd (x : S_.Idx → BitVec 32) : S_.Idx → BitVec 32 :=
  select (cmpi .slt x (constantI S_ 32 0#32)) (addi x (constantI S_ 32 16#32)) x

/-- The device's number as the host computes it. -/
def number (c : Dev nD) : S_.Idx → BitVec 32 :=
  Host.remui (Host.divui (constantI S_ 32 (Dev.word c)) (constantI S_ 32 1#32)) (constantI S_ 32 16#32)

/-- The host's number of a device is its number. -/
theorem number_eq : ∀ c : Dev nD, fromEnd (number c) pt = devW c := by decide +kernel
/-- An index below sixteen is left alone. -/
theorem fromEnd_eq : ∀ p : Fin 16, fromEnd (fun _ => BitVec.ofNat 32 p.val) pt = BitVec.ofNat 32 p.val := by decide +kernel
/-- An index below sixteen as an integer. -/
theorem toInt_eq : ∀ p : Fin 16, (BitVec.ofNat 32 p.val).toInt = p.val := by decide +kernel
/-- The first table holds the positions. -/
theorem lit1_eq : ∀ c : Dev nD, lit1 (S16.rowMajor (at16 c)) = posW c := by decide +kernel
/-- The second table holds the devices. -/
theorem lit0_eq : ∀ p : Fin 16, lit0 (S16.rowMajor (at16 p)) = devW (devAt p) := by decide +kernel

/-- After the first stretch, the word `main_v7` is the device's number. -/
theorem word7 (c : Dev nD) (i : S_.Idx) : (StableHlo.upto (hostOps0 c) (V0 m c) 13 (Proc.devRef .tc main_v7) : S_.Idx → BitVec 32) i = devW c := by
  after_reads_simp
  rw [eq_pt i]
  exact number_eq c

/-- The position of the device, from the first table. -/
theorem word9 (c : Dev nD) : (V1 m c main_v9 : S_.Idx → BitVec 32) = fun _ => posW c := by
  funext i
  unfold V1
  after_reads_simp
  refine (slice_word _ _ c ?_ i).trans ?_
  · exact (congrArg BitVec.toInt (word7 m c _)).trans (toInt_eq c)
  · exact lit1_eq c

/-- The second table. -/
theorem wordC (c : Dev nD) : (V1 m c main_c : S16.Idx → BitVec 32) = fun i => lit0 (S16.rowMajor i) := by
  unfold V1
  after_reads_simp
  rfl

/-- The next position before it is wrapped. -/
theorem word10 (c : Dev nD) : (V1 m c main_v10 : S_.Idx → BitVec 32) = fun _ => posW c + 1#32 := by
  have h : (V1 m c main_v10 : S_.Idx → BitVec 32) = addi (V1 m c main_v9 : S_.Idx → BitVec 32) (constantI S_ 32 1#32) := by
    unfold V1
    after_reads_simp
  rw [h, word9]; rfl

/-- The remainder by sixteen with the divisor's sign, as the host computes it. -/
def wrap16 (x : S_.Idx → BitVec 32) : S_.Idx → BitVec 32 :=
  let d : S_.Idx → BitVec 32 := select (cmpi .eq (constantI S_ 32 16#32) (constantI S_ 32 0#32)) (constantI S_ 32 1#32) (constantI S_ 32 16#32)
  let y : S_.Idx → BitVec 32 := Host.remsi x d
  select (andi (cmpi .ne (cmpi .slt y (constantI S_ 32 0#32)) (cmpi .slt d (constantI S_ 32 0#32))) (cmpi .ne y (constantI S_ 32 0#32))) (addi y d) y

/-- One step up from a position wraps to the next position. -/
theorem wrap_up : ∀ c : Dev nD, wrap16 (fun _ => posW c + 1#32) pt = BitVec.ofNat 32 (pos c + 1).val := by decide +kernel
/-- One step down from a position wraps to the previous position. -/
theorem wrap_down : ∀ c : Dev nD, wrap16 (fun _ => posW c + 16#32 - 1#32) pt = BitVec.ofNat 32 (pos c + 15).val := by decide +kernel

/-- The next position. -/
theorem word11 (c : Dev nD) : (V2 m c main_v11 : S_.Idx → BitVec 32) = fun _ => BitVec.ofNat 32 (pos c + 1).val := by
  have h10 := word10 m c
  have h6 : (V1 m c main_c_6 : S_.Idx → BitVec 32) = constantI S_ 32 16#32 := by
    unfold V1
    after_reads_simp
  unfold V2
  generalize V1 m c = V at h10 h6 ⊢
  after_reads_simp
  rw [h10, h6]
  funext i
  rw [eq_pt i]
  exact wrap_up c

/-- The right neighbour, from the second table. -/
theorem word16 (c : Dev nD) : (V3 m c main_v16 : S_.Idx → BitVec 32) = fun _ => devW (right c) := by
  have h11 := word11 m c
  have hc : (V2 m c main_c : S16.Idx → BitVec 32) = _ := (V2_of m c main_c (by decide)).trans (wordC m c)
  funext i
  unfold V3
  generalize V2 m c = V at h11 hc ⊢
  have h14 : ∀ j : S_.Idx, (StableHlo.upto hostOps0_2 V 5 (Proc.devRef .tc main_v14) : S_.Idx → BitVec 32) j = BitVec.ofNat 32 (pos c + 1).val := fun j => by
    after_reads_simp
    rw [h11, eq_pt j]
    exact fromEnd_eq _
  after_reads_simp
  refine (slice_word _ _ (pos c + 1) ?_ i).trans ?_
  · exact (congrArg BitVec.toInt (h14 _)).trans (toInt_eq _)
  · exact (congrFun hc _).trans (lit0_eq _)

/-- The previous position before it is wrapped. -/
theorem word18 (c : Dev nD) : (V3 m c main_v18 : S_.Idx → BitVec 32) = fun _ => posW c + 16#32 - 1#32 := by
  have h9 : (V2 m c main_v9 : S_.Idx → BitVec 32) = fun _ => posW c := (V2_of m c main_v9 (by decide)).trans (word9 m c)
  unfold V3
  generalize V2 m c = V at h9 ⊢
  after_reads_simp
  rw [h9]; rfl

/-- The previous position. -/
theorem word19 (c : Dev nD) : (V4 m c main_v19 : S_.Idx → BitVec 32) = fun _ => BitVec.ofNat 32 (pos c + 15).val := by
  have h18 := word18 m c
  have h11 : (V3 m c main_c_11 : S_.Idx → BitVec 32) = constantI S_ 32 16#32 := by
    unfold V3
    after_reads_simp
  generalize hx : (fun _ : S_.Idx => posW c + 16#32 - 1#32) = x at h18
  unfold V4
  generalize V3 m c = V at h18 h11 ⊢
  after_reads_simp
  rw [h18, h11]
  funext i
  rw [eq_pt i]
  exact (show wrap16 x pt = _ by rw [← hx]; exact wrap_down c)

/-- The three words that the kernel reads. -/
theorem table (c : Dev nD) : (V5 m c main_v28 : S3.Idx → BitVec 32) = tab c := by
  have h9 : (V4 m c main_v9 : S_.Idx → BitVec 32) = fun _ => posW c :=
    (V4_of m c main_v9 (by decide)).trans ((V3_of m c main_v9 (by decide)).trans ((V2_of m c main_v9 (by decide)).trans (word9 m c)))
  have h16 : (V4 m c main_v16 : S_.Idx → BitVec 32) = fun _ => devW (right c) := (V4_of m c main_v16 (by decide)).trans (word16 m c)
  have h19 := word19 m c
  have hc : (V4 m c main_c : S16.Idx → BitVec 32) = _ :=
    (V4_of m c main_c (by decide)).trans ((V3_of m c main_c (by decide)).trans ((V2_of m c main_c (by decide)).trans (wordC m c)))
  unfold V5
  generalize V4 m c = V at h9 h16 h19 hc ⊢
  have h22 : ∀ j : S_.Idx, (StableHlo.upto hostOps0_4 V 5 (Proc.devRef .tc main_v22) : S_.Idx → BitVec 32) j = BitVec.ofNat 32 (pos c + 15).val := fun j => by
    after_reads_simp
    rw [h19, eq_pt j]
    exact fromEnd_eq _
  have h24 : (StableHlo.upto hostOps0_4 V 9 (Proc.devRef .tc main_v24) : S_.Idx → BitVec 32) = fun _ => devW (left c) := by
    funext i
    after_reads_simp
    refine (slice_word _ _ (pos c + 15) ?_ i).trans ?_
    · exact (congrArg BitVec.toInt (h22 _)).trans (toInt_eq _)
    · exact (congrFun hc _).trans (lit0_eq _)
  have h25 : (StableHlo.upto hostOps0_4 V 10 (Proc.devRef .tc main_v25) : S1.Idx → BitVec 32) = fun _ => posW c := by
    after_reads_simp
    rw [h9]; rfl
  have h26 : (StableHlo.upto hostOps0_4 V 10 (Proc.devRef .tc main_v26) : S1.Idx → BitVec 32) = fun _ => devW (right c) := by
    after_reads_simp
    rw [h16]; rfl
  have h27 : (StableHlo.upto hostOps0_4 V 10 (Proc.devRef .tc main_v27) : S1.Idx → BitVec 32) = fun _ => devW (left c) := by
    have h : (StableHlo.upto hostOps0_4 V 10 (Proc.devRef .tc main_v27) : S1.Idx → BitVec 32)
      = broadcastInDim S1 ![] bcast_S_S1 (StableHlo.upto hostOps0_4 V 9 (Proc.devRef .tc main_v24) : S_.Idx → BitVec 32) := by after_reads_simp
    rw [h, h24]; rfl
  have h28 : (StableHlo.after hostOps0_4 V (Proc.devRef .tc main_v28) : S3.Idx → BitVec 32)
    = concatenate S3 0 [⟨S1, (StableHlo.upto hostOps0_4 V 10 (Proc.devRef .tc main_v25) : S1.Idx → BitVec 32)⟩,
        ⟨S1, (StableHlo.upto hostOps0_4 V 10 (Proc.devRef .tc main_v26) : S1.Idx → BitVec 32)⟩,
        ⟨S1, (StableHlo.upto hostOps0_4 V 10 (Proc.devRef .tc main_v27) : S1.Idx → BitVec 32)⟩] concatenates_S1_S1_S1_S3_d0 := rfl
  rw [h28, h25, h26, h27]
  funext i
  unfold tab
  generalize posW c = a, devW (right c) = b, devW (left c) = d
  obtain ⟨n, rfl⟩ : ∃ n : Fin 3, i = at3 n := ⟨i 0, eq_at3 i⟩
  match n with
  | 0 => rfl
  | 1 => rfl
  | 2 => rfl

end Cert.KernelIdeal.Ring
-- ==== Proof.KernelIdeal.Region.lean ====
/-
  The kernel call as one region of the program: the pipeline stages the table and the input, runs the body once, and
  writes the result back.
-/
module

public import proofs.«01_k».proof.Proof.KernelIdeal.Whole
public import proofs.«01_k».proof.Proof.KernelIdeal.Table
public import proofs.«01_k».proof.Proof.Gen.KernelIdeal.Points
public import Idealize.ShloMosaic.Lib.Pipeline.Value
public import Idealize.ShloMosaic.Lib.Pipeline.RegionTalk

@[expose] public section

noncomputable section

namespace Cert.KernelIdeal.Ring

open Idealize.ShloMosaic Idealize.ShloMosaic.TcCoe Cert.KernelIdeal.Gen Cert.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ)

/-- The input on every device. -/
abbrev inp : Dev nD → Big F := fun c => m ((c : Thread nD τ).loc main_arg0)

/-- The program's memory after the kernel call: the result written, the rest as before. -/
abbrev Vend (c : Dev nD) : Valuation τ sig (Elt F) := Function.update (V5 m c) (Proc.devRef .tc main_v29) (res (inp m))

/-- What the host computes before the call leaves the argument as it was. -/
theorem V5_arg (c : Dev nD) : V5 m c (Proc.devRef .tc main_arg0) = inp m c :=
  (V5_of m c main_arg0 (by decide)).trans <| (V4_of m c main_arg0 (by decide)).trans <| (V3_of m c main_arg0 (by decide)).trans <|
    (V2_of m c main_arg0 (by decide)).trans (V1_of m c main_arg0 (by decide))

/-! ## The region's data -/

/-- What the body's one point starts from and ends at, beside the staged buffers. -/
def ΦAt (c : Dev nD) (n : ℕ) : sProp 𝕄 :=
  if n = 0 then iprop(Xk c (inp m) ∗ slotAny c ∗ ∃ r, prngReg c r)
  else iprop(semVal (barCell c) 0 ∗ Pipeline.ownSems0 osem c ∗ slotAny c ∗ ∃ r, prngReg c r)

/-- The region's proof data. -/
def dat0 (c : Dev nD) : Pipeline.Dat τ (Elt F) (Fin 2) ℕ UU ℕ cfg0 c where
  A w := match w with
    | ⟨0, _⟩ => V5 m c (Proc.devRef .tc main_v28)
    | ⟨1, _⟩ => V5 m c (Proc.devRef .tc main_arg0)
    | ⟨2, _⟩ => V5 m c (Proc.devRef .tc main_v29)
  after w _ := match w with
    | ⟨0, _⟩ => (tab c : S3.Idx → BitVec 32)
    | ⟨1, _⟩ => inp m c
    | ⟨2, _⟩ => res (inp m)
  Φ t := ΦAt m c t.val
  q _ := fullShare
  owed t := if t.val = 0 then O₀ c else 0

/-- The same data for the program's one region. -/
def pdats : (p : Fin 1) → (c : Dev nD) → Pipeline.Dat τ (Elt F) (Fin 2) ℕ UU ℕ (cfgs p) c
  | 0 => dat0 m

/-! ## The windows are whole arrays -/

/-- Reading a whole array's only block reads the array. -/
theorem read_blk0 (c : Dev nD) (f : S3.Idx → BitVec 32) : ((cfg0.win 0).blk t0_0).view.read (Elt F) (show Buf (Elt F) ((cfg0.win 0).arr.view.loc (c : Thread nD τ)) from f) = f := by
  funext i
  rw [View.read_apply]
  refine congrArg f (funext fun a => Fin.ext ?_)
  show 0 * _ + 1 * (i a).val = (i a).val
  omega
/-- Likewise for the input. -/
theorem read_blk1 (c : Dev nD) (f : Big F) : ((cfg0.win 1).blk t0_0).view.read (Elt F) (show Buf (Elt F) ((cfg0.win 1).arr.view.loc (c : Thread nD τ)) from f) = f := by
  funext i
  rw [View.read_apply]
  refine congrArg f (funext fun a => Fin.ext ?_)
  show 0 * _ + 1 * (i a).val = (i a).val
  omega
/-- Likewise for the output. -/
theorem read_blk2 (c : Dev nD) (f : Big F) : ((cfg0.win 2).blk t0_0).view.read (Elt F) (show Buf (Elt F) ((cfg0.win 2).arr.view.loc (c : Thread nD τ)) from f) = f := by
  funext i
  rw [View.read_apply]
  refine congrArg f (funext fun a => Fin.ext ?_)
  show 0 * _ + 1 * (i a).val = (i a).val
  omega

/-- The body finds the table staged. -/
theorem before_tab (c : Dev nD) (d : (cfg0.win 0).block.Idx → Elt F (cfg0.win 0).elt) : (dat0 m c).before 0 t0_0 d = (tab c : S3.Idx → BitVec 32) := by
  refine Eq.trans ?_ ((read_blk0 (F := F) c (V5 m c (Proc.devRef .tc main_v28))).trans (table m c))
  unfold Pipeline.Dat.before; rw [if_pos (fetch0_0 t0_0)]; rfl
/-- The body finds the input staged. -/
theorem before_in (c : Dev nD) (d : (cfg0.win 1).block.Idx → Elt F (cfg0.win 1).elt) : (dat0 m c).before 1 t0_0 d = inp m c := by
  refine Eq.trans ?_ ((read_blk1 (F := F) c (V5 m c (Proc.devRef .tc main_arg0))).trans (V5_arg m c))
  unfold Pipeline.Dat.before; rw [if_pos (fetch0_1 t0_0)]; rfl

/-- Holding a whole buffer at given contents, as the region states it. -/
theorem owns_whole_eq (c : Dev nD) (b : Ref sig .tc) (X : b.ty.Contents (Elt F)) :
    (owns (Ix := Fin 2) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## What is owed -/

/-- On entering, the device owes all its arrivals. -/
theorem owed_zero (c : Dev nD) : (pdats m 0 c).owed 0 = O₀ c := by
  show (if ((0 : Fin (cfg0.N + 1)).val = 0) then O₀ c else 0) = O₀ c; exact if_pos rfl
/-- It owes them before the body's one point. -/
theorem owed_first (c : Dev nD) : (dat0 m c).owed t0_0.castSucc = O₀ c := by
  show (if (t0_0.castSucc : Fin (cfg0.N + 1)).val = 0 then O₀ c else 0) = O₀ c; exact if_pos rfl
/-- On leaving, it owes nothing. -/
theorem owed_last (c : Dev nD) : (pdats m 0 c).owed (Fin.last _) = 0 := by
  show (if (Fin.last cfg0.N).val = 0 then O₀ c else 0) = 0
  rw [Fin.val_last, if_neg (by rw [show cfg0.N = 1 from N_0]; decide)]
/-- It owes nothing after the body's one point. -/
theorem owed_succ (c : Dev nD) : (dat0 m c).owed t0_0.succ = 0 := by
  show (if (t0_0.succ : Fin (cfg0.N + 1)).val = 0 then O₀ c else 0) = 0; exact if_neg (Nat.succ_ne_zero _)

/-- What is owed, as the region states it. -/
theorem owes_in {c : Dev nD} (dat : Pipeline.Dat τ (Elt F) (Fin 2) ℕ UU ℕ cfg0 c) (t : Fin (cfg0.N + 1)) (O : CellTallies nD τ sig (Fin 2)) (h0 : dat.owed t = O)
    (hr : dat.recorded t = Set.univ) (W : Waits sig (Fin 2)) : (owes (c : Thread nD τ) O W : sProp 𝕄) ⊢ (dat.owesAt 0 t : sProp 𝕄) := by
  unfold Pipeline.Dat.owesAt Pipeline.owesWithin Pipeline.Dat.bound; rw [h0, hr]
  iintro HO; iexists W; isplitr; · ipureintro; exact fun _ _ => Or.inl trivial
  iexact HO
/-- And back. -/
theorem owes_out {c : Dev nD} (dat : Pipeline.Dat τ (Elt F) (Fin 2) ℕ UU ℕ cfg0 c) (t : Fin (cfg0.N + 1)) (O : CellTallies nD τ sig (Fin 2)) (h0 : dat.owed t = O) :
    (dat.owesAt 0 t : sProp 𝕄) ⊢ iprop(∃ W, owes (c : Thread nD τ) O W) := by
  unfold Pipeline.Dat.owesAt Pipeline.owesWithin; rw [h0]
  iintro ⟨%W, -, HO⟩; iexists W; iexact HO

/-- Everything owed lies above the staging semaphores. -/
theorem owed_above (c : Dev nD) (g : GSem nD τ sig) (i : Fin 2) (h : 0 < O₀ c g i) : i ∈ L g ∧ 0 < lv g i := by
  unfold O₀ at h
  rw [Pi.add_apply, Finsupp.add_apply, Pi.add_apply, Finsupp.add_apply] at h
  have hb : ∀ d : Dev nD, 0 < (tallyAt (barCell d) 0 1 : CellTallies nD τ sig (Fin 2)) g i → i ∈ L g ∧ 0 < lv g i := fun d hd => by
    rw [tallyAt_apply] at hd
    split at hd
    · next hg =>
      obtain ⟨rfl, -⟩ := hg
      exact ⟨by rw [L_tc]; exact Finset.mem_univ _, Nat.one_pos⟩
    · exact absurd hd (Nat.lt_irrefl 0)
  rcases Nat.add_pos_iff_pos_or_pos.mp h with h | h
  · rcases Nat.add_pos_iff_pos_or_pos.mp h with h | h
    · obtain ⟨h1, h2⟩ := due_above c 1 ops above_ops g i h
      exact ⟨by unfold L; rw [if_pos h1]; exact Finset.mem_univ _, by omega⟩
    · exact hb _ h
  · exact hb _ h

/-- Whatever is owed at any point lies above the staging semaphores. -/
theorem cutD (c : Dev nD) (t : Fin (cfg0.N + 1)) (g : GSem nD τ sig) (i : Fin 2) (h : 0 < (pdats m 0 c).owed t g i) : i ∈ L g ∧ (0 : ℕ) < lv g i := by
  have e : (pdats m 0 c).owed t = if t.val = 0 then O₀ c else 0 := rfl
  rw [e] at h
  split at h
  · exact owed_above c g i h
  · exact absurd h (Nat.lt_irrefl 0)

/-! ## The body at its point -/

set_option maxRecDepth 4000 in
/-- The body takes the staged buffers and the protocol's start to the written result and the semaphores at zero. -/
theorem body (c : Dev nD) : Pipeline.BodyObligation (dat0 m c) (defs₀ (F := F)) 𝒱₀ 0 Set.univ := fun t => by
  obtain rfl := fin_N0 t
  rw [bigSep_W0, bigSep_W0]
  simp only [owns_whole_eq]
  rw [show (dat0 m c).Φ t0_0.castSucc = iprop(Xk c (inp m) ∗ slotAny c ∗ ∃ r, prngReg c r) from rfl,
    show (dat0 m c).Φ t0_0.succ = iprop(semVal (barCell c) 0 ∗ Pipeline.ownSems0 osem c ∗ slotAny c ∗ ∃ r, prngReg c r) from rfl]
  iintro ⟨⟨HX, Hs, Hreg⟩, HO, ⟨%d0, %f0, %hf0, H0⟩, ⟨%d1, %f1, %hf1, H1⟩, ⟨%d2, %f2, %hf2, H2⟩⟩
  rw [before_tab] at hf0
  rw [before_in] at hf1
  subst hf0
  subst hf1
  ihave HO' := (owes_out (dat0 m c) _ (O₀ c) (owed_first m c)) $$ HO
  icases HO' with ⟨%W, HO⟩
  iapply (wp_whole c (inp m) W f2) $$ [HX Hs HO H0 H1 H2]
  · isplitl [HX]; · iexact HX
    isplitl [Hs]; · iexact Hs
    isplitl [H0]; · unfold tPt; iexact H0
    isplitl [H1]; · iexact H1
    isplitl [H2]; · iexact H2
    iexact HO
  iintro ⟨Hb, Hss, Hs, H0, H1, H2, ⟨%W', HO⟩⟩
  isplitl [Hb Hss Hs Hreg]
  · isplitl [Hb]; · iexact Hb
    isplitl [Hss]; · iexact Hss
    isplitl [Hs]; · iexact Hs
    iexact Hreg
  isplitl [HO]; · iapply (owes_in (dat0 m c) t0_0.succ 0 (owed_succ m c) rfl W'); iexact HO
  isplitl [H0]
  · iexists _; isplitr; swap; (· unfold tPt; iexact H0); ipureintro; rfl
  isplitl [H1]
  · iexists _; isplitr; swap; (· iexact H1); ipureintro; rfl
  iexists _; isplitr; swap; (· iexact H2); ipureintro; rfl

/-! ## The region -/

/-- The facts about the region's windows and buffers. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers of the program that the region does not touch. -/
abbrev others : Finset (DevRef τ sig) := Pipeline.ucRefs τ sig \ Pipeline.arrRefs (τ := τ) spec0

/-- The call changes no buffer outside the region. -/
theorem end_others (c : Dev nD) (b : DevRef τ sig) (hb : b ∈ others) : Vend m c b = V5 m c b := by
  refine Function.update_of_ne ?_ _ _
  rintro rfl
  exact (Finset.mem_sdiff.mp hb).2 (by decide)

/-- The call changes no array but the result. -/
theorem end_arr (c : Dev nD) (r : Ref sig .tc) (h : (Proc.devRef .tc r : DevRef τ sig) ≠ Proc.devRef .tc main_v29) :
    Vend m c (Proc.devRef .tc r) = V5 m c (Proc.devRef .tc r) := Function.update_of_ne h _ _

/-- The region's arrays on entering are the memory before the call. -/
theorem arr_start (c : Dev nD) (w : Fin 3) : (dat0 m c).arrAt w 0 = V5 m c (Proc.devRef .tc (Pipeline.arrRef spec0 w)) := by
  fin_cases w <;> rfl
/-- The region's arrays on leaving are the memory after the call. -/
theorem arr_end (c : Dev nD) (w : Fin 3) : (dat0 m c).arrAt w cfg0.N = Vend m c (Proc.devRef .tc (Pipeline.arrRef spec0 w)) := by
  fin_cases w
  · refine ((dat0 m c).arrAt_in (0 : Fin 3) rfl _).trans ?_
    exact (end_arr m c main_v28 (by decide)).symm
  · refine ((dat0 m c).arrAt_in (1 : Fin 3) rfl _).trans ?_
    exact (end_arr m c main_arg0 (by decide)).symm
  · refine Eq.trans ?_ (Function.update_self (Proc.devRef .tc main_v29) (res (inp m)) (V5 m c)).symm
    refine (dat0 m c).arrAt_eq_of_cover (2 : Fin 3) (res (inp m)) (fun t _ => ?_) fun i => ⟨t0_0, flush0_2 t0_0, ?_⟩
    · obtain rfl := fin_N0 t
      exact (read_blk2 (F := F) c (res (inp m))).symm
    · have h := ((cfg0.win 2).blk t0_0).view.emb_mem_set i
      have e : ((cfg0.win 2).blk t0_0).view.emb i = i := funext fun a => Fin.ext (by
        show 0 * _ + 1 * (i a).val = (i a).val
        omega)
      rwa [e] at h

/-- The region holds every array in full. -/
theorem share_eq (c : Dev nD) (w : Fin 3) : (pdats m 0 c).share w = fullShare := by
  show (dat0 m c).share w = fullShare
  unfold Pipeline.Dat.share; split <;> rfl

/-- The staging semaphores lie at the lowest level. -/
theorem stage_low (w : Fin 3) (s : Fin (spec0 w).nbuf) (c : Dev nD) (i : Fin 2) : lv ((c : Thread nD τ), .dma ((spec0 w).sem s)) i ≤ 0 := by
  fin_cases w <;> exact le_of_eq rfl

set_option backward.isDefEq.respectTransparency.types false in
/-- The kernel call as a region. -/
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide +kernel : Pipeline.OwnSemFacts spec0 osem)
    ∅ others (Finset.empty_subset _) kitP rfl (fun c => (body m c).loose)
    (fun _ => 0) O₀ (fun c => (owed_zero m c).trans (zero_add _).symm) (owed_last m) (fun _ => rfl) (share_eq m)
    (V5 m) (Vend m) (fun c b hb => end_others m c b (Finset.mem_sdiff.mp hb).1)
    (fun c => Tk c (inp m)) (fun c => semVal (barCell c) 0) (fun c => Xk c (inp m)) (fun c => semVal (barCell c) 0)
    (fun c => take_in c (inp m))
    (fun c => by
      rw [show (pdats m 0 c).Φ 0 = iprop(Xk c (inp m) ∗ slotAny c ∗ ∃ r, prngReg c r) from rfl]
      refine BIBase.Entails.trans (sep_mono (Entails.of_eq (scopedRest0_eq c)) .rfl) ?_
      show iprop(slotAny c ∗ _) ⊢ _
      iintro ⟨Hs, Hp, -, HX⟩
      isplitl [HX]; · iexact HX
      isplitl [Hs]; · iexact Hs
      iexact Hp)
    (fun c => by
      rw [show (pdats m 0 c).Φ (Fin.last _) = iprop(semVal (barCell c) 0 ∗ Pipeline.ownSems0 osem c ∗ slotAny c ∗ ∃ r, prngReg c r) from rfl]
      refine BIBase.Entails.trans ?_ (sep_mono (Entails.of_eq (scopedRest0_eq c).symm) .rfl)
      show _ ⊢ iprop(slotAny c ∗ _)
      rw [show (StableHlo.held (c.tc : Thread nD τ) ∅ (Vend m c) : sProp 𝕄) = BI.emp from BI.bigSep_empty]
      iintro ⟨Hb, Hss, Hs, Hp⟩
      isplitl [Hs]; · iexact Hs
      isplitl [Hp]; · iexact Hp
      isplitr; · iempintro
      isplitl [Hss]; · iexact Hss
      iexact Hb)
    (fun c => by iintro H; imodintro; iexact H)
    (fun _ => 0)
    ⟨fun c w s => by rw [L_tc]; exact Finset.mem_univ _, fun c w s => stage_low w s c 0, fun c t g i h => cutD m c t g i h⟩
    (fun _ => iprop(emp)) (arr_start m) (arr_end m)

/-- What rides beside the program's buffers before the region. -/
def before (c : Dev nD) : sProp 𝕄 := iprop(Tk c (inp m) ∗ (∃ r, prngReg c r) ∗ ∃ W, owes (c : Thread nD τ) (O₀ c) W)
/-- And after it. -/
def behind (c : Dev nD) : sProp 𝕄 := iprop(semVal (barCell c) 0 ∗ ∃ W, owes (c : Thread nD τ) (0 : CellTallies nD τ sig (Fin 2)) W)

/-- The program's memory is the region's arrays and the other buffers. -/
theorem uc_split (c : Dev nD) (V : Valuation τ sig (Elt F)) : (StableHlo.held (c.tc : Thread nD τ) (Pipeline.ucRefs τ sig) V : sProp 𝕄)
    = iprop(StableHlo.held (c.tc : Thread nD τ) (Pipeline.arrRefs (τ := τ) spec0) V ∗ StableHlo.held (c.tc : Thread nD τ) others V) :=
  StableHlo.held_sub_split (c.tc : Thread nD τ) (Pipeline.arrRefs_sub_ucRefs spec0 (by decide)) V

/-- What the program holds before the call is what the region asks for. -/
theorem reg0_pre (c : Dev nD) : iprop(StableHlo.held (c : Thread nD τ) (Pipeline.ucRefs τ sig) (V5 m c) ∗ before m c) ⊢ (reg0 m).pre c := by
  show _ ⊢ iprop(StableHlo.held (c.tc : Thread nD τ) (Pipeline.arrRefs (τ := τ) spec0) (V5 m c) ∗ (∃ r, prngReg c r)
    ∗ (StableHlo.held (c.tc : Thread nD τ) others (V5 m c) ∗ emp) ∗ Tk c (inp m) ∗ ∃ Wd, owes (c : Thread nD τ) (0 + O₀ c) Wd)
  rw [zero_add]
  refine BIBase.Entails.trans (sep_mono (Entails.of_eq (uc_split c (V5 m c))) .rfl) ?_
  unfold before
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What the region leaves is what the program holds after the call. -/
theorem reg0_post (c : Dev nD) : (reg0 m).post c ⊢ (iprop(StableHlo.held (c : Thread nD τ) (Pipeline.ucRefs τ sig) (Vend m c) ∗ behind c) : sProp 𝕄) := by
  show iprop(StableHlo.held (c.tc : Thread nD τ) (Pipeline.arrRefs (τ := τ) spec0) (Vend m c) ∗ (∃ r, prngReg c r)
    ∗ (StableHlo.held (c.tc : Thread nD τ) others (Vend m c) ∗ emp) ∗ semVal (barCell c) 0 ∗ ∃ Wd, owes (c : Thread nD τ) (0 : CellTallies nD τ sig (Fin 2)) Wd) ⊢ _
  refine BIBase.Entails.trans ?_ (sep_mono (Entails.of_eq (uc_split c (Vend m c)).symm) .rfl)
  unfold behind
  iintro ⟨Ha, -, ⟨Hr, -⟩, Hb, HO⟩
  isplitl [Ha Hr]; · isplitl [Ha] <;> iassumption
  isplitl [Hb]; · iexact Hb
  iexact HO

end Cert.KernelIdeal.Ring
-- ==== Proof.KernelIdeal.Credit.lean ====
/-
  What the devices owe one another at launch, added up: the units each semaphore will receive, and the rights to pay them.
-/
module

public import proofs.«01_k».proof.Proof.KernelIdeal.Region

@[expose] public section

noncomputable section

namespace Cert.KernelIdeal.Ring

open Idealize.ShloMosaic Idealize.ShloMosaic.TcCoe Cert.KernelIdeal.Gen Cert.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

/-! ## The units a semaphore receives -/

/-- Two landing cells are one only at one device, ring and hop. -/
theorem recv_inj {c d : Dev nD} {r s : Fin 8} {h k : Fin 15} (e : recvCell c r h = recvCell d s k) : c = d ∧ r = s ∧ h = k := by
  have e1 : c = d := congrArg (fun g : GSem nD τ sig => g.1.1) e
  have e2 : kind (.dma (recvSem r h)) = kind (.dma (recvSem s k)) := congrArg (fun g : GSem nD τ sig => kind g.2) e
  rw [kind_recv, kind_recv] at e2
  injection e2 with e3 e4
  exact ⟨e1, e3, e4⟩

/-- Being the one before is the same as having the other as the next. -/
theorem nxt_eq (r : Fin 8) (d c : Dev nD) : nxt r d = c ↔ d = prv r c :=
  ⟨fun h => by rw [← h, prv_nxt], fun h => by rw [h, nxt_prv]⟩

/-- What one device owes a landing cell: a chunk's bytes for every listed step that pays it, if it is the one that sends there. -/
theorem due_recv (d c : Dev nD) (r : Fin 8) (h : Fin 15) (ix : Fin 2) : ∀ l : List Op,
    due d l (recvCell c r h) ix = if d = prv r c then N * (l.filterMap pays).count (r, h, ix) else 0
  | [] => by
    show 0 = _
    rw [List.filterMap_nil, List.count_nil, Nat.mul_zero, ite_self]
  | op :: l => by
    have ih := due_recv d c r h ix l
    unfold due
    cases hp : pays op with
    | none => rw [List.filterMap_cons_none hp]; exact ih
    | some x =>
      obtain ⟨s, k, jx⟩ := x
      rw [List.filterMap_cons_some hp]
      show due d l (recvCell c r h) ix + tallyAt (recvCell (nxt s d) s k) jx N (recvCell c r h) ix = _
      rw [ih, tallyAt_apply, List.count_cons]
      by_cases hx : (s, k, jx) = (r, h, ix)
      · injection hx with h1 hx
        injection hx with h2 h3
        subst h1 h2 h3
        by_cases hd : d = prv s c
        · rw [if_pos hd, if_pos hd, if_pos ⟨by rw [(nxt_eq s d c).mpr hd], rfl⟩, if_pos (by simp), Nat.mul_add, Nat.mul_one]
        · rw [if_neg hd, if_neg hd, if_neg fun hh => hd ((nxt_eq s d c).mp (recv_inj hh.1).1.symm)]
      · have hn : ¬(recvCell c r h = recvCell (nxt s d) s k ∧ ix = jx) := fun hh => hx (by
          obtain ⟨-, h1, h2⟩ := recv_inj hh.1
          rw [h1, h2, hh.2])
        have hx' : ¬((s, k, jx) == (r, h, ix)) = true := fun hh => hx (beq_iff_eq.mp hh)
        rw [if_neg hn, if_neg hx']
        rfl

/-- Every landing cell is paid once on each round trip. -/
theorem paid_once : ∀ (r : Fin 8) (h : Fin 15) (ix : Fin 2), (ops.filterMap pays).count (r, h, ix) = 1 := by decide +kernel

/-- A barrier is no landing cell. -/
theorem bar_recv {c d : Dev nD} {r : Fin 8} {h : Fin 15} (e : barCell c = recvCell d r h) : False := by
  have e1 : kind (.reg barS) = kind (.dma (recvSem r h)) := congrArg (fun g : GSem nD τ sig => kind g.2) e
  rw [kind_recv] at e1
  exact nomatch e1

/-- The listed steps owe the barrier nothing. -/
theorem due_bar (d c : Dev nD) (ix : Fin 2) : ∀ l : List Op, due d l (barCell c) ix = 0
  | [] => rfl
  | op :: l => by
    have ih := due_bar d c ix l
    unfold due
    cases hp : pays op with
    | none => exact ih
    | some x =>
      show due d l (barCell c) ix + tallyAt (recvCell (nxt x.1 d) x.1 x.2.1) x.2.2 N (barCell c) ix = 0
      rw [ih, tallyAt_apply, if_neg fun hh => bar_recv hh.1]

/-- Different devices have different barrier cells. -/
theorem bar_inj {c d : Dev nD} (e : barCell c = barCell d) : c = d := congrArg (fun g : GSem nD τ sig => g.1.1) e

/-- Of a landing cell's units, the device before owes a chunk's and nobody else any. -/
theorem owed_recv (d c : Dev nD) (r : Fin 8) (h : Fin 15) (ix : Fin 2) : O₀ d (recvCell c r h) ix = if d = prv r c then N else 0 := by
  unfold O₀
  rw [Pi.add_apply, Finsupp.add_apply, Pi.add_apply, Finsupp.add_apply, due_recv, paid_once, Nat.mul_one, tallyAt_apply, tallyAt_apply,
    if_neg (fun hh : recvCell c r h = barCell (right d) ∧ _ => bar_recv hh.1.symm),
    if_neg (fun hh : recvCell c r h = barCell (left d) ∧ _ => bar_recv hh.1.symm)]
  rfl

/-- Of a barrier's units, each neighbour owes one. -/
theorem owed_bar (d c : Dev nD) (ix : Fin 2) :
    O₀ d (barCell c) ix = (if d = left c then (if ix = 0 then 1 else 0) else 0) + (if d = right c then (if ix = 0 then 1 else 0) else 0) := by
  unfold O₀
  rw [Pi.add_apply, Finsupp.add_apply, Pi.add_apply, Finsupp.add_apply, due_bar, tallyAt_apply, tallyAt_apply, Nat.zero_add]
  congr 1
  · by_cases hd : d = left c
    · rw [if_pos hd, hd, right_left]
      exact if_congr ⟨fun h => h.2, fun h => ⟨rfl, h⟩⟩ rfl rfl
    · rw [if_neg hd, if_neg fun hh => hd (by rw [bar_inj hh.1, left_right])]
  · by_cases hd : d = right c
    · rw [if_pos hd, hd, left_right]
      exact if_congr ⟨fun h => h.2, fun h => ⟨rfl, h⟩⟩ rfl rfl
    · rw [if_neg hd, if_neg fun hh => hd (by rw [bar_inj hh.1, right_left])]

/-- All devices together owe a barrier two units. -/
theorem launch_bar (c : Dev nD) :
    tallyOn (barCell c) (launchCredit (Pipeline.owing O₀) 0 (barCell c)) = (tallyAt (barCell c) 0 2 : CellTallies nD τ sig (Fin 2)) := by
  unfold tallyAt
  refine congrArg _ (Finsupp.ext fun u => ?_)
  rw [Pipeline.launchCredit_owing, Finset.sum_congr rfl fun d _ => owed_bar d c u, Finset.sum_add_distrib,
    Finset.sum_ite_eq' Finset.univ (left c) fun _ => (if u = 0 then 1 else 0), Finset.sum_ite_eq' Finset.univ (right c) fun _ => (if u = 0 then 1 else 0),
    if_pos (Finset.mem_univ _), if_pos (Finset.mem_univ _), Finsupp.single_apply]
  by_cases hu : u = 0
  · rw [if_pos hu, if_pos hu.symm]
  · rw [if_neg hu, if_neg (Ne.symm hu)]
    rfl

/-- All devices together owe a landing cell one chunk on each round trip. -/
theorem launch_recv (c : Dev nD) (r : Fin 8) (h : Fin 15) :
    tallyOn (recvCell c r h) (launchCredit (Pipeline.owing O₀) 0 (recvCell c r h))
      = (tallyAt (recvCell c r h) 0 N + tallyAt (recvCell c r h) 1 N : CellTallies nD τ sig (Fin 2)) := by
  unfold tallyAt
  rw [← tallyOn_add]
  refine congrArg _ (Finsupp.ext fun u => ?_)
  rw [Pipeline.launchCredit_owing, Finset.sum_congr rfl fun d _ => owed_recv d c r h u,
    Finset.sum_ite_eq' Finset.univ (prv r c) fun _ => N, if_pos (Finset.mem_univ _), Finsupp.add_apply, Finsupp.single_apply, Finsupp.single_apply]
  fin_cases u <;> simp

/-- The launch's credit is what a device waits with. -/
theorem creds (X : Dev nD → Big F) (c : Dev nD) : (Pipeline.launchCred O₀ c : sProp 𝕄)
    ⊢ iprop(cred (tallyAt (barCell c) 0 2) ∗ bigSepL (slots.map (fun x => Atom.cR x.1 x.2 0) ++ slots.map (fun x => Atom.cR x.1 x.2 1)) (hold X c)) := by
  have hsub : (Finset.univ.image osem : Finset (SemLoc sig)) ⊆ Finset.univ.erase (SemLoc.reg barS) := fun s hs => by
    obtain ⟨i, -, rfl⟩ := Finset.mem_image.mp hs
    exact Finset.mem_erase.mpr ⟨(fun h => nomatch h), Finset.mem_univ _⟩
  have hinj : Set.InjOn osem (Finset.univ : Finset (Fin 136)) := fun i _ j _ e => by
    injection e with e
    have := congrArg Fin.val e
    exact Fin.ext (by have h : 3 + i.val = 3 + j.val := this; omega)
  have hone : ∀ x : Fin 8 × Fin 15, (cred (tallyAt (recvCell c x.1 x.2) 0 N + tallyAt (recvCell c x.1 x.2) 1 N : CellTallies nD τ sig (Fin 2)) : sProp 𝕄)
      ⊢ iprop(hold X c (.cR x.1 x.2 0) ∗ hold X c (.cR x.1 x.2 1)) := fun x => (cred_add _ _).1
  unfold Pipeline.launchCred
  rw [bigSep_univ_at _ (SemLoc.reg barS), launch_bar]
  refine sep_mono_right ?_
  refine (bigSep_subset hsub).trans ?_
  rw [bigSep_image_of_injOn hinj]
  refine (Entails.of_eq (own_list c (fun g => cred (tallyOn g (launchCredit (Pipeline.owing O₀) 0 g))))).trans ?_
  simp only [launch_recv]
  rw [bigSepL_append, bigSepL_map, bigSepL_map, ← bigSepL_zip]
  have hl := bigSepL_mono (l := slots) fun x _ => hone x
  iintro ⟨H, -⟩
  iapply hl
  iexact H

/-! ## The rights to pay -/

/-- A right to pay: at the barrier of a neighbour, at an own leaving cell of either round trip, or at a neighbour's landing cell on either. -/
abbrev Right : Type := Fin 2 ⊕ ((Fin 8 × Fin 16) ⊕ (Fin 8 × Fin 16)) ⊕ ((Fin 8 × Fin 15) ⊕ (Fin 8 × Fin 15))

/-- The cell, round and payer of device `c`'s right. -/
def tok : Dev nD × Right → GSem nD τ sig × ℕ × Fin 2
  | (c, .inl b) => if b = 0 then (barCell (left c), 0, 0) else (barCell (right c), 0, 1)
  | (c, .inr (.inl (.inl x))) => (sendCell c x.1 0, x.2.val, 0)
  | (c, .inr (.inl (.inr x))) => (sendCell c x.1 1, x.2.val, 0)
  | (c, .inr (.inr (.inl x))) => (recvCell (nxt x.1 c) x.1 x.2, 0, 0)
  | (c, .inr (.inr (.inr x))) => (recvCell (nxt x.1 c) x.1 x.2, 1, 0)

/-- The device and right, read off the cell, round and payer. -/
def untok (x : GSem nD τ sig × ℕ × Fin 2) : Dev nD × Right :=
  match kind x.1.2 with
  | .bar => if x.2.2 = 0 then (right x.1.1.1, .inl 0) else (left x.1.1.1, .inl 1)
  | .send r p => if p = 0 then (x.1.1.1, .inr (.inl (.inl (r, Fin.ofNat 16 x.2.1)))) else (x.1.1.1, .inr (.inl (.inr (r, Fin.ofNat 16 x.2.1))))
  | .recv r h => if x.2.1 = 0 then (prv r x.1.1.1, .inr (.inr (.inl (r, h)))) else (prv r x.1.1.1, .inr (.inr (.inr (r, h))))
  | .none => (0, .inl 0)

/-- A right is read back from its cell, round and payer. -/
theorem untok_tok : Function.LeftInverse untok tok := by
  rintro ⟨c, b | (⟨r, n⟩ | ⟨r, n⟩) | (⟨r, h⟩ | ⟨r, h⟩)⟩
  · fin_cases b
    · show (right (left c), _) = _; rw [right_left]; rfl
    · show (left (right c), _) = _; rw [left_right]; rfl
  all_goals
    unfold tok untok
    dsimp only
    first | rw [kind_send] | rw [kind_recv]
    simp [prv_nxt]

/-- All the rights to pay. -/
def toks : Finset (GSem nD τ sig × ℕ × Fin 2) := Finset.univ.map ⟨tok, untok_tok.injective⟩

/-- The second round trip uses fourteen of its sixteen rounds on each ring. -/
def used : List (Fin 8 × Fin 16) := rings.flatMap fun r => (rounds 1).map fun n => (r, n)
/-- The rounds of the leaving cells that the second round trip leaves unused. -/
def spare : List (Fin 8 × Fin 16) := rings.flatMap fun r => [(r, 14), (r, 15)]
/-- The list of chunks has all of them, none twice. -/
theorem chunks_listed : (Finset.univ : Finset (Fin 8 × Fin 16)) = chunks.toFinset ∧ chunks.Nodup := by decide +kernel
/-- The used and the unused rounds are all rounds, none twice. -/
theorem used_listed : (Finset.univ : Finset (Fin 8 × Fin 16)) = (used ++ spare).toFinset ∧ (used ++ spare).Nodup := by decide +kernel
/-- The list of landing slots has all of them, none twice. -/
theorem slots_listed : (Finset.univ : Finset (Fin 8 × Fin 15)) = slots.toFinset ∧ slots.Nodup := by decide +kernel

/-- The list of rights to pay, by kind. -/
theorem rights_parts : rights = chunks.map (fun x => Atom.tS x.1 0 x.2) ++ used.map (fun x => Atom.tS x.1 1 x.2)
    ++ slots.map (fun x => Atom.tR x.1 x.2 0) ++ slots.map (fun x => Atom.tR x.1 x.2 1) := by decide +kernel

/-- The right as a resource. -/
abbrev pay (x : GSem nD τ sig × ℕ × Fin 2) : sProp 𝕄 := dutyTok ER x.1 x.2.1 x.2.2

/-- All rights, by the device that pays. -/
theorem toks_dealt (X : Dev nD → Big F) : bigSep toks (fun x => (dutyTok ER x.1 x.2.1 x.2.2 : sProp 𝕄))
    ⊢ bigSep Finset.univ fun c : Dev nD => iprop((dutyTok ER (barCell (left c)) 0 0 ∗ dutyTok ER (barCell (right c)) 0 1) ∗ bigSepL rights (hold X c)) := by
  unfold toks
  rw [bigSep_map, bigSep_univ_prod]
  refine bigSep_mono fun c _ => ?_
  show bigSep Finset.univ (fun x : Right => pay (F := F) (tok (c, x))) ⊢ _
  rw [bigSep_univ_sum, bigSep_univ_sum, bigSep_univ_sum, bigSep_univ_sum, BI.bigSep_fin_two, bigSep_univ_eq_bigSepL _ chunks_listed.1 chunks_listed.2,
    bigSep_univ_eq_bigSepL _ used_listed.1 used_listed.2, bigSep_univ_eq_bigSepL _ slots_listed.1 slots_listed.2, bigSep_univ_eq_bigSepL _ slots_listed.1 slots_listed.2,
    rights_parts, bigSepL_append, bigSepL_append, bigSepL_append, bigSepL_append, bigSepL_map, bigSepL_map, bigSepL_map, bigSepL_map]
  show iprop((_ ∗ _) ∗ (_ ∗ _ ∗ _) ∗ _ ∗ _) ⊢ _
  iintro ⟨Hb, ⟨H1, H2, -⟩, H3, H4⟩
  isplitl [Hb]; · iexact Hb
  isplitr [H4]
  · isplitr [H3]
    · isplitl [H1]; · iexact H1
      iexact H2
    · iexact H3
  · iexact H4

end Cert.KernelIdeal.Ring
-- ==== Proof.KernelIdeal.Launch.lean ====
/-
  The whole program on the sixteen devices: the protocol's state made at launch and dealt out, the run from any memory, and
  what it leaves: the result written on every device, the input as it was, every semaphore at zero.
-/
module

public import proofs.«01_k».proof.Proof.KernelIdeal.Credit

@[expose] public section

noncomputable section

namespace Cert.KernelIdeal.Ring

open Idealize.ShloMosaic Idealize.ShloMosaic.TcCoe Cert.KernelIdeal.Gen Cert.Ring
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (Fin 2) (Elt F) ℕ UU ℕ

variable (m : (ℓ : Loc nD τ sig) → Buf (Elt F) ℓ) (ρ : Dev nD → PrngReg)

/-! ## The cells -/

/-- Every barrier cell is some device's, and each device has its own. -/
theorem over_bars (Ψ : GSem nD τ sig → sProp 𝕄) : bigSep barCells Ψ = bigSep Finset.univ fun c : Dev nD => Ψ (barCell c) := by
  unfold barCells
  exact bigSep_image_of_injOn (fun c _ d _ e => bar_inj e) Ψ
/-- Likewise the transfer cells, over the devices and their numbers. -/
theorem over_owns (Ψ : GSem nD τ sig → sProp 𝕄) :
    bigSep ownCells Ψ = bigSep Finset.univ fun c : Dev nD => bigSep Finset.univ fun i => Ψ (ownCell c i) := by
  unfold ownCells
  rw [bigSep_image_of_injOn (fun x _ y _ e => ?_) Ψ, bigSep_univ_prod]
  have e1 : x.1 = y.1 := congrArg (fun g : GSem nD τ sig => g.1.1) e
  have e2 : SemLoc.dma (ownSem x.2) = SemLoc.dma (ownSem y.2) := congrArg (fun g : GSem nD τ sig => g.2) e
  injection e2 with e3
  have e4 : 3 + x.2.val = 3 + y.2.val := congrArg Fin.val e3
  exact Prod.ext e1 (Fin.ext (by omega))

/-- No barrier cell is a transfer cell. -/
theorem cells_apart : Disjoint barCells ownCells := by
  unfold barCells ownCells
  rw [Finset.disjoint_left]
  rintro g h₁ h₂
  obtain ⟨c, -, rfl⟩ := Finset.mem_image.mp h₁
  obtain ⟨x, -, h⟩ := Finset.mem_image.mp h₂
  have e : SemLoc.dma (ownSem x.2) = SemLoc.reg barS := congrArg (fun g : GSem nD τ sig => g.2) h
  exact nomatch e

/-! ## What is made at launch -/

/-- Something of two parts on every device is each part on every device, and the other way round. -/
theorem apart {A B : Dev nD → sProp 𝕄} : bigSep Finset.univ (fun c => iprop(A c ∗ B c)) ⊢ iprop(bigSep Finset.univ A ∗ bigSep Finset.univ B) :=
  Entails.of_eq (bigSep_sep' Finset.univ A B)
/-- Two families over the devices are one family of pairs. -/
theorem together {A B : Dev nD → sProp 𝕄} : iprop(bigSep Finset.univ A ∗ bigSep Finset.univ B) ⊢ bigSep Finset.univ (fun c => iprop(A c ∗ B c)) :=
  Entails.of_eq (bigSep_sep' Finset.univ A B).symm

/-- The launch's element: the pipeline's own and the protocol's. -/
def u₀ : UU :=
  (initOf (Pipeline.cells (Pipeline.pin (pcfgs (F := F)) adm) cellOf_inj) (Pipeline.launchToks (Pipeline.pin (pcfgs (F := F)) adm) cellOf_inj),
    launchOf barCells ownCells toks)

/-- A resource held by one device alone. -/
def onDev (c₀ : Dev nD) (X : sProp 𝕄) (c : Dev nD) : sProp 𝕄 := if c = c₀ then X else iprop(emp)
/-- What one device alone carries is carried by the family over all devices. -/
theorem over_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev
  rw [if_pos rfl]
  exact BI.equiv_iff.mp sep_emp

/-- The protocol's element waits on the first device until it is dealt. -/
def G : Dev nD → sProp 𝕄 := onDev 0 (BI.own (ER (launchOf barCells ownCells toks)))

/-- What every device may consult: the invariants, and that the barriers are at their first round. -/
def records (K : GSem nD τ sig → ℕ) : sProp 𝕄 :=
  iprop((bigSep (barCells ∪ ownCells) fun g => cellInv ER (sched (inp m)) (K g) g) ∗ bigSep barCells fun g => reached ER g 0)

/-- The records may be consulted again and again. -/
instance records_persistent (K : GSem nD τ sig → ℕ) : BI.Persistent (records m K) := by unfold records; infer_instance

/-- Every barrier is at its first round. -/
theorem reached_at (c : Dev nD) : (bigSep barCells fun g => (reached ER g 0 : sProp 𝕄)) ⊢ reached ER (barCell c) 0 :=
  bigSep_elim (by unfold barCells; exact Finset.mem_image_of_mem _ (Finset.mem_univ c))

/-- What goes to one device of the protocol's state. -/
def linear (c : Dev nD) : sProp 𝕄 :=
  iprop(atPos ER (barCell c) 0 ∅ 0 ∗ bigSep Finset.univ (fun i => openTok ER (ownCell c i))
    ∗ ((dutyTok ER (barCell (left c)) 0 0 ∗ dutyTok ER (barCell (right c)) 0 1) ∗ bigSepL rights (hold (inp m) c)))

/-- What goes to it of the rest. -/
def bundle (c : Dev nD) : sProp 𝕄 :=
  iprop(StableHlo.held (c : Thread nD τ) (Pipeline.ucRefs τ sig) (V0 m c)
    ∗ (cred (tallyAt (barCell c) 0 2) ∗ bigSepL (slots.map (fun x => Atom.cR x.1 x.2 0) ++ slots.map (fun x => Atom.cR x.1 x.2 1)) (hold (inp m) c))
    ∗ owes (c : Thread nD τ) (O₀ c) ∅ ∗ ∃ r, prngReg c r)

/-- Both together start the program. -/
abbrev T₀ (c : Dev nD) : sProp 𝕄 := iprop(StableHlo.held (c : Thread nD τ) (Pipeline.ucRefs τ sig) (V0 m c) ∗ before m c)
/-- What the program ends with. -/
abbrev Tₙ (c : Dev nD) : sProp 𝕄 := iprop(StableHlo.held (c : Thread nD τ) (Pipeline.ucRefs τ sig) (Vend m c) ∗ semVal (barCell c) 0)

/-- The records and one device's share are what the program starts from on that device. -/
theorem start_intro (K : GSem nD τ sig → ℕ) (c : Dev nD) : iprop(records m K ∗ (linear m c ∗ bundle m c)) ⊢ T₀ m c := by
  unfold records linear bundle T₀ before Tk barShare
  iintro ⟨⟨#HI, #HR⟩, ⟨Hat, Hop, ⟨Hd0, Hd1⟩, Hri⟩, Hh, ⟨Hc, Hcs⟩, HO, Hp⟩
  isplitl [Hh]; · iexact Hh
  isplitr [HO Hp]
  · iexists K
    isplitr; · iexact HI
    isplitl [Hat Hd0 Hd1 Hc]
    · isplitl [Hd0]; · iexact Hd0
      isplitl [Hd1]; · iexact Hd1
      isplitr; · iapply (reached_at (F := F) (left c)); iexact HR
      isplitr; · iapply (reached_at (F := F) (right c)); iexact HR
      isplitl [Hat] <;> iassumption
    isplitl [Hop]; · iexact Hop
    isplitl [Hri] <;> iassumption
  · isplitl [Hp]; · iexact Hp
    iexists ∅
    iexact HO

/-- The one semaphore outside every scope is the barrier. -/
theorem free_sems (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

/-- One device's launch holdings, sorted. -/
theorem sorted (c : Dev nD) : iprop(unscopedBufs c (fun b => m ((c.tc : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show (unscopedBufs c (fun b => m ((c.tc : Thread nD τ).loc b)) : sProp 𝕄) = StableHlo.held (c : Thread nD τ) (Pipeline.ucRefs τ sig) (V0 m c) from
    Pipeline.unscopedBufs_held (Ix := Fin 2) (Name := ℕ) (U := UU) (Lvl := ℕ) c (V0 m c), free_sems]
  unfold bundle
  iintro ⟨Hh, Hb, HO, Hcr, Hp, HG⟩
  ihave Hc := (creds (F := F) (inp m) c) $$ Hcr
  isplitr [Hb HG]
  · isplitl [Hh]; · iexact Hh
    isplitl [Hc]; · iexact Hc
    isplitl [HO]; · iexact HO
    iexists (ρ c)
    iexact Hp
  · isplitl [Hb] <;> iassumption

/-- The protocol's state made, over any sets of cells and rights, and given out. -/
theorem deal (S D : Finset (GSem nD τ sig)) (T : Finset (GSem nD τ sig × ℕ × Fin 2)) (hd : Disjoint S D) (X : Dev nD → Big F)
    (Z A B C : Dev nD → sProp 𝕄) (hz : bigSep Finset.univ Z ⊢ bigSep S fun g => (semVal g 0 : sProp 𝕄))
    (ha : (bigSep S fun g => (atPos ER g 0 ∅ 0 : sProp 𝕄)) ⊢ bigSep Finset.univ A) (hb : (bigSep D fun g => (openTok ER g : sProp 𝕄)) ⊢ bigSep Finset.univ B)
    (hc : (bigSep T fun x => (dutyTok ER x.1 x.2.1 x.2.2 : sProp 𝕄)) ⊢ bigSep Finset.univ C) :
    iprop(bigSep Finset.univ Z ∗ BI.own (ER (launchOf S D T))) ⊢ (|={Set.univ}=> iprop(∃ K : GSem nD τ sig → ℕ,
      ((bigSep (S ∪ D) fun g => cellInv ER (sched X) (K g) g) ∗ bigSep S fun g => reached ER g 0)
        ∗ bigSep Finset.univ fun c => iprop(A c ∗ B c ∗ C c)) : sProp 𝕄) := by
  iintro ⟨Hz, Hu⟩
  imod (Rounds.fund_launch ER (sched X) hd (fun g _ h => h) T) $$ [Hz Hu] with ⟨%K, -, Hinv, Hr, Hat, Hopen, Htok⟩
  · isplitl [Hz]
    · iapply hz $$ Hz
    · iexact Hu
  imodintro
  iexists K
  isplitl [Hinv Hr]; · isplitl [Hinv] <;> iassumption
  iapply together; isplitl [Hat]; · iapply ha $$ Hat
  iapply together; isplitl [Hopen]; · iapply hb $$ Hopen
  iapply hc $$ Htok

/-- The kernel's cells and rights, made and given out. -/
theorem dealt : iprop(bigSep Finset.univ (fun c : Dev nD => (semVal (barCell c) 0 : sProp 𝕄)) ∗ bigSep Finset.univ (G (F := F)))
    ⊢ (|={Set.univ}=> iprop(∃ K : GSem nD τ sig → ℕ, records m K ∗ bigSep Finset.univ (linear m)) : sProp 𝕄) := by
  unfold G
  rw [over_onDev]
  exact deal barCells ownCells toks cells_apart (inp m) _ (fun c => atPos ER (barCell c) 0 ∅ 0) (fun c => bigSep Finset.univ fun i => openTok ER (ownCell c i)) _
    (Entails.of_eq (over_bars (F := F) (fun g => semVal g 0)).symm) (Entails.of_eq (over_bars (F := F) (fun g => atPos ER g 0 ∅ 0)))
    (Entails.of_eq (over_owns (F := F) (fun g => openTok ER g))) (toks_dealt (F := F) (inp m))

/-- Every device's launch holdings, sorted. -/
theorem all_sorted : (bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c))
      ⊢ (iprop(bigSep Finset.univ (bundle m) ∗ bigSep Finset.univ (fun c : Dev nD => (semVal (barCell c) 0 : sProp 𝕄)) ∗ bigSep Finset.univ (G (F := F))) : sProp 𝕄) := by
  rw [← bigSep_sep', ← bigSep_sep']
  exact bigSep_mono fun c _ => sorted m ρ c

/-- From the machine's launch holdings, every device's start. -/
theorem init :
    iprop((bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hk (K : GSem nD τ sig → ℕ) := bigSep_with_persistent (R := records m K) (Φ := fun c => iprop(linear m c ∗ bundle m c)) (S := Finset.univ) (Ψ := T₀ m)
    fun c _ => start_intro m K c
  refine BIBase.Entails.trans (sep_mono (all_sorted m ρ) .rfl) ?_
  iintro ⟨⟨HB, HZ, HG⟩, -⟩
  imod (dealt m) $$ [HZ HG] with ⟨%K, HR, HL⟩
  · isplitl [HZ] <;> iassumption
  imodintro
  iapply (hk K)
  isplitl [HR]; · iexact HR
  iapply together
  isplitl [HL] <;> iassumption

/-! ## The run -/

/-- A semaphore outside every scope is the barrier. -/
theorem free_sem : ∀ sm : SemLoc sig, sm.isScoped .tc = false → sm = .reg barS := by decide

/-- What rides beside the buffers from one part of the program to the next. -/
abbrev ride : Fin 2 → Dev nD → sProp 𝕄 := ![before m, behind]

set_option backward.isDefEq.respectTransparency.types false in
/-- From any memory the program runs to its end on all devices and leaves the result on each, the input as it was and the semaphores at zero. -/
theorem run_main : θ_run defs (onTc (τ := τ) (main (F := F))) ⟨m, fun _ => 0, ρ⟩ (fun r =>
    (∀ c : Dev nD, r.2.mem ((c.tc : Thread nD τ).loc main_v29) = (res (inp m) : Big F)
      ∧ r.2.mem ((c.tc : Thread nD τ).loc main_arg0) = m ((c.tc : Thread nD τ).loc main_arg0)) ∧ r.2.sem = fun _ => 0) := by
  refine Pipeline.θ_run_regions_kit_dev_sems (pcfgs (F := F)) adm (pdats m) 0 cellOf_inj EP defs₀ 𝒱₀ L lv m ρ main
    (segs m 𝒱₀ L lv (ride m) 0 (pdats m) (reg0 m))
    (fun c Q => by
      rewrite [main_chain c, Pipeline.Seg.run_eq_chain,
        show (segs m 𝒱₀ L lv (ride m) 0 (pdats m) (reg0 m) c).map Pipeline.Seg.prog = [StableHlo.seq (hostOps0 c), StableHlo.seq hostOps0_1,
          StableHlo.seq hostOps0_2, StableHlo.seq hostOps0_3, StableHlo.seq hostOps0_4, Prog.lift (.customCall (Pipeline.entry 0) ())] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀ G
      iintro Hu
      ihave H := (ownU_pair _ _) $$ Hu
      icases H with ⟨HP, HX⟩
      imodintro
      isplitl [HP]; · iexact HP
      rw [over_onDev]
      iexact HX)
    (T₀ := T₀ m) (Tₙ := Tₙ m)
    (hch := fun c => ⟨.rfl, .rfl, .rfl, .rfl, .rfl, reg0_pre m c, (reg0_post m c).trans ?_⟩)
    (hinit := init m ρ)
    (QY := fun c s => (s.mem ((c.tc : Thread nD τ).loc main_v29) = (res (inp m) : Big F)
      ∧ s.mem ((c.tc : Thread nD τ).loc main_arg0) = m ((c.tc : Thread nD τ).loc main_arg0)) ∧ s.sem (barCell c) = 0)
    (hfin := fun c s' => ?_)
    (hQ := fun s h hs => ⟨fun c => (h c).1, sem_eq_zero hs fun c sm hsm => by
      obtain rfl := free_sem sm hsm
      exact (h c).2⟩)
  · unfold behind
    iintro ⟨Hh, Hb, HO⟩
    isplitr [HO]
    · isplitl [Hh] <;> iassumption
    · iexact HO
  · unfold Tₙ StableHlo.held
    iintro ⟨⟨Hh, Hb⟩, HSI⟩
    ihave Hr := (pointsTo_read_all (Pipeline.ucRefs τ sig) (fun b => ((c : Thread nD τ).1, b)) (Vend m c) s') $$ [Hh HSI]
    · isplitl [Hh] <;> iassumption
    icases Hr with ⟨%h, HSI⟩
    icombine HSI Hb gives %hb
    imodintro
    isplitr
    · ipureintro
      refine ⟨⟨?_, ?_⟩, by simpa using hb⟩
      · exact (h (Proc.devRef .tc main_v29) (Finset.mem_filter.mpr ⟨StableHlo.devRef_mem_tcRefs main_v29, by decide⟩)).trans
          (Function.update_self (Proc.devRef .tc main_v29) (res (inp m)) (V5 m c))
      · exact (h (Proc.devRef .tc main_arg0) (Finset.mem_filter.mpr ⟨StableHlo.devRef_mem_tcRefs main_arg0, by decide⟩)).trans
          ((end_arr m c main_arg0 (by decide)).trans (V5_arg m c))
    iexact HSI

end Cert.KernelIdeal.Ring
-- ==== Proof.Value.lean ====
/-
  The values, with floats the extended reals: what the kernel leaves on every device is what the reference computes from the
  sixteen devices' arrays stacked into one. A partial sum that has come through all sixteen devices is the sum over the
  devices, in the order of the ring; the order does not matter to the sum.
-/
module

public import proofs.«01_k».proof.Proof.KernelIdeal.Values
public import proofs.«01_k».proof.Proof.Gen.ReferenceIdeal.Run
public import Idealize.ShloMosaic.Lib.Layout
public import Idealize.ShloMosaic.Lib.IdealHost
public import Idealize.ShloMosaic.Lib.Pointwise.Reduce
public import Idealize.ShloMosaic.Lib.Pipeline.Value
public import Idealize.ShloMosaic.PureOps.Ideal.Laws

@[expose] public section

noncomputable section

namespace Cert.Value

open Idealize.ShloMosaic Cert.KernelIdeal Cert.KernelIdeal.Gen Cert.KernelIdeal.Ring Cert.Ring Idealize.SL.Sem

/-! ## The kernel's sums -/

variable (X : Dev nD → Big Ideal)

/-- A chunk's place does not change on its way: the sum of turn `n` collects the same chunk from the devices behind. -/
theorem part_sum (r : Fin 8) (j : S16x1024.Idx) : ∀ (n : ℕ) (c : Dev nD),
    part X n c r j = ∑ k ∈ Finset.range (n + 1), (X ((prv r)^[k] c) ((chR r (loc r (pos c) (Fin.ofNat 16 n))).emb j) : EReal)
  | 0, c => by rw [Finset.sum_range_one]; rfl
  | n + 1, c => by
    rw [Finset.sum_range_succ']
    show (X c ((chR r (loc r (pos c) (Fin.ofNat 16 (n + 1)))).emb j) : EReal) + part X n (prv r c) r j = _
    have e : loc r (pos c) (Fin.ofNat 16 (n + 1)) = loc r (pos (prv r c)) (Fin.ofNat 16 n) := by
      have h := loc_nxt r (prv r c) (Fin.ofNat 16 n)
      rw [nxt_prv] at h
      rw [← h]
      refine congrArg (loc r (pos c)) (Fin.ext ?_)
      show (n + 1) % 16 = (n % 16 + 1) % 16
      omega
    rw [part_sum r j n (prv r c), e, add_comm]
    rfl

/-- Walking round the ring visits every device once. -/
theorem visits : ∀ (r : Fin 8) (c : Dev nD), Function.Injective fun k : Fin 16 => (prv r)^[k.val] c := by decide +kernel

/-- A full sum is the sum over the devices. -/
theorem part_full (c : Dev nD) (r : Fin 8) (j : S16x1024.Idx) :
    part X 15 c r j = ∑ d : Dev nD, (X d ((chR r (loc r (pos c) 15)).emb j) : EReal) := by
  rw [part_sum, Finset.sum_range]
  exact (Finite.injective_iff_bijective.mp (visits r c)).sum_comp fun d => (X d ((chR r (loc r (pos c) 15)).emb j) : EReal)

/-- Every entry of the array lies in its ring's chunk, at its place there. -/
theorem chunk_at (i : S2048x1024.Idx) : (chR (ringOf i) (chunkOf i)).emb (inChunk i) = i := by
  have h : (i 0).val < 2048 := (i 0).isLt
  funext a
  match a with
  | 0 =>
    refine Fin.ext ((emb_val0 _ _ _).trans ?_)
    show 256 * ((i 0).val / 256) + 16 * ((i 0).val / 16 % 16) + (i 0).val % 16 = (i 0).val
    omega
  | 1 => exact Fin.ext (emb_val1 _ _ _)

/-- The activation of one number. -/
def act (s : EReal) : EReal := Ideal.tanh s * s * s + max s 0 * max s 0 * max s 0

/-- What the kernel leaves, element by element. -/
theorem res_apply (i : S2048x1024.Idx) : res X i = act (∑ d : Dev nD, (X d i : EReal)) := by
  have h : part X 15 (owner (ringOf i) (chunkOf i)) (ringOf i) (inChunk i) = ∑ d : Dev nD, (X d i : EReal) := by
    rw [part_full, loc_owner, chunk_at]
  have z : (Scalar.ofBits (F := Ideal) .f32 0x00000000#32 : EReal) = 0 := Ideal.ofBits_zero_f32
  rw [← h]
  unfold act
  rw [← z]
  rfl

/-! ## The reference's -/

/-- Device `d`'s rows of the stacked array. -/
abbrev part16 (a : (⟨2, ![32768, 1024]⟩ : Shape).Idx → EReal) (d : Fin 16) : (⟨2, ![2048, 1024]⟩ : Shape).Idx → EReal :=
  Layout.block ⟨2, ![2048, 1024]⟩ ⟨2, ![32768, 1024]⟩ 0 16 d a

/-- The stacked array with a device axis, read at a device, is that device's rows. -/
theorem stack_apply (a : (⟨2, ![32768, 1024]⟩ : Shape).Idx → EReal) (h : (⟨2, ![32768, 1024]⟩ : Shape).ShapeCasts ⟨3, ![16, 2048, 1024]⟩) (d : Fin 16) (p : Fin 2048) (q : Fin 1024)
    (i : (⟨2, ![2048, 1024]⟩ : Shape).Idx) (h0 : (i 0).val = p.val) (h1 : (i 1).val = q.val) :
    shapeCast ⟨3, ![16, 2048, 1024]⟩ a h (ix3 d p q) = part16 a d i := by
  unfold part16
  rw [Layout.block_apply]
  refine shapeCast_apply a h _ _ ?_
  rw [Shape.rowMajor_val_two, Shape.rowMajor_val_three]
  rw [(Layout.idx_rows_val _ d i).1, (Layout.idx_rows_val _ d i).2, h0, h1]
  simp only [ix3_0, ix3_1, ix3_2]
  show (d.val * 2048 + p.val) * 1024 + q.val = _
  first | rfl | omega

/-- Its sum over the device axis. -/
theorem sum_apply (a : (⟨2, ![32768, 1024]⟩ : Shape).Idx → EReal) (h : (⟨2, ![32768, 1024]⟩ : Shape).ShapeCasts ⟨3, ![16, 2048, 1024]⟩)
    (hr : (⟨3, ![16, 2048, 1024]⟩ : Shape).ReducesTo [0] ⟨2, ![2048, 1024]⟩) (hu : 0 < (⟨0, ![]⟩ : Shape).numel) (i : (⟨2, ![2048, 1024]⟩ : Shape).Idx) :
    Host.reduceAdd (F := Ideal) (φ := .f32) (shapeCast ⟨3, ![16, 2048, 1024]⟩ a h) (constant ⟨0, ![]⟩ .f32 0x00000000#32) hr hu i = ∑ d : Fin 16, part16 a d i := by
  show Ideal.hostReduceAdd hr (shapeCast ⟨3, ![16, 2048, 1024]⟩ a h) (Ideal.ofBits .f32 0x00000000#32) i = _
  rw [Ideal.hostReduceAdd_r3_a0, Ideal.ofBits_zero_f32, zero_add]
  exact Finset.sum_congr rfl fun d _ => stack_apply a h d _ _ i rfl rfl

/-- The reference's elementwise part is the activation. -/
theorem act_apply (s : FVec Ideal ⟨2, ![2048, 1024]⟩ .f32) (hb : (⟨0, ![]⟩ : Shape).BroadcastsInDim ⟨2, ![2048, 1024]⟩ (![] : Fin 0 → Fin 2)) (i : (⟨2, ![2048, 1024]⟩ : Shape).Idx) :
    addf (mulf (mulf (Host.tanh s) s) s)
      (mulf (mulf (maximumf s (broadcastInDim ⟨2, ![2048, 1024]⟩ ![] hb (constant (F := Ideal) ⟨0, ![]⟩ .f32 0x00000000#32)))
        (maximumf s (broadcastInDim ⟨2, ![2048, 1024]⟩ ![] hb (constant (F := Ideal) ⟨0, ![]⟩ .f32 0x00000000#32))))
        (maximumf s (broadcastInDim ⟨2, ![2048, 1024]⟩ ![] hb (constant (F := Ideal) ⟨0, ![]⟩ .f32 0x00000000#32)))) i = act (s i) := by
  have z : Ideal.ofBits .f32 0x00000000#32 = (0 : EReal) := Ideal.ofBits_zero_f32
  unfold act
  rw [← z]
  rfl

/-- What the reference leaves: the activation of the sum over the devices. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      r.2.mem (((0 : Dev Cert.ReferenceIdeal.nD).tc : Thread Cert.ReferenceIdeal.nD Cert.ReferenceIdeal.τ).loc Cert.ReferenceIdeal.main_v9)
          = (fun i => act (∑ d : Fin 16, part16 (m (((0 : Dev Cert.ReferenceIdeal.nD).tc : Thread Cert.ReferenceIdeal.nD Cert.ReferenceIdeal.τ).loc Cert.ReferenceIdeal.main_arg0)) d i))
        ∧ r.2.mem (((0 : Dev Cert.ReferenceIdeal.nD).tc : Thread Cert.ReferenceIdeal.nD Cert.ReferenceIdeal.τ).loc Cert.ReferenceIdeal.main_arg0)
          = m (((0 : Dev Cert.ReferenceIdeal.nD).tc : Thread Cert.ReferenceIdeal.nD Cert.ReferenceIdeal.τ).loc Cert.ReferenceIdeal.main_arg0) :=
  (θ_run Cert.ReferenceIdeal.defs _ _).mono (fun r h => ⟨(h 0).1.trans (funext fun i => (act_apply _ _ i).trans (congrArg act (sum_apply _ _ _ _ i))), (h 0).2⟩)
    (Cert.ReferenceIdeal.Value.run (F := Ideal) m ρ)

/-- From the same arrays, the kernel's array and the reference's are one. -/
theorem same (a : (⟨2, ![32768, 1024]⟩ : Shape).Idx → EReal) (hX : ∀ c, X c = part16 a c) : res X = fun i => act (∑ d : Fin 16, part16 a d i) :=
  funext fun i => (res_apply X i).trans (congrArg act (Finset.sum_congr rfl fun d _ => congrFun (hX d) i))

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs to its end, its argument unchanged, every semaphore at zero. -/
theorem frame_kernel : Cert.quiescent_Kernel := fun m ρ _ =>
  (θ_run Cert.Kernel.defs _ _).mono (fun _ h => ⟨fun c => (h.1 c).2, h.2⟩) (Cert.Kernel.Ring.run_main (F := Bits) m ρ)

/-- The same of the kernel read over the extended reals. -/
theorem frame_ideal : Cert.quiescent_KernelIdeal := fun m ρ _ =>
  (θ_run Cert.KernelIdeal.defs _ _).mono (fun _ h => ⟨fun c => (h.1 c).2, h.2⟩) (Cert.KernelIdeal.Ring.run_main (F := Ideal) m ρ)

/-- The reference runs to its end, its argument unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On every device the kernel leaves what the reference leaves. -/
theorem value : Cert.algebraic_KernelIdeal_ReferenceIdeal := fun m ρ m' ρ' _ hin =>
  ⟨_, (θ_run Cert.KernelIdeal.defs _ _).mono (fun _ h c => ⟨(h.1 c).1.trans (Cert.Value.same _ _ hin), (h.1 c).2⟩)
      (Cert.KernelIdeal.Ring.run_main (F := Ideal) m ρ),
    Cert.Value.run_reference m' ρ'⟩

/-- All five claims together. -/
theorem claim : Cert.Claim := ⟨Cert.Kernel.Gen.facts, Cert.KernelIdeal.Gen.facts, Cert.ReferenceIdeal.Gen.facts,
  frame_kernel, frame_ideal, frame_reference, trivial, value⟩

end Cert.Proof

end
